-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MlOut (m : (ℓ : Loc Cert.MlOut.nD Cert.MlOut.τ Cert.MlOut.sig) → Buf (Elt Bits) ℓ) : Prop :=
  True

def Pre_MlOutIdeal (m : (ℓ : Loc Cert.MlOutIdeal.nD Cert.MlOutIdeal.τ Cert.MlOutIdeal.sig) → Buf (Elt Ideal) ℓ) : Prop :=
  True

def Pre_MlOutRefIdeal (m : (ℓ : Loc Cert.MlOutRefIdeal.nD Cert.MlOutRefIdeal.τ Cert.MlOutRefIdeal.sig) → Buf (Elt Ideal) ℓ) : Prop :=
  True

def Pre_MlProj (m : (ℓ : Loc Cert.MlProj.nD Cert.MlProj.τ Cert.MlProj.sig) → Buf (Elt Bits) ℓ) : Prop :=
  True

def Pre_MlProjIdeal (m : (ℓ : Loc Cert.MlProjIdeal.nD Cert.MlProjIdeal.τ Cert.MlProjIdeal.sig) → Buf (Elt Ideal) ℓ) : Prop :=
  True

def Pre_MlProjIdeal_finite_proj [hPre_finite_proj : Cert.Pre_finite_proj.Facts] (m : (ℓ : Loc Cert.MlProjIdeal.nD Cert.MlProjIdeal.τ Cert.MlProjIdeal.sig) → Buf (Elt Ideal) ℓ) : Prop :=
  ∀ c : Dev Cert.MlProjIdeal.nD,
    (Cert.Pre_finite_proj.fn (F := Ideal) (m ((c.tc : Thread Cert.MlProjIdeal.nD Cert.MlProjIdeal.τ).loc Cert.MlProjIdeal.main_arg0)) (m ((c.tc : Thread Cert.MlProjIdeal.nD Cert.MlProjIdeal.τ).loc Cert.MlProjIdeal.main_arg1)) (m ((c.tc : Thread Cert.MlProjIdeal.nD Cert.MlProjIdeal.τ).loc Cert.MlProjIdeal.main_arg2)) (m ((c.tc : Thread Cert.MlProjIdeal.nD Cert.MlProjIdeal.τ).loc Cert.MlProjIdeal.main_arg3)) (m ((c.tc : Thread Cert.MlProjIdeal.nD Cert.MlProjIdeal.τ).loc Cert.MlProjIdeal.main_arg4)) (m ((c.tc : Thread Cert.MlProjIdeal.nD Cert.MlProjIdeal.τ).loc Cert.MlProjIdeal.main_arg5))) = (fun _ => 1#1)

def Pre_MlProjRefIdeal (m : (ℓ : Loc Cert.MlProjRefIdeal.nD Cert.MlProjRefIdeal.τ Cert.MlProjRefIdeal.sig) → Buf (Elt Ideal) ℓ) : Prop :=
  True

def Pre_MlProjRefIdeal_finite_proj [hPre_finite_proj : Cert.Pre_finite_proj.Facts] (m : (ℓ : Loc Cert.MlProjRefIdeal.nD Cert.MlProjRefIdeal.τ Cert.MlProjRefIdeal.sig) → Buf (Elt Ideal) ℓ) : Prop :=
  ∀ c : Dev Cert.MlProjRefIdeal.nD,
    (Cert.Pre_finite_proj.fn (F := Ideal) (m ((c.tc : Thread Cert.MlProjRefIdeal.nD Cert.MlProjRefIdeal.τ).loc Cert.MlProjRefIdeal.main_arg0)) (m ((c.tc : Thread Cert.MlProjRefIdeal.nD Cert.MlProjRefIdeal.τ).loc Cert.MlProjRefIdeal.main_arg1)) (m ((c.tc : Thread Cert.MlProjRefIdeal.nD Cert.MlProjRefIdeal.τ).loc Cert.MlProjRefIdeal.main_arg2)) (m ((c.tc : Thread Cert.MlProjRefIdeal.nD Cert.MlProjRefIdeal.τ).loc Cert.MlProjRefIdeal.main_arg3)) (m ((c.tc : Thread Cert.MlProjRefIdeal.nD Cert.MlProjRefIdeal.τ).loc Cert.MlProjRefIdeal.main_arg4)) (m ((c.tc : Thread Cert.MlProjRefIdeal.nD Cert.MlProjRefIdeal.τ).loc Cert.MlProjRefIdeal.main_arg5))) = (fun _ => 1#1)

def Pre_PFfn (m : (ℓ : Loc Cert.PFfn.nD Cert.PFfn.τ Cert.PFfn.sig) → Buf (Elt Bits) ℓ) : Prop :=
  True

def Pre_PFfnIdeal (m : (ℓ : Loc Cert.PFfnIdeal.nD Cert.PFfnIdeal.τ Cert.PFfnIdeal.sig) → Buf (Elt Ideal) ℓ) : Prop :=
  True

def Pre_PFfnRefIdeal (m : (ℓ : Loc Cert.PFfnRefIdeal.nD Cert.PFfnRefIdeal.τ Cert.PFfnRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_mod [hPre_finite_mod : Cert.Pre_finite_mod.Facts] (m : (ℓ : Loc Cert.ModIdeal.nD Cert.ModIdeal.τ Cert.ModIdeal.sig) → Buf (Elt Ideal) ℓ) : Prop :=
  ∀ c : Dev Cert.ModIdeal.nD,
    (Cert.Pre_finite_mod.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_mod [hPre_finite_mod : Cert.Pre_finite_mod.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_mod.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_MlOut [hMlOut : Cert.MlOut.Facts] : Prop :=
  ∀ (m : (ℓ : Loc Cert.MlOut.nD Cert.MlOut.τ Cert.MlOut.sig) → Buf (Elt Bits) ℓ) (g : Dev Cert.MlOut.nD → PrngReg), Pre_MlOut m →
    θ_run (Cert.MlOut.defs (F := Bits)) (onTc (τ := Cert.MlOut.τ) (Cert.MlOut.main (F := Bits))) ⟨m, fun _ => 0, g⟩ (fun r => (∀ c : Dev Cert.MlOut.nD,
      r.2.mem ((c.tc : Thread Cert.MlOut.nD Cert.MlOut.τ).loc Cert.MlOut.main_arg0) = m ((c.tc : Thread Cert.MlOut.nD Cert.MlOut.τ).loc Cert.MlOut.main_arg0)
      ∧ r.2.mem ((c.tc : Thread Cert.MlOut.nD Cert.MlOut.τ).loc Cert.MlOut.main_arg1) = m ((c.tc : Thread Cert.MlOut.nD Cert.MlOut.τ).loc Cert.MlOut.main_arg1)
      ∧ r.2.mem ((c.tc : Thread Cert.MlOut.nD Cert.MlOut.τ).loc Cert.MlOut.main_arg2) = m ((c.tc : Thread Cert.MlOut.nD Cert.MlOut.τ).loc Cert.MlOut.main_arg2)
      ∧ r.2.mem ((c.tc : Thread Cert.MlOut.nD Cert.MlOut.τ).loc Cert.MlOut.main_arg3) = m ((c.tc : Thread Cert.MlOut.nD Cert.MlOut.τ).loc Cert.MlOut.main_arg3)
      ∧ r.2.mem ((c.tc : Thread Cert.MlOut.nD Cert.MlOut.τ).loc Cert.MlOut.main_arg4) = m ((c.tc : Thread Cert.MlOut.nD Cert.MlOut.τ).loc Cert.MlOut.main_arg4)
      ∧ r.2.mem ((c.tc : Thread Cert.MlOut.nD Cert.MlOut.τ).loc Cert.MlOut.main_arg5) = m ((c.tc : Thread Cert.MlOut.nD Cert.MlOut.τ).loc Cert.MlOut.main_arg5)
      ∧ r.2.mem ((c.tc : Thread Cert.MlOut.nD Cert.MlOut.τ).loc Cert.MlOut.main_arg6) = m ((c.tc : Thread Cert.MlOut.nD Cert.MlOut.τ).loc Cert.MlOut.main_arg6)
      ∧ r.2.mem ((c.tc : Thread Cert.MlOut.nD Cert.MlOut.τ).loc Cert.MlOut.main_arg7) = m ((c.tc : Thread Cert.MlOut.nD Cert.MlOut.τ).loc Cert.MlOut.main_arg7)
      ∧ r.2.mem ((c.tc : Thread Cert.MlOut.nD Cert.MlOut.τ).loc Cert.MlOut.main_arg8) = m ((c.tc : Thread Cert.MlOut.nD Cert.MlOut.τ).loc Cert.MlOut.main_arg8))
      ∧ r.2.sem = fun _ => 0)

def quiescent_MlOutIdeal [hMlOutIdeal : Cert.MlOutIdeal.Facts] : Prop :=
  ∀ (m : (ℓ : Loc Cert.MlOutIdeal.nD Cert.MlOutIdeal.τ Cert.MlOutIdeal.sig) → Buf (Elt Ideal) ℓ) (g : Dev Cert.MlOutIdeal.nD → PrngReg), Pre_MlOutIdeal m →
    θ_run (Cert.MlOutIdeal.defs (F := Ideal)) (onTc (τ := Cert.MlOutIdeal.τ) (Cert.MlOutIdeal.main (F := Ideal))) ⟨m, fun _ => 0, g⟩ (fun r => (∀ c : Dev Cert.MlOutIdeal.nD,
      r.2.mem ((c.tc : Thread Cert.MlOutIdeal.nD Cert.MlOutIdeal.τ).loc Cert.MlOutIdeal.main_arg0) = m ((c.tc : Thread Cert.MlOutIdeal.nD Cert.MlOutIdeal.τ).loc Cert.MlOutIdeal.main_arg0)
      ∧ r.2.mem ((c.tc : Thread Cert.MlOutIdeal.nD Cert.MlOutIdeal.τ).loc Cert.MlOutIdeal.main_arg1) = m ((c.tc : Thread Cert.MlOutIdeal.nD Cert.MlOutIdeal.τ).loc Cert.MlOutIdeal.main_arg1)
      ∧ r.2.mem ((c.tc : Thread Cert.MlOutIdeal.nD Cert.MlOutIdeal.τ).loc Cert.MlOutIdeal.main_arg2) = m ((c.tc : Thread Cert.MlOutIdeal.nD Cert.MlOutIdeal.τ).loc Cert.MlOutIdeal.main_arg2)
      ∧ r.2.mem ((c.tc : Thread Cert.MlOutIdeal.nD Cert.MlOutIdeal.τ).loc Cert.MlOutIdeal.main_arg3) = m ((c.tc : Thread Cert.MlOutIdeal.nD Cert.MlOutIdeal.τ).loc Cert.MlOutIdeal.main_arg3)
      ∧ r.2.mem ((c.tc : Thread Cert.MlOutIdeal.nD Cert.MlOutIdeal.τ).loc Cert.MlOutIdeal.main_arg4) = m ((c.tc : Thread Cert.MlOutIdeal.nD Cert.MlOutIdeal.τ).loc Cert.MlOutIdeal.main_arg4)
      ∧ r.2.mem ((c.tc : Thread Cert.MlOutIdeal.nD Cert.MlOutIdeal.τ).loc Cert.MlOutIdeal.main_arg5) = m ((c.tc : Thread Cert.MlOutIdeal.nD Cert.MlOutIdeal.τ).loc Cert.MlOutIdeal.main_arg5)
      ∧ r.2.mem ((c.tc : Thread Cert.MlOutIdeal.nD Cert.MlOutIdeal.τ).loc Cert.MlOutIdeal.main_arg6) = m ((c.tc : Thread Cert.MlOutIdeal.nD Cert.MlOutIdeal.τ).loc Cert.MlOutIdeal.main_arg6)
      ∧ r.2.mem ((c.tc : Thread Cert.MlOutIdeal.nD Cert.MlOutIdeal.τ).loc Cert.MlOutIdeal.main_arg7) = m ((c.tc : Thread Cert.MlOutIdeal.nD Cert.MlOutIdeal.τ).loc Cert.MlOutIdeal.main_arg7)
      ∧ r.2.mem ((c.tc : Thread Cert.MlOutIdeal.nD Cert.MlOutIdeal.τ).loc Cert.MlOutIdeal.main_arg8) = m ((c.tc : Thread Cert.MlOutIdeal.nD Cert.MlOutIdeal.τ).loc Cert.MlOutIdeal.main_arg8))
      ∧ r.2.sem = fun _ => 0)

def quiescent_MlOutRefIdeal [hMlOutRefIdeal : Cert.MlOutRefIdeal.Facts] : Prop :=
  ∀ (m : (ℓ : Loc Cert.MlOutRefIdeal.nD Cert.MlOutRefIdeal.τ Cert.MlOutRefIdeal.sig) → Buf (Elt Ideal) ℓ) (g : Dev Cert.MlOutRefIdeal.nD → PrngReg), Pre_MlOutRefIdeal m →
    θ_run (Cert.MlOutRefIdeal.defs (F := Ideal)) (onTc (τ := Cert.MlOutRefIdeal.τ) (Cert.MlOutRefIdeal.main (F := Ideal))) ⟨m, fun _ => 0, g⟩ (fun r => (∀ c : Dev Cert.MlOutRefIdeal.nD,
      r.2.mem ((c.tc : Thread Cert.MlOutRefIdeal.nD Cert.MlOutRefIdeal.τ).loc Cert.MlOutRefIdeal.main_arg0) = m ((c.tc : Thread Cert.MlOutRefIdeal.nD Cert.MlOutRefIdeal.τ).loc Cert.MlOutRefIdeal.main_arg0)
      ∧ r.2.mem ((c.tc : Thread Cert.MlOutRefIdeal.nD Cert.MlOutRefIdeal.τ).loc Cert.MlOutRefIdeal.main_arg1) = m ((c.tc : Thread Cert.MlOutRefIdeal.nD Cert.MlOutRefIdeal.τ).loc Cert.MlOutRefIdeal.main_arg1)
      ∧ r.2.mem ((c.tc : Thread Cert.MlOutRefIdeal.nD Cert.MlOutRefIdeal.τ).loc Cert.MlOutRefIdeal.main_arg2) = m ((c.tc : Thread Cert.MlOutRefIdeal.nD Cert.MlOutRefIdeal.τ).loc Cert.MlOutRefIdeal.main_arg2)
      ∧ r.2.mem ((c.tc : Thread Cert.MlOutRefIdeal.nD Cert.MlOutRefIdeal.τ).loc Cert.MlOutRefIdeal.main_arg3) = m ((c.tc : Thread Cert.MlOutRefIdeal.nD Cert.MlOutRefIdeal.τ).loc Cert.MlOutRefIdeal.main_arg3)
      ∧ r.2.mem ((c.tc : Thread Cert.MlOutRefIdeal.nD Cert.MlOutRefIdeal.τ).loc Cert.MlOutRefIdeal.main_arg4) = m ((c.tc : Thread Cert.MlOutRefIdeal.nD Cert.MlOutRefIdeal.τ).loc Cert.MlOutRefIdeal.main_arg4)
      ∧ r.2.mem ((c.tc : Thread Cert.MlOutRefIdeal.nD Cert.MlOutRefIdeal.τ).loc Cert.MlOutRefIdeal.main_arg5) = m ((c.tc : Thread Cert.MlOutRefIdeal.nD Cert.MlOutRefIdeal.τ).loc Cert.MlOutRefIdeal.main_arg5)
      ∧ r.2.mem ((c.tc : Thread Cert.MlOutRefIdeal.nD Cert.MlOutRefIdeal.τ).loc Cert.MlOutRefIdeal.main_arg6) = m ((c.tc : Thread Cert.MlOutRefIdeal.nD Cert.MlOutRefIdeal.τ).loc Cert.MlOutRefIdeal.main_arg6)
      ∧ r.2.mem ((c.tc : Thread Cert.MlOutRefIdeal.nD Cert.MlOutRefIdeal.τ).loc Cert.MlOutRefIdeal.main_arg7) = m ((c.tc : Thread Cert.MlOutRefIdeal.nD Cert.MlOutRefIdeal.τ).loc Cert.MlOutRefIdeal.main_arg7)
      ∧ r.2.mem ((c.tc : Thread Cert.MlOutRefIdeal.nD Cert.MlOutRefIdeal.τ).loc Cert.MlOutRefIdeal.main_arg8) = m ((c.tc : Thread Cert.MlOutRefIdeal.nD Cert.MlOutRefIdeal.τ).loc Cert.MlOutRefIdeal.main_arg8))
      ∧ r.2.sem = fun _ => 0)

def quiescent_MlProj [hMlProj : Cert.MlProj.Facts] : Prop :=
  ∀ (m : (ℓ : Loc Cert.MlProj.nD Cert.MlProj.τ Cert.MlProj.sig) → Buf (Elt Bits) ℓ) (g : Dev Cert.MlProj.nD → PrngReg), Pre_MlProj m →
    θ_run (Cert.MlProj.defs (F := Bits)) (onTc (τ := Cert.MlProj.τ) (Cert.MlProj.main (F := Bits))) ⟨m, fun _ => 0, g⟩ (fun r => (∀ c : Dev Cert.MlProj.nD,
      r.2.mem ((c.tc : Thread Cert.MlProj.nD Cert.MlProj.τ).loc Cert.MlProj.main_arg0) = m ((c.tc : Thread Cert.MlProj.nD Cert.MlProj.τ).loc Cert.MlProj.main_arg0)
      ∧ r.2.mem ((c.tc : Thread Cert.MlProj.nD Cert.MlProj.τ).loc Cert.MlProj.main_arg1) = m ((c.tc : Thread Cert.MlProj.nD Cert.MlProj.τ).loc Cert.MlProj.main_arg1)
      ∧ r.2.mem ((c.tc : Thread Cert.MlProj.nD Cert.MlProj.τ).loc Cert.MlProj.main_arg2) = m ((c.tc : Thread Cert.MlProj.nD Cert.MlProj.τ).loc Cert.MlProj.main_arg2)
      ∧ r.2.mem ((c.tc : Thread Cert.MlProj.nD Cert.MlProj.τ).loc Cert.MlProj.main_arg3) = m ((c.tc : Thread Cert.MlProj.nD Cert.MlProj.τ).loc Cert.MlProj.main_arg3)
      ∧ r.2.mem ((c.tc : Thread Cert.MlProj.nD Cert.MlProj.τ).loc Cert.MlProj.main_arg4) = m ((c.tc : Thread Cert.MlProj.nD Cert.MlProj.τ).loc Cert.MlProj.main_arg4)
      ∧ r.2.mem ((c.tc : Thread Cert.MlProj.nD Cert.MlProj.τ).loc Cert.MlProj.main_arg5) = m ((c.tc : Thread Cert.MlProj.nD Cert.MlProj.τ).loc Cert.MlProj.main_arg5))
      ∧ r.2.sem = fun _ => 0)

def quiescent_MlProjIdeal [hMlProjIdeal : Cert.MlProjIdeal.Facts] : Prop :=
  ∀ (m : (ℓ : Loc Cert.MlProjIdeal.nD Cert.MlProjIdeal.τ Cert.MlProjIdeal.sig) → Buf (Elt Ideal) ℓ) (g : Dev Cert.MlProjIdeal.nD → PrngReg), Pre_MlProjIdeal m →
    θ_run (Cert.MlProjIdeal.defs (F := Ideal)) (onTc (τ := Cert.MlProjIdeal.τ) (Cert.MlProjIdeal.main (F := Ideal))) ⟨m, fun _ => 0, g⟩ (fun r => (∀ c : Dev Cert.MlProjIdeal.nD,
      r.2.mem ((c.tc : Thread Cert.MlProjIdeal.nD Cert.MlProjIdeal.τ).loc Cert.MlProjIdeal.main_arg0) = m ((c.tc : Thread Cert.MlProjIdeal.nD Cert.MlProjIdeal.τ).loc Cert.MlProjIdeal.main_arg0)
      ∧ r.2.mem ((c.tc : Thread Cert.MlProjIdeal.nD Cert.MlProjIdeal.τ).loc Cert.MlProjIdeal.main_arg1) = m ((c.tc : Thread Cert.MlProjIdeal.nD Cert.MlProjIdeal.τ).loc Cert.MlProjIdeal.main_arg1)
      ∧ r.2.mem ((c.tc : Thread Cert.MlProjIdeal.nD Cert.MlProjIdeal.τ).loc Cert.MlProjIdeal.main_arg2) = m ((c.tc : Thread Cert.MlProjIdeal.nD Cert.MlProjIdeal.τ).loc Cert.MlProjIdeal.main_arg2)
      ∧ r.2.mem ((c.tc : Thread Cert.MlProjIdeal.nD Cert.MlProjIdeal.τ).loc Cert.MlProjIdeal.main_arg3) = m ((c.tc : Thread Cert.MlProjIdeal.nD Cert.MlProjIdeal.τ).loc Cert.MlProjIdeal.main_arg3)
      ∧ r.2.mem ((c.tc : Thread Cert.MlProjIdeal.nD Cert.MlProjIdeal.τ).loc Cert.MlProjIdeal.main_arg4) = m ((c.tc : Thread Cert.MlProjIdeal.nD Cert.MlProjIdeal.τ).loc Cert.MlProjIdeal.main_arg4)
      ∧ r.2.mem ((c.tc : Thread Cert.MlProjIdeal.nD Cert.MlProjIdeal.τ).loc Cert.MlProjIdeal.main_arg5) = m ((c.tc : Thread Cert.MlProjIdeal.nD Cert.MlProjIdeal.τ).loc Cert.MlProjIdeal.main_arg5))
      ∧ r.2.sem = fun _ => 0)

def quiescent_MlProjIdeal_pre_finite_proj [hMlProjIdeal : Cert.MlProjIdeal.Facts] [hPre_finite_proj : Cert.Pre_finite_proj.Facts] : Prop :=
  ∀ (m : (ℓ : Loc Cert.MlProjIdeal.nD Cert.MlProjIdeal.τ Cert.MlProjIdeal.sig) → Buf (Elt Ideal) ℓ) (g : Dev Cert.MlProjIdeal.nD → PrngReg), Pre_MlProjIdeal_finite_proj m →
    θ_run (Cert.MlProjIdeal.defs (F := Ideal)) (onTc (τ := Cert.MlProjIdeal.τ) (Cert.MlProjIdeal.main (F := Ideal))) ⟨m, fun _ => 0, g⟩ (fun r => (∀ c : Dev Cert.MlProjIdeal.nD,
      r.2.mem ((c.tc : Thread Cert.MlProjIdeal.nD Cert.MlProjIdeal.τ).loc Cert.MlProjIdeal.main_arg0) = m ((c.tc : Thread Cert.MlProjIdeal.nD Cert.MlProjIdeal.τ).loc Cert.MlProjIdeal.main_arg0)
      ∧ r.2.mem ((c.tc : Thread Cert.MlProjIdeal.nD Cert.MlProjIdeal.τ).loc Cert.MlProjIdeal.main_arg1) = m ((c.tc : Thread Cert.MlProjIdeal.nD Cert.MlProjIdeal.τ).loc Cert.MlProjIdeal.main_arg1)
      ∧ r.2.mem ((c.tc : Thread Cert.MlProjIdeal.nD Cert.MlProjIdeal.τ).loc Cert.MlProjIdeal.main_arg2) = m ((c.tc : Thread Cert.MlProjIdeal.nD Cert.MlProjIdeal.τ).loc Cert.MlProjIdeal.main_arg2)
      ∧ r.2.mem ((c.tc : Thread Cert.MlProjIdeal.nD Cert.MlProjIdeal.τ).loc Cert.MlProjIdeal.main_arg3) = m ((c.tc : Thread Cert.MlProjIdeal.nD Cert.MlProjIdeal.τ).loc Cert.MlProjIdeal.main_arg3)
      ∧ r.2.mem ((c.tc : Thread Cert.MlProjIdeal.nD Cert.MlProjIdeal.τ).loc Cert.MlProjIdeal.main_arg4) = m ((c.tc : Thread Cert.MlProjIdeal.nD Cert.MlProjIdeal.τ).loc Cert.MlProjIdeal.main_arg4)
      ∧ r.2.mem ((c.tc : Thread Cert.MlProjIdeal.nD Cert.MlProjIdeal.τ).loc Cert.MlProjIdeal.main_arg5) = m ((c.tc : Thread Cert.MlProjIdeal.nD Cert.MlProjIdeal.τ).loc Cert.MlProjIdeal.main_arg5))
      ∧ r.2.sem = fun _ => 0)

def quiescent_MlProjRefIdeal [hMlProjRefIdeal : Cert.MlProjRefIdeal.Facts] : Prop :=
  ∀ (m : (ℓ : Loc Cert.MlProjRefIdeal.nD Cert.MlProjRefIdeal.τ Cert.MlProjRefIdeal.sig) → Buf (Elt Ideal) ℓ) (g : Dev Cert.MlProjRefIdeal.nD → PrngReg), Pre_MlProjRefIdeal m →
    θ_run (Cert.MlProjRefIdeal.defs (F := Ideal)) (onTc (τ := Cert.MlProjRefIdeal.τ) (Cert.MlProjRefIdeal.main (F := Ideal))) ⟨m, fun _ => 0, g⟩ (fun r => (∀ c : Dev Cert.MlProjRefIdeal.nD,
      r.2.mem ((c.tc : Thread Cert.MlProjRefIdeal.nD Cert.MlProjRefIdeal.τ).loc Cert.MlProjRefIdeal.main_arg0) = m ((c.tc : Thread Cert.MlProjRefIdeal.nD Cert.MlProjRefIdeal.τ).loc Cert.MlProjRefIdeal.main_arg0)
      ∧ r.2.mem ((c.tc : Thread Cert.MlProjRefIdeal.nD Cert.MlProjRefIdeal.τ).loc Cert.MlProjRefIdeal.main_arg1) = m ((c.tc : Thread Cert.MlProjRefIdeal.nD Cert.MlProjRefIdeal.τ).loc Cert.MlProjRefIdeal.main_arg1)
      ∧ r.2.mem ((c.tc : Thread Cert.MlProjRefIdeal.nD Cert.MlProjRefIdeal.τ).loc Cert.MlProjRefIdeal.main_arg2) = m ((c.tc : Thread Cert.MlProjRefIdeal.nD Cert.MlProjRefIdeal.τ).loc Cert.MlProjRefIdeal.main_arg2)
      ∧ r.2.mem ((c.tc : Thread Cert.MlProjRefIdeal.nD Cert.MlProjRefIdeal.τ).loc Cert.MlProjRefIdeal.main_arg3) = m ((c.tc : Thread Cert.MlProjRefIdeal.nD Cert.MlProjRefIdeal.τ).loc Cert.MlProjRefIdeal.main_arg3)
      ∧ r.2.mem ((c.tc : Thread Cert.MlProjRefIdeal.nD Cert.MlProjRefIdeal.τ).loc Cert.MlProjRefIdeal.main_arg4) = m ((c.tc : Thread Cert.MlProjRefIdeal.nD Cert.MlProjRefIdeal.τ).loc Cert.MlProjRefIdeal.main_arg4)
      ∧ r.2.mem ((c.tc : Thread Cert.MlProjRefIdeal.nD Cert.MlProjRefIdeal.τ).loc Cert.MlProjRefIdeal.main_arg5) = m ((c.tc : Thread Cert.MlProjRefIdeal.nD Cert.MlProjRefIdeal.τ).loc Cert.MlProjRefIdeal.main_arg5))
      ∧ r.2.sem = fun _ => 0)

def quiescent_MlProjRefIdeal_pre_finite_proj [hMlProjRefIdeal : Cert.MlProjRefIdeal.Facts] [hPre_finite_proj : Cert.Pre_finite_proj.Facts] : Prop :=
  ∀ (m : (ℓ : Loc Cert.MlProjRefIdeal.nD Cert.MlProjRefIdeal.τ Cert.MlProjRefIdeal.sig) → Buf (Elt Ideal) ℓ) (g : Dev Cert.MlProjRefIdeal.nD → PrngReg), Pre_MlProjRefIdeal_finite_proj m →
    θ_run (Cert.MlProjRefIdeal.defs (F := Ideal)) (onTc (τ := Cert.MlProjRefIdeal.τ) (Cert.MlProjRefIdeal.main (F := Ideal))) ⟨m, fun _ => 0, g⟩ (fun r => (∀ c : Dev Cert.MlProjRefIdeal.nD,
      r.2.mem ((c.tc : Thread Cert.MlProjRefIdeal.nD Cert.MlProjRefIdeal.τ).loc Cert.MlProjRefIdeal.main_arg0) = m ((c.tc : Thread Cert.MlProjRefIdeal.nD Cert.MlProjRefIdeal.τ).loc Cert.MlProjRefIdeal.main_arg0)
      ∧ r.2.mem ((c.tc : Thread Cert.MlProjRefIdeal.nD Cert.MlProjRefIdeal.τ).loc Cert.MlProjRefIdeal.main_arg1) = m ((c.tc : Thread Cert.MlProjRefIdeal.nD Cert.MlProjRefIdeal.τ).loc Cert.MlProjRefIdeal.main_arg1)
      ∧ r.2.mem ((c.tc : Thread Cert.MlProjRefIdeal.nD Cert.MlProjRefIdeal.τ).loc Cert.MlProjRefIdeal.main_arg2) = m ((c.tc : Thread Cert.MlProjRefIdeal.nD Cert.MlProjRefIdeal.τ).loc Cert.MlProjRefIdeal.main_arg2)
      ∧ r.2.mem ((c.tc : Thread Cert.MlProjRefIdeal.nD Cert.MlProjRefIdeal.τ).loc Cert.MlProjRefIdeal.main_arg3) = m ((c.tc : Thread Cert.MlProjRefIdeal.nD Cert.MlProjRefIdeal.τ).loc Cert.MlProjRefIdeal.main_arg3)
      ∧ r.2.mem ((c.tc : Thread Cert.MlProjRefIdeal.nD Cert.MlProjRefIdeal.τ).loc Cert.MlProjRefIdeal.main_arg4) = m ((c.tc : Thread Cert.MlProjRefIdeal.nD Cert.MlProjRefIdeal.τ).loc Cert.MlProjRefIdeal.main_arg4)
      ∧ r.2.mem ((c.tc : Thread Cert.MlProjRefIdeal.nD Cert.MlProjRefIdeal.τ).loc Cert.MlProjRefIdeal.main_arg5) = m ((c.tc : Thread Cert.MlProjRefIdeal.nD Cert.MlProjRefIdeal.τ).loc Cert.MlProjRefIdeal.main_arg5))
      ∧ r.2.sem = fun _ => 0)

def quiescent_PFfn [hPFfn : Cert.PFfn.Facts] : Prop :=
  ∀ (m : (ℓ : Loc Cert.PFfn.nD Cert.PFfn.τ Cert.PFfn.sig) → Buf (Elt Bits) ℓ) (g : Dev Cert.PFfn.nD → PrngReg), Pre_PFfn m →
    θ_run (Cert.PFfn.defs (F := Bits)) (onTc (τ := Cert.PFfn.τ) (Cert.PFfn.main (F := Bits))) ⟨m, fun _ => 0, g⟩ (fun r => (∀ c : Dev Cert.PFfn.nD,
      r.2.mem ((c.tc : Thread Cert.PFfn.nD Cert.PFfn.τ).loc Cert.PFfn.main_arg0) = m ((c.tc : Thread Cert.PFfn.nD Cert.PFfn.τ).loc Cert.PFfn.main_arg0)
      ∧ r.2.mem ((c.tc : Thread Cert.PFfn.nD Cert.PFfn.τ).loc Cert.PFfn.main_arg1) = m ((c.tc : Thread Cert.PFfn.nD Cert.PFfn.τ).loc Cert.PFfn.main_arg1)
      ∧ r.2.mem ((c.tc : Thread Cert.PFfn.nD Cert.PFfn.τ).loc Cert.PFfn.main_arg2) = m ((c.tc : Thread Cert.PFfn.nD Cert.PFfn.τ).loc Cert.PFfn.main_arg2)
      ∧ r.2.mem ((c.tc : Thread Cert.PFfn.nD Cert.PFfn.τ).loc Cert.PFfn.main_arg3) = m ((c.tc : Thread Cert.PFfn.nD Cert.PFfn.τ).loc Cert.PFfn.main_arg3)
      ∧ r.2.mem ((c.tc : Thread Cert.PFfn.nD Cert.PFfn.τ).loc Cert.PFfn.main_arg4) = m ((c.tc : Thread Cert.PFfn.nD Cert.PFfn.τ).loc Cert.PFfn.main_arg4)
      ∧ r.2.mem ((c.tc : Thread Cert.PFfn.nD Cert.PFfn.τ).loc Cert.PFfn.main_arg5) = m ((c.tc : Thread Cert.PFfn.nD Cert.PFfn.τ).loc Cert.PFfn.main_arg5)
      ∧ r.2.mem ((c.tc : Thread Cert.PFfn.nD Cert.PFfn.τ).loc Cert.PFfn.main_arg6) = m ((c.tc : Thread Cert.PFfn.nD Cert.PFfn.τ).loc Cert.PFfn.main_arg6)
      ∧ r.2.mem ((c.tc : Thread Cert.PFfn.nD Cert.PFfn.τ).loc Cert.PFfn.main_arg7) = m ((c.tc : Thread Cert.PFfn.nD Cert.PFfn.τ).loc Cert.PFfn.main_arg7))
      ∧ r.2.sem = fun _ => 0)

def quiescent_PFfnIdeal [hPFfnIdeal : Cert.PFfnIdeal.Facts] : Prop :=
  ∀ (m : (ℓ : Loc Cert.PFfnIdeal.nD Cert.PFfnIdeal.τ Cert.PFfnIdeal.sig) → Buf (Elt Ideal) ℓ) (g : Dev Cert.PFfnIdeal.nD → PrngReg), Pre_PFfnIdeal m →
    θ_run (Cert.PFfnIdeal.defs (F := Ideal)) (onTc (τ := Cert.PFfnIdeal.τ) (Cert.PFfnIdeal.main (F := Ideal))) ⟨m, fun _ => 0, g⟩ (fun r => (∀ c : Dev Cert.PFfnIdeal.nD,
      r.2.mem ((c.tc : Thread Cert.PFfnIdeal.nD Cert.PFfnIdeal.τ).loc Cert.PFfnIdeal.main_arg0) = m ((c.tc : Thread Cert.PFfnIdeal.nD Cert.PFfnIdeal.τ).loc Cert.PFfnIdeal.main_arg0)
      ∧ r.2.mem ((c.tc : Thread Cert.PFfnIdeal.nD Cert.PFfnIdeal.τ).loc Cert.PFfnIdeal.main_arg1) = m ((c.tc : Thread Cert.PFfnIdeal.nD Cert.PFfnIdeal.τ).loc Cert.PFfnIdeal.main_arg1)
      ∧ r.2.mem ((c.tc : Thread Cert.PFfnIdeal.nD Cert.PFfnIdeal.τ).loc Cert.PFfnIdeal.main_arg2) = m ((c.tc : Thread Cert.PFfnIdeal.nD Cert.PFfnIdeal.τ).loc Cert.PFfnIdeal.main_arg2)
      ∧ r.2.mem ((c.tc : Thread Cert.PFfnIdeal.nD Cert.PFfnIdeal.τ).loc Cert.PFfnIdeal.main_arg3) = m ((c.tc : Thread Cert.PFfnIdeal.nD Cert.PFfnIdeal.τ).loc Cert.PFfnIdeal.main_arg3)
      ∧ r.2.mem ((c.tc : Thread Cert.PFfnIdeal.nD Cert.PFfnIdeal.τ).loc Cert.PFfnIdeal.main_arg4) = m ((c.tc : Thread Cert.PFfnIdeal.nD Cert.PFfnIdeal.τ).loc Cert.PFfnIdeal.main_arg4)
      ∧ r.2.mem ((c.tc : Thread Cert.PFfnIdeal.nD Cert.PFfnIdeal.τ).loc Cert.PFfnIdeal.main_arg5) = m ((c.tc : Thread Cert.PFfnIdeal.nD Cert.PFfnIdeal.τ).loc Cert.PFfnIdeal.main_arg5)
      ∧ r.2.mem ((c.tc : Thread Cert.PFfnIdeal.nD Cert.PFfnIdeal.τ).loc Cert.PFfnIdeal.main_arg6) = m ((c.tc : Thread Cert.PFfnIdeal.nD Cert.PFfnIdeal.τ).loc Cert.PFfnIdeal.main_arg6)
      ∧ r.2.mem ((c.tc : Thread Cert.PFfnIdeal.nD Cert.PFfnIdeal.τ).loc Cert.PFfnIdeal.main_arg7) = m ((c.tc : Thread Cert.PFfnIdeal.nD Cert.PFfnIdeal.τ).loc Cert.PFfnIdeal.main_arg7))
      ∧ r.2.sem = fun _ => 0)

def quiescent_PFfnRefIdeal [hPFfnRefIdeal : Cert.PFfnRefIdeal.Facts] : Prop :=
  ∀ (m : (ℓ : Loc Cert.PFfnRefIdeal.nD Cert.PFfnRefIdeal.τ Cert.PFfnRefIdeal.sig) → Buf (Elt Ideal) ℓ) (g : Dev Cert.PFfnRefIdeal.nD → PrngReg), Pre_PFfnRefIdeal m →
    θ_run (Cert.PFfnRefIdeal.defs (F := Ideal)) (onTc (τ := Cert.PFfnRefIdeal.τ) (Cert.PFfnRefIdeal.main (F := Ideal))) ⟨m, fun _ => 0, g⟩ (fun r => (∀ c : Dev Cert.PFfnRefIdeal.nD,
      r.2.mem ((c.tc : Thread Cert.PFfnRefIdeal.nD Cert.PFfnRefIdeal.τ).loc Cert.PFfnRefIdeal.main_arg0) = m ((c.tc : Thread Cert.PFfnRefIdeal.nD Cert.PFfnRefIdeal.τ).loc Cert.PFfnRefIdeal.main_arg0)
      ∧ r.2.mem ((c.tc : Thread Cert.PFfnRefIdeal.nD Cert.PFfnRefIdeal.τ).loc Cert.PFfnRefIdeal.main_arg1) = m ((c.tc : Thread Cert.PFfnRefIdeal.nD Cert.PFfnRefIdeal.τ).loc Cert.PFfnRefIdeal.main_arg1)
      ∧ r.2.mem ((c.tc : Thread Cert.PFfnRefIdeal.nD Cert.PFfnRefIdeal.τ).loc Cert.PFfnRefIdeal.main_arg2) = m ((c.tc : Thread Cert.PFfnRefIdeal.nD Cert.PFfnRefIdeal.τ).loc Cert.PFfnRefIdeal.main_arg2)
      ∧ r.2.mem ((c.tc : Thread Cert.PFfnRefIdeal.nD Cert.PFfnRefIdeal.τ).loc Cert.PFfnRefIdeal.main_arg3) = m ((c.tc : Thread Cert.PFfnRefIdeal.nD Cert.PFfnRefIdeal.τ).loc Cert.PFfnRefIdeal.main_arg3)
      ∧ r.2.mem ((c.tc : Thread Cert.PFfnRefIdeal.nD Cert.PFfnRefIdeal.τ).loc Cert.PFfnRefIdeal.main_arg4) = m ((c.tc : Thread Cert.PFfnRefIdeal.nD Cert.PFfnRefIdeal.τ).loc Cert.PFfnRefIdeal.main_arg4)
      ∧ r.2.mem ((c.tc : Thread Cert.PFfnRefIdeal.nD Cert.PFfnRefIdeal.τ).loc Cert.PFfnRefIdeal.main_arg5) = m ((c.tc : Thread Cert.PFfnRefIdeal.nD Cert.PFfnRefIdeal.τ).loc Cert.PFfnRefIdeal.main_arg5)
      ∧ r.2.mem ((c.tc : Thread Cert.PFfnRefIdeal.nD Cert.PFfnRefIdeal.τ).loc Cert.PFfnRefIdeal.main_arg6) = m ((c.tc : Thread Cert.PFfnRefIdeal.nD Cert.PFfnRefIdeal.τ).loc Cert.PFfnRefIdeal.main_arg6)
      ∧ r.2.mem ((c.tc : Thread Cert.PFfnRefIdeal.nD Cert.PFfnRefIdeal.τ).loc Cert.PFfnRefIdeal.main_arg7) = m ((c.tc : Thread Cert.PFfnRefIdeal.nD Cert.PFfnRefIdeal.τ).loc Cert.PFfnRefIdeal.main_arg7))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModIdeal_pre_finite_mod [hModIdeal : Cert.ModIdeal.Facts] [hPre_finite_mod : Cert.Pre_finite_mod.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_mod m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_ModRefIdeal_pre_finite_mod [hModRefIdeal : Cert.ModRefIdeal.Facts] [hPre_finite_mod : Cert.Pre_finite_mod.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_mod m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Kernel_KernelIdeal : Prop :=
  IdealRules.named_const.Statement Cert.KernelIdeal.κ "neg_inf" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v75) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v20) = v0 c
          ∧ r.2.mem ((c.tc : Thread Cert.QkvRefIdeal.nD Cert.QkvRefIdeal.τ).loc Cert.QkvRefIdeal.main_v21) = v1 c
          ∧ r.2.mem ((c.tc : Thread Cert.QkvRefIdeal.nD Cert.QkvRefIdeal.τ).loc Cert.QkvRefIdeal.main_v22) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v36) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_MlOut_MlOutIdeal : Prop :=
  True

def algebraic_MlOutIdeal_MlOutRefIdeal [hMlOutIdeal : Cert.MlOutIdeal.Facts] [hMlOutRefIdeal : Cert.MlOutRefIdeal.Facts] : Prop :=
  ∀ (m : (ℓ : Loc Cert.MlOutIdeal.nD Cert.MlOutIdeal.τ Cert.MlOutIdeal.sig) → Buf (Elt Ideal) ℓ) (g : Dev Cert.MlOutIdeal.nD → PrngReg)
    (m' : (ℓ : Loc Cert.MlOutRefIdeal.nD Cert.MlOutRefIdeal.τ Cert.MlOutRefIdeal.sig) → Buf (Elt Ideal) ℓ) (g' : Dev Cert.MlOutRefIdeal.nD → PrngReg), Pre_MlOutIdeal m →
    (∀ c : Dev Cert.MlOutIdeal.nD,
      m' ((c.tc : Thread Cert.MlOutRefIdeal.nD Cert.MlOutRefIdeal.τ).loc Cert.MlOutRefIdeal.main_arg0) = m ((c.tc : Thread Cert.MlOutIdeal.nD Cert.MlOutIdeal.τ).loc Cert.MlOutIdeal.main_arg0)
      ∧ m' ((c.tc : Thread Cert.MlOutRefIdeal.nD Cert.MlOutRefIdeal.τ).loc Cert.MlOutRefIdeal.main_arg1) = m ((c.tc : Thread Cert.MlOutIdeal.nD Cert.MlOutIdeal.τ).loc Cert.MlOutIdeal.main_arg1)
      ∧ m' ((c.tc : Thread Cert.MlOutRefIdeal.nD Cert.MlOutRefIdeal.τ).loc Cert.MlOutRefIdeal.main_arg2) = m ((c.tc : Thread Cert.MlOutIdeal.nD Cert.MlOutIdeal.τ).loc Cert.MlOutIdeal.main_arg2)
      ∧ m' ((c.tc : Thread Cert.MlOutRefIdeal.nD Cert.MlOutRefIdeal.τ).loc Cert.MlOutRefIdeal.main_arg3) = m ((c.tc : Thread Cert.MlOutIdeal.nD Cert.MlOutIdeal.τ).loc Cert.MlOutIdeal.main_arg3)
      ∧ m' ((c.tc : Thread Cert.MlOutRefIdeal.nD Cert.MlOutRefIdeal.τ).loc Cert.MlOutRefIdeal.main_arg4) = m ((c.tc : Thread Cert.MlOutIdeal.nD Cert.MlOutIdeal.τ).loc Cert.MlOutIdeal.main_arg4)
      ∧ m' ((c.tc : Thread Cert.MlOutRefIdeal.nD Cert.MlOutRefIdeal.τ).loc Cert.MlOutRefIdeal.main_arg5) = m ((c.tc : Thread Cert.MlOutIdeal.nD Cert.MlOutIdeal.τ).loc Cert.MlOutIdeal.main_arg5)
      ∧ m' ((c.tc : Thread Cert.MlOutRefIdeal.nD Cert.MlOutRefIdeal.τ).loc Cert.MlOutRefIdeal.main_arg6) = m ((c.tc : Thread Cert.MlOutIdeal.nD Cert.MlOutIdeal.τ).loc Cert.MlOutIdeal.main_arg6)
      ∧ m' ((c.tc : Thread Cert.MlOutRefIdeal.nD Cert.MlOutRefIdeal.τ).loc Cert.MlOutRefIdeal.main_arg7) = m ((c.tc : Thread Cert.MlOutIdeal.nD Cert.MlOutIdeal.τ).loc Cert.MlOutIdeal.main_arg7)
      ∧ m' ((c.tc : Thread Cert.MlOutRefIdeal.nD Cert.MlOutRefIdeal.τ).loc Cert.MlOutRefIdeal.main_arg8) = m ((c.tc : Thread Cert.MlOutIdeal.nD Cert.MlOutIdeal.τ).loc Cert.MlOutIdeal.main_arg8)) →
    ∃ (v0 : (c : Dev Cert.MlOutIdeal.nD) → Buf (Elt Ideal) ((c.tc : Thread Cert.MlOutIdeal.nD Cert.MlOutIdeal.τ).loc Cert.MlOutIdeal.main_v6)),
      θ_run (Cert.MlOutIdeal.defs (F := Ideal)) (onTc (τ := Cert.MlOutIdeal.τ) (Cert.MlOutIdeal.main (F := Ideal))) ⟨m, fun _ => 0, g⟩ (fun r => ∀ c : Dev Cert.MlOutIdeal.nD,
          r.2.mem ((c.tc : Thread Cert.MlOutIdeal.nD Cert.MlOutIdeal.τ).loc Cert.MlOutIdeal.main_v6) = v0 c
          ∧ r.2.mem ((c.tc : Thread Cert.MlOutIdeal.nD Cert.MlOutIdeal.τ).loc Cert.MlOutIdeal.main_arg0) = m ((c.tc : Thread Cert.MlOutIdeal.nD Cert.MlOutIdeal.τ).loc Cert.MlOutIdeal.main_arg0)
          ∧ r.2.mem ((c.tc : Thread Cert.MlOutIdeal.nD Cert.MlOutIdeal.τ).loc Cert.MlOutIdeal.main_arg1) = m ((c.tc : Thread Cert.MlOutIdeal.nD Cert.MlOutIdeal.τ).loc Cert.MlOutIdeal.main_arg1)
          ∧ r.2.mem ((c.tc : Thread Cert.MlOutIdeal.nD Cert.MlOutIdeal.τ).loc Cert.MlOutIdeal.main_arg2) = m ((c.tc : Thread Cert.MlOutIdeal.nD Cert.MlOutIdeal.τ).loc Cert.MlOutIdeal.main_arg2)
          ∧ r.2.mem ((c.tc : Thread Cert.MlOutIdeal.nD Cert.MlOutIdeal.τ).loc Cert.MlOutIdeal.main_arg3) = m ((c.tc : Thread Cert.MlOutIdeal.nD Cert.MlOutIdeal.τ).loc Cert.MlOutIdeal.main_arg3)
          ∧ r.2.mem ((c.tc : Thread Cert.MlOutIdeal.nD Cert.MlOutIdeal.τ).loc Cert.MlOutIdeal.main_arg4) = m ((c.tc : Thread Cert.MlOutIdeal.nD Cert.MlOutIdeal.τ).loc Cert.MlOutIdeal.main_arg4)
          ∧ r.2.mem ((c.tc : Thread Cert.MlOutIdeal.nD Cert.MlOutIdeal.τ).loc Cert.MlOutIdeal.main_arg5) = m ((c.tc : Thread Cert.MlOutIdeal.nD Cert.MlOutIdeal.τ).loc Cert.MlOutIdeal.main_arg5)
          ∧ r.2.mem ((c.tc : Thread Cert.MlOutIdeal.nD Cert.MlOutIdeal.τ).loc Cert.MlOutIdeal.main_arg6) = m ((c.tc : Thread Cert.MlOutIdeal.nD Cert.MlOutIdeal.τ).loc Cert.MlOutIdeal.main_arg6)
          ∧ r.2.mem ((c.tc : Thread Cert.MlOutIdeal.nD Cert.MlOutIdeal.τ).loc Cert.MlOutIdeal.main_arg7) = m ((c.tc : Thread Cert.MlOutIdeal.nD Cert.MlOutIdeal.τ).loc Cert.MlOutIdeal.main_arg7)
          ∧ r.2.mem ((c.tc : Thread Cert.MlOutIdeal.nD Cert.MlOutIdeal.τ).loc Cert.MlOutIdeal.main_arg8) = m ((c.tc : Thread Cert.MlOutIdeal.nD Cert.MlOutIdeal.τ).loc Cert.MlOutIdeal.main_arg8))
      ∧ θ_run (Cert.MlOutRefIdeal.defs (F := Ideal)) (onTc (τ := Cert.MlOutRefIdeal.τ) (Cert.MlOutRefIdeal.main (F := Ideal))) ⟨m', fun _ => 0, g'⟩ (fun r => ∀ c : Dev Cert.MlOutRefIdeal.nD,
          r.2.mem ((c.tc : Thread Cert.MlOutRefIdeal.nD Cert.MlOutRefIdeal.τ).loc Cert.MlOutRefIdeal.main_v63) = v0 c
          ∧ r.2.mem ((c.tc : Thread Cert.MlOutRefIdeal.nD Cert.MlOutRefIdeal.τ).loc Cert.MlOutRefIdeal.main_arg0) = m' ((c.tc : Thread Cert.MlOutRefIdeal.nD Cert.MlOutRefIdeal.τ).loc Cert.MlOutRefIdeal.main_arg0)
          ∧ r.2.mem ((c.tc : Thread Cert.MlOutRefIdeal.nD Cert.MlOutRefIdeal.τ).loc Cert.MlOutRefIdeal.main_arg1) = m' ((c.tc : Thread Cert.MlOutRefIdeal.nD Cert.MlOutRefIdeal.τ).loc Cert.MlOutRefIdeal.main_arg1)
          ∧ r.2.mem ((c.tc : Thread Cert.MlOutRefIdeal.nD Cert.MlOutRefIdeal.τ).loc Cert.MlOutRefIdeal.main_arg2) = m' ((c.tc : Thread Cert.MlOutRefIdeal.nD Cert.MlOutRefIdeal.τ).loc Cert.MlOutRefIdeal.main_arg2)
          ∧ r.2.mem ((c.tc : Thread Cert.MlOutRefIdeal.nD Cert.MlOutRefIdeal.τ).loc Cert.MlOutRefIdeal.main_arg3) = m' ((c.tc : Thread Cert.MlOutRefIdeal.nD Cert.MlOutRefIdeal.τ).loc Cert.MlOutRefIdeal.main_arg3)
          ∧ r.2.mem ((c.tc : Thread Cert.MlOutRefIdeal.nD Cert.MlOutRefIdeal.τ).loc Cert.MlOutRefIdeal.main_arg4) = m' ((c.tc : Thread Cert.MlOutRefIdeal.nD Cert.MlOutRefIdeal.τ).loc Cert.MlOutRefIdeal.main_arg4)
          ∧ r.2.mem ((c.tc : Thread Cert.MlOutRefIdeal.nD Cert.MlOutRefIdeal.τ).loc Cert.MlOutRefIdeal.main_arg5) = m' ((c.tc : Thread Cert.MlOutRefIdeal.nD Cert.MlOutRefIdeal.τ).loc Cert.MlOutRefIdeal.main_arg5)
          ∧ r.2.mem ((c.tc : Thread Cert.MlOutRefIdeal.nD Cert.MlOutRefIdeal.τ).loc Cert.MlOutRefIdeal.main_arg6) = m' ((c.tc : Thread Cert.MlOutRefIdeal.nD Cert.MlOutRefIdeal.τ).loc Cert.MlOutRefIdeal.main_arg6)
          ∧ r.2.mem ((c.tc : Thread Cert.MlOutRefIdeal.nD Cert.MlOutRefIdeal.τ).loc Cert.MlOutRefIdeal.main_arg7) = m' ((c.tc : Thread Cert.MlOutRefIdeal.nD Cert.MlOutRefIdeal.τ).loc Cert.MlOutRefIdeal.main_arg7)
          ∧ r.2.mem ((c.tc : Thread Cert.MlOutRefIdeal.nD Cert.MlOutRefIdeal.τ).loc Cert.MlOutRefIdeal.main_arg8) = m' ((c.tc : Thread Cert.MlOutRefIdeal.nD Cert.MlOutRefIdeal.τ).loc Cert.MlOutRefIdeal.main_arg8))

def preserves_MlProj_MlProjIdeal : Prop :=
  True

def algebraic_MlProjIdeal_MlProjRefIdeal_pre_finite_proj [hMlProjIdeal : Cert.MlProjIdeal.Facts] [hMlProjRefIdeal : Cert.MlProjRefIdeal.Facts] [hPre_finite_proj : Cert.Pre_finite_proj.Facts] : Prop :=
  ∀ (m : (ℓ : Loc Cert.MlProjIdeal.nD Cert.MlProjIdeal.τ Cert.MlProjIdeal.sig) → Buf (Elt Ideal) ℓ) (g : Dev Cert.MlProjIdeal.nD → PrngReg)
    (m' : (ℓ : Loc Cert.MlProjRefIdeal.nD Cert.MlProjRefIdeal.τ Cert.MlProjRefIdeal.sig) → Buf (Elt Ideal) ℓ) (g' : Dev Cert.MlProjRefIdeal.nD → PrngReg), Pre_MlProjIdeal_finite_proj m →
    (∀ c : Dev Cert.MlProjIdeal.nD,
      m' ((c.tc : Thread Cert.MlProjRefIdeal.nD Cert.MlProjRefIdeal.τ).loc Cert.MlProjRefIdeal.main_arg0) = m ((c.tc : Thread Cert.MlProjIdeal.nD Cert.MlProjIdeal.τ).loc Cert.MlProjIdeal.main_arg0)
      ∧ m' ((c.tc : Thread Cert.MlProjRefIdeal.nD Cert.MlProjRefIdeal.τ).loc Cert.MlProjRefIdeal.main_arg1) = m ((c.tc : Thread Cert.MlProjIdeal.nD Cert.MlProjIdeal.τ).loc Cert.MlProjIdeal.main_arg1)
      ∧ m' ((c.tc : Thread Cert.MlProjRefIdeal.nD Cert.MlProjRefIdeal.τ).loc Cert.MlProjRefIdeal.main_arg2) = m ((c.tc : Thread Cert.MlProjIdeal.nD Cert.MlProjIdeal.τ).loc Cert.MlProjIdeal.main_arg2)
      ∧ m' ((c.tc : Thread Cert.MlProjRefIdeal.nD Cert.MlProjRefIdeal.τ).loc Cert.MlProjRefIdeal.main_arg3) = m ((c.tc : Thread Cert.MlProjIdeal.nD Cert.MlProjIdeal.τ).loc Cert.MlProjIdeal.main_arg3)
      ∧ m' ((c.tc : Thread Cert.MlProjRefIdeal.nD Cert.MlProjRefIdeal.τ).loc Cert.MlProjRefIdeal.main_arg4) = m ((c.tc : Thread Cert.MlProjIdeal.nD Cert.MlProjIdeal.τ).loc Cert.MlProjIdeal.main_arg4)
      ∧ m' ((c.tc : Thread Cert.MlProjRefIdeal.nD Cert.MlProjRefIdeal.τ).loc Cert.MlProjRefIdeal.main_arg5) = m ((c.tc : Thread Cert.MlProjIdeal.nD Cert.MlProjIdeal.τ).loc Cert.MlProjIdeal.main_arg5)) →
    ∃ (v0 : (c : Dev Cert.MlProjIdeal.nD) → Buf (Elt Ideal) ((c.tc : Thread Cert.MlProjIdeal.nD Cert.MlProjIdeal.τ).loc Cert.MlProjIdeal.main_v12_0)) (v1 : (c : Dev Cert.MlProjIdeal.nD) → Buf (Elt Ideal) ((c.tc : Thread Cert.MlProjIdeal.nD Cert.MlProjIdeal.τ).loc Cert.MlProjIdeal.main_v12_1)) (v2 : (c : Dev Cert.MlProjIdeal.nD) → Buf (Elt Ideal) ((c.tc : Thread Cert.MlProjIdeal.nD Cert.MlProjIdeal.τ).loc Cert.MlProjIdeal.main_v12_2)) (v3 : (c : Dev Cert.MlProjIdeal.nD) → Buf (Elt Ideal) ((c.tc : Thread Cert.MlProjIdeal.nD Cert.MlProjIdeal.τ).loc Cert.MlProjIdeal.main_v12_3)) (v4 : (c : Dev Cert.MlProjIdeal.nD) → Buf (Elt Ideal) ((c.tc : Thread Cert.MlProjIdeal.nD Cert.MlProjIdeal.τ).loc Cert.MlProjIdeal.main_v12_4)) (v5 : (c : Dev Cert.MlProjIdeal.nD) → Buf (Elt Ideal) ((c.tc : Thread Cert.MlProjIdeal.nD Cert.MlProjIdeal.τ).loc Cert.MlProjIdeal.main_v12_5)),
      θ_run (Cert.MlProjIdeal.defs (F := Ideal)) (onTc (τ := Cert.MlProjIdeal.τ) (Cert.MlProjIdeal.main (F := Ideal))) ⟨m, fun _ => 0, g⟩ (fun r => ∀ c : Dev Cert.MlProjIdeal.nD,
          r.2.mem ((c.tc : Thread Cert.MlProjIdeal.nD Cert.MlProjIdeal.τ).loc Cert.MlProjIdeal.main_v12_0) = v0 c
          ∧ r.2.mem ((c.tc : Thread Cert.MlProjIdeal.nD Cert.MlProjIdeal.τ).loc Cert.MlProjIdeal.main_v12_1) = v1 c
          ∧ r.2.mem ((c.tc : Thread Cert.MlProjIdeal.nD Cert.MlProjIdeal.τ).loc Cert.MlProjIdeal.main_v12_2) = v2 c
          ∧ r.2.mem ((c.tc : Thread Cert.MlProjIdeal.nD Cert.MlProjIdeal.τ).loc Cert.MlProjIdeal.main_v12_3) = v3 c
          ∧ r.2.mem ((c.tc : Thread Cert.MlProjIdeal.nD Cert.MlProjIdeal.τ).loc Cert.MlProjIdeal.main_v12_4) = v4 c
          ∧ r.2.mem ((c.tc : Thread Cert.MlProjIdeal.nD Cert.MlProjIdeal.τ).loc Cert.MlProjIdeal.main_v12_5) = v5 c
          ∧ r.2.mem ((c.tc : Thread Cert.MlProjIdeal.nD Cert.MlProjIdeal.τ).loc Cert.MlProjIdeal.main_arg0) = m ((c.tc : Thread Cert.MlProjIdeal.nD Cert.MlProjIdeal.τ).loc Cert.MlProjIdeal.main_arg0)
          ∧ r.2.mem ((c.tc : Thread Cert.MlProjIdeal.nD Cert.MlProjIdeal.τ).loc Cert.MlProjIdeal.main_arg1) = m ((c.tc : Thread Cert.MlProjIdeal.nD Cert.MlProjIdeal.τ).loc Cert.MlProjIdeal.main_arg1)
          ∧ r.2.mem ((c.tc : Thread Cert.MlProjIdeal.nD Cert.MlProjIdeal.τ).loc Cert.MlProjIdeal.main_arg2) = m ((c.tc : Thread Cert.MlProjIdeal.nD Cert.MlProjIdeal.τ).loc Cert.MlProjIdeal.main_arg2)
          ∧ r.2.mem ((c.tc : Thread Cert.MlProjIdeal.nD Cert.MlProjIdeal.τ).loc Cert.MlProjIdeal.main_arg3) = m ((c.tc : Thread Cert.MlProjIdeal.nD Cert.MlProjIdeal.τ).loc Cert.MlProjIdeal.main_arg3)
          ∧ r.2.mem ((c.tc : Thread Cert.MlProjIdeal.nD Cert.MlProjIdeal.τ).loc Cert.MlProjIdeal.main_arg4) = m ((c.tc : Thread Cert.MlProjIdeal.nD Cert.MlProjIdeal.τ).loc Cert.MlProjIdeal.main_arg4)
          ∧ r.2.mem ((c.tc : Thread Cert.MlProjIdeal.nD Cert.MlProjIdeal.τ).loc Cert.MlProjIdeal.main_arg5) = m ((c.tc : Thread Cert.MlProjIdeal.nD Cert.MlProjIdeal.τ).loc Cert.MlProjIdeal.main_arg5))
      ∧ θ_run (Cert.MlProjRefIdeal.defs (F := Ideal)) (onTc (τ := Cert.MlProjRefIdeal.τ) (Cert.MlProjRefIdeal.main (F := Ideal))) ⟨m', fun _ => 0, g'⟩ (fun r => ∀ c : Dev Cert.MlProjRefIdeal.nD,
          r.2.mem ((c.tc : Thread Cert.MlProjRefIdeal.nD Cert.MlProjRefIdeal.τ).loc Cert.MlProjRefIdeal.main_v54) = v0 c
          ∧ r.2.mem ((c.tc : Thread Cert.MlProjRefIdeal.nD Cert.MlProjRefIdeal.τ).loc Cert.MlProjRefIdeal.main_v58) = v1 c
          ∧ r.2.mem ((c.tc : Thread Cert.MlProjRefIdeal.nD Cert.MlProjRefIdeal.τ).loc Cert.MlProjRefIdeal.main_v60) = v2 c
          ∧ r.2.mem ((c.tc : Thread Cert.MlProjRefIdeal.nD Cert.MlProjRefIdeal.τ).loc Cert.MlProjRefIdeal.main_v68) = v3 c
          ∧ r.2.mem ((c.tc : Thread Cert.MlProjRefIdeal.nD Cert.MlProjRefIdeal.τ).loc Cert.MlProjRefIdeal.main_v52) = v4 c
          ∧ r.2.mem ((c.tc : Thread Cert.MlProjRefIdeal.nD Cert.MlProjRefIdeal.τ).loc Cert.MlProjRefIdeal.main_v69) = v5 c
          ∧ r.2.mem ((c.tc : Thread Cert.MlProjRefIdeal.nD Cert.MlProjRefIdeal.τ).loc Cert.MlProjRefIdeal.main_arg0) = m' ((c.tc : Thread Cert.MlProjRefIdeal.nD Cert.MlProjRefIdeal.τ).loc Cert.MlProjRefIdeal.main_arg0)
          ∧ r.2.mem ((c.tc : Thread Cert.MlProjRefIdeal.nD Cert.MlProjRefIdeal.τ).loc Cert.MlProjRefIdeal.main_arg1) = m' ((c.tc : Thread Cert.MlProjRefIdeal.nD Cert.MlProjRefIdeal.τ).loc Cert.MlProjRefIdeal.main_arg1)
          ∧ r.2.mem ((c.tc : Thread Cert.MlProjRefIdeal.nD Cert.MlProjRefIdeal.τ).loc Cert.MlProjRefIdeal.main_arg2) = m' ((c.tc : Thread Cert.MlProjRefIdeal.nD Cert.MlProjRefIdeal.τ).loc Cert.MlProjRefIdeal.main_arg2)
          ∧ r.2.mem ((c.tc : Thread Cert.MlProjRefIdeal.nD Cert.MlProjRefIdeal.τ).loc Cert.MlProjRefIdeal.main_arg3) = m' ((c.tc : Thread Cert.MlProjRefIdeal.nD Cert.MlProjRefIdeal.τ).loc Cert.MlProjRefIdeal.main_arg3)
          ∧ r.2.mem ((c.tc : Thread Cert.MlProjRefIdeal.nD Cert.MlProjRefIdeal.τ).loc Cert.MlProjRefIdeal.main_arg4) = m' ((c.tc : Thread Cert.MlProjRefIdeal.nD Cert.MlProjRefIdeal.τ).loc Cert.MlProjRefIdeal.main_arg4)
          ∧ r.2.mem ((c.tc : Thread Cert.MlProjRefIdeal.nD Cert.MlProjRefIdeal.τ).loc Cert.MlProjRefIdeal.main_arg5) = m' ((c.tc : Thread Cert.MlProjRefIdeal.nD Cert.MlProjRefIdeal.τ).loc Cert.MlProjRefIdeal.main_arg5))

def preserves_PFfn_PFfnIdeal : Prop :=
  True

def algebraic_PFfnIdeal_PFfnRefIdeal [hPFfnIdeal : Cert.PFfnIdeal.Facts] [hPFfnRefIdeal : Cert.PFfnRefIdeal.Facts] : Prop :=
  ∀ (m : (ℓ : Loc Cert.PFfnIdeal.nD Cert.PFfnIdeal.τ Cert.PFfnIdeal.sig) → Buf (Elt Ideal) ℓ) (g : Dev Cert.PFfnIdeal.nD → PrngReg)
    (m' : (ℓ : Loc Cert.PFfnRefIdeal.nD Cert.PFfnRefIdeal.τ Cert.PFfnRefIdeal.sig) → Buf (Elt Ideal) ℓ) (g' : Dev Cert.PFfnRefIdeal.nD → PrngReg), Pre_PFfnIdeal m →
    (∀ c : Dev Cert.PFfnIdeal.nD,
      m' ((c.tc : Thread Cert.PFfnRefIdeal.nD Cert.PFfnRefIdeal.τ).loc Cert.PFfnRefIdeal.main_arg0) = m ((c.tc : Thread Cert.PFfnIdeal.nD Cert.PFfnIdeal.τ).loc Cert.PFfnIdeal.main_arg0)
      ∧ m' ((c.tc : Thread Cert.PFfnRefIdeal.nD Cert.PFfnRefIdeal.τ).loc Cert.PFfnRefIdeal.main_arg1) = m ((c.tc : Thread Cert.PFfnIdeal.nD Cert.PFfnIdeal.τ).loc Cert.PFfnIdeal.main_arg1)
      ∧ m' ((c.tc : Thread Cert.PFfnRefIdeal.nD Cert.PFfnRefIdeal.τ).loc Cert.PFfnRefIdeal.main_arg2) = m ((c.tc : Thread Cert.PFfnIdeal.nD Cert.PFfnIdeal.τ).loc Cert.PFfnIdeal.main_arg2)
      ∧ m' ((c.tc : Thread Cert.PFfnRefIdeal.nD Cert.PFfnRefIdeal.τ).loc Cert.PFfnRefIdeal.main_arg3) = m ((c.tc : Thread Cert.PFfnIdeal.nD Cert.PFfnIdeal.τ).loc Cert.PFfnIdeal.main_arg3)
      ∧ m' ((c.tc : Thread Cert.PFfnRefIdeal.nD Cert.PFfnRefIdeal.τ).loc Cert.PFfnRefIdeal.main_arg4) = m ((c.tc : Thread Cert.PFfnIdeal.nD Cert.PFfnIdeal.τ).loc Cert.PFfnIdeal.main_arg4)
      ∧ m' ((c.tc : Thread Cert.PFfnRefIdeal.nD Cert.PFfnRefIdeal.τ).loc Cert.PFfnRefIdeal.main_arg5) = m ((c.tc : Thread Cert.PFfnIdeal.nD Cert.PFfnIdeal.τ).loc Cert.PFfnIdeal.main_arg5)
      ∧ m' ((c.tc : Thread Cert.PFfnRefIdeal.nD Cert.PFfnRefIdeal.τ).loc Cert.PFfnRefIdeal.main_arg6) = m ((c.tc : Thread Cert.PFfnIdeal.nD Cert.PFfnIdeal.τ).loc Cert.PFfnIdeal.main_arg6)
      ∧ m' ((c.tc : Thread Cert.PFfnRefIdeal.nD Cert.PFfnRefIdeal.τ).loc Cert.PFfnRefIdeal.main_arg7) = m ((c.tc : Thread Cert.PFfnIdeal.nD Cert.PFfnIdeal.τ).loc Cert.PFfnIdeal.main_arg7)) →
    ∃ (v0 : (c : Dev Cert.PFfnIdeal.nD) → Buf (Elt Ideal) ((c.tc : Thread Cert.PFfnIdeal.nD Cert.PFfnIdeal.τ).loc Cert.PFfnIdeal.main_v5)),
      θ_run (Cert.PFfnIdeal.defs (F := Ideal)) (onTc (τ := Cert.PFfnIdeal.τ) (Cert.PFfnIdeal.main (F := Ideal))) ⟨m, fun _ => 0, g⟩ (fun r => ∀ c : Dev Cert.PFfnIdeal.nD,
          r.2.mem ((c.tc : Thread Cert.PFfnIdeal.nD Cert.PFfnIdeal.τ).loc Cert.PFfnIdeal.main_v5) = v0 c
          ∧ r.2.mem ((c.tc : Thread Cert.PFfnIdeal.nD Cert.PFfnIdeal.τ).loc Cert.PFfnIdeal.main_arg0) = m ((c.tc : Thread Cert.PFfnIdeal.nD Cert.PFfnIdeal.τ).loc Cert.PFfnIdeal.main_arg0)
          ∧ r.2.mem ((c.tc : Thread Cert.PFfnIdeal.nD Cert.PFfnIdeal.τ).loc Cert.PFfnIdeal.main_arg1) = m ((c.tc : Thread Cert.PFfnIdeal.nD Cert.PFfnIdeal.τ).loc Cert.PFfnIdeal.main_arg1)
          ∧ r.2.mem ((c.tc : Thread Cert.PFfnIdeal.nD Cert.PFfnIdeal.τ).loc Cert.PFfnIdeal.main_arg2) = m ((c.tc : Thread Cert.PFfnIdeal.nD Cert.PFfnIdeal.τ).loc Cert.PFfnIdeal.main_arg2)
          ∧ r.2.mem ((c.tc : Thread Cert.PFfnIdeal.nD Cert.PFfnIdeal.τ).loc Cert.PFfnIdeal.main_arg3) = m ((c.tc : Thread Cert.PFfnIdeal.nD Cert.PFfnIdeal.τ).loc Cert.PFfnIdeal.main_arg3)
          ∧ r.2.mem ((c.tc : Thread Cert.PFfnIdeal.nD Cert.PFfnIdeal.τ).loc Cert.PFfnIdeal.main_arg4) = m ((c.tc : Thread Cert.PFfnIdeal.nD Cert.PFfnIdeal.τ).loc Cert.PFfnIdeal.main_arg4)
          ∧ r.2.mem ((c.tc : Thread Cert.PFfnIdeal.nD Cert.PFfnIdeal.τ).loc Cert.PFfnIdeal.main_arg5) = m ((c.tc : Thread Cert.PFfnIdeal.nD Cert.PFfnIdeal.τ).loc Cert.PFfnIdeal.main_arg5)
          ∧ r.2.mem ((c.tc : Thread Cert.PFfnIdeal.nD Cert.PFfnIdeal.τ).loc Cert.PFfnIdeal.main_arg6) = m ((c.tc : Thread Cert.PFfnIdeal.nD Cert.PFfnIdeal.τ).loc Cert.PFfnIdeal.main_arg6)
          ∧ r.2.mem ((c.tc : Thread Cert.PFfnIdeal.nD Cert.PFfnIdeal.τ).loc Cert.PFfnIdeal.main_arg7) = m ((c.tc : Thread Cert.PFfnIdeal.nD Cert.PFfnIdeal.τ).loc Cert.PFfnIdeal.main_arg7))
      ∧ θ_run (Cert.PFfnRefIdeal.defs (F := Ideal)) (onTc (τ := Cert.PFfnRefIdeal.τ) (Cert.PFfnRefIdeal.main (F := Ideal))) ⟨m', fun _ => 0, g'⟩ (fun r => ∀ c : Dev Cert.PFfnRefIdeal.nD,
          r.2.mem ((c.tc : Thread Cert.PFfnRefIdeal.nD Cert.PFfnRefIdeal.τ).loc Cert.PFfnRefIdeal.main_v75) = v0 c
          ∧ r.2.mem ((c.tc : Thread Cert.PFfnRefIdeal.nD Cert.PFfnRefIdeal.τ).loc Cert.PFfnRefIdeal.main_arg0) = m' ((c.tc : Thread Cert.PFfnRefIdeal.nD Cert.PFfnRefIdeal.τ).loc Cert.PFfnRefIdeal.main_arg0)
          ∧ r.2.mem ((c.tc : Thread Cert.PFfnRefIdeal.nD Cert.PFfnRefIdeal.τ).loc Cert.PFfnRefIdeal.main_arg1) = m' ((c.tc : Thread Cert.PFfnRefIdeal.nD Cert.PFfnRefIdeal.τ).loc Cert.PFfnRefIdeal.main_arg1)
          ∧ r.2.mem ((c.tc : Thread Cert.PFfnRefIdeal.nD Cert.PFfnRefIdeal.τ).loc Cert.PFfnRefIdeal.main_arg2) = m' ((c.tc : Thread Cert.PFfnRefIdeal.nD Cert.PFfnRefIdeal.τ).loc Cert.PFfnRefIdeal.main_arg2)
          ∧ r.2.mem ((c.tc : Thread Cert.PFfnRefIdeal.nD Cert.PFfnRefIdeal.τ).loc Cert.PFfnRefIdeal.main_arg3) = m' ((c.tc : Thread Cert.PFfnRefIdeal.nD Cert.PFfnRefIdeal.τ).loc Cert.PFfnRefIdeal.main_arg3)
          ∧ r.2.mem ((c.tc : Thread Cert.PFfnRefIdeal.nD Cert.PFfnRefIdeal.τ).loc Cert.PFfnRefIdeal.main_arg4) = m' ((c.tc : Thread Cert.PFfnRefIdeal.nD Cert.PFfnRefIdeal.τ).loc Cert.PFfnRefIdeal.main_arg4)
          ∧ r.2.mem ((c.tc : Thread Cert.PFfnRefIdeal.nD Cert.PFfnRefIdeal.τ).loc Cert.PFfnRefIdeal.main_arg5) = m' ((c.tc : Thread Cert.PFfnRefIdeal.nD Cert.PFfnRefIdeal.τ).loc Cert.PFfnRefIdeal.main_arg5)
          ∧ r.2.mem ((c.tc : Thread Cert.PFfnRefIdeal.nD Cert.PFfnRefIdeal.τ).loc Cert.PFfnRefIdeal.main_arg6) = m' ((c.tc : Thread Cert.PFfnRefIdeal.nD Cert.PFfnRefIdeal.τ).loc Cert.PFfnRefIdeal.main_arg6)
          ∧ r.2.mem ((c.tc : Thread Cert.PFfnRefIdeal.nD Cert.PFfnRefIdeal.τ).loc Cert.PFfnRefIdeal.main_arg7) = m' ((c.tc : Thread Cert.PFfnRefIdeal.nD Cert.PFfnRefIdeal.τ).loc Cert.PFfnRefIdeal.main_arg7))

def preserves_Mod_ModIdeal : Prop :=
  True

def algebraic_ModIdeal_ModRefIdeal_pre_finite_mod [hModIdeal : Cert.ModIdeal.Facts] [hModRefIdeal : Cert.ModRefIdeal.Facts] [hPre_finite_mod : Cert.Pre_finite_mod.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_mod m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v20) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hMlOut : Cert.MlOut.Facts) (hMlOutIdeal : Cert.MlOutIdeal.Facts) (hMlOutRefIdeal : Cert.MlOutRefIdeal.Facts) (hMlProj : Cert.MlProj.Facts) (hMlProjIdeal : Cert.MlProjIdeal.Facts) (hMlProjRefIdeal : Cert.MlProjRefIdeal.Facts) (hPFfn : Cert.PFfn.Facts) (hPFfnIdeal : Cert.PFfnIdeal.Facts) (hPFfnRefIdeal : Cert.PFfnRefIdeal.Facts) (hMod : Cert.Mod.Facts) (hModIdeal : Cert.ModIdeal.Facts) (hModRefIdeal : Cert.ModRefIdeal.Facts) (hPre_finite : Cert.Pre_finite.Facts) (hPre_finite_proj : Cert.Pre_finite_proj.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_MlOut (hMlOut := hMlOut)
    ∧ quiescent_MlOutIdeal (hMlOutIdeal := hMlOutIdeal)
    ∧ quiescent_MlOutRefIdeal (hMlOutRefIdeal := hMlOutRefIdeal)
    ∧ quiescent_MlProj (hMlProj := hMlProj)
    ∧ quiescent_MlProjIdeal (hMlProjIdeal := hMlProjIdeal)
    ∧ quiescent_MlProjIdeal_pre_finite_proj (hMlProjIdeal := hMlProjIdeal) (hPre_finite_proj := hPre_finite_proj)
    ∧ quiescent_MlProjRefIdeal (hMlProjRefIdeal := hMlProjRefIdeal)
    ∧ quiescent_MlProjRefIdeal_pre_finite_proj (hMlProjRefIdeal := hMlProjRefIdeal) (hPre_finite_proj := hPre_finite_proj)
    ∧ quiescent_PFfn (hPFfn := hPFfn)
    ∧ quiescent_PFfnIdeal (hPFfnIdeal := hPFfnIdeal)
    ∧ quiescent_PFfnRefIdeal (hPFfnRefIdeal := hPFfnRefIdeal)
    ∧ quiescent_Mod (hMod := hMod)
    ∧ quiescent_ModIdeal (hModIdeal := hModIdeal)
    ∧ quiescent_ModIdeal_pre_finite_mod (hModIdeal := hModIdeal) (hPre_finite_mod := hPre_finite_mod)
    ∧ quiescent_ModRefIdeal (hModRefIdeal := hModRefIdeal)
    ∧ quiescent_ModRefIdeal_pre_finite_mod (hModRefIdeal := hModRefIdeal) (hPre_finite_mod := hPre_finite_mod)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_MlOut_MlOutIdeal
    ∧ algebraic_MlOutIdeal_MlOutRefIdeal (hMlOutIdeal := hMlOutIdeal) (hMlOutRefIdeal := hMlOutRefIdeal)
    ∧ preserves_MlProj_MlProjIdeal
    ∧ algebraic_MlProjIdeal_MlProjRefIdeal_pre_finite_proj (hMlProjIdeal := hMlProjIdeal) (hMlProjRefIdeal := hMlProjRefIdeal) (hPre_finite_proj := hPre_finite_proj)
    ∧ preserves_PFfn_PFfnIdeal
    ∧ algebraic_PFfnIdeal_PFfnRefIdeal (hPFfnIdeal := hPFfnIdeal) (hPFfnRefIdeal := hPFfnRefIdeal)
    ∧ preserves_Mod_ModIdeal
    ∧ algebraic_ModIdeal_ModRefIdeal_pre_finite_mod (hModIdeal := hModIdeal) (hModRefIdeal := hModRefIdeal) (hPre_finite_mod := hPre_finite_mod)
-- ==== Pre_finite.lean ====
abbrev S4x4096x1024 : Shape := ⟨3, ![4, 4096, 1024]⟩
abbrev S4x1x256x8x2x64 : Shape := ⟨6, ![4, 1, 256, 8, 2, 64]⟩
abbrev S4x1x256x8x128 : Shape := ⟨5, ![4, 1, 256, 8, 128]⟩
abbrev S1x4x64 : Shape := ⟨3, ![1, 4, 64]⟩
abbrev S1x128 : Shape := ⟨2, ![1, 128]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x1x256x8x2x64 : S_.BroadcastsInDim S4x1x256x8x2x64 (![] : Fin 0 → Fin S4x1x256x8x2x64.rank)
  reducesTo_S4x1x256x8x2x64_S_d0_1_2_3_4_5 : S4x1x256x8x2x64.ReducesTo [0, 1, 2, 3, 4, 5] S_
  bcast_S_S4x1x256x8x128 : S_.BroadcastsInDim S4x1x256x8x128 (![] : Fin 0 → Fin S4x1x256x8x128.rank)
  reducesTo_S4x1x256x8x128_S_d0_1_2_3_4 : S4x1x256x8x128.ReducesTo [0, 1, 2, 3, 4] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_arg4 : FVec F S4x4096x1024 .bf16) (main_arg5 : FVec F S1x4x64 .f32) (main_v14 : IVec S_ 1) (main_v16 : FVec F S4x4096x1024 .f32) (main_cst_4 : FVec F S_ .f32) : IVec S_ 1 :=
  let main_v17 : FVec F S4x4096x1024 .f32 := broadcastInDim S4x4096x1024 ![] bcast_S_S4x4096x1024 main_cst_4
  let main_v18 : IVec S4x4096x1024 1 := cmpf .olt main_v16 main_v17
  let main_c_5 : IVec S_ 1 := constantI S_ 1 1#1
  let main_v19 : IVec S_ 1 := (fun x v => Host.reduce IntOp.andi x v reducesTo_S4x4096x1024_S_d0_1_2 h_S_) main_v18 main_c_5
  let main_v20 : IVec S_ 1 := andi main_v14 main_v19
  let main_v21 : FVec F S4x4096x1024 .f32 := (extf .f32 · bitsLt_bf16_f32) main_arg4
  let main_v22 : FVec F S4x4096x1024 .f32 := Host.absf main_v21
  let main_cst_6 : FVec F S_ .f32 := constant S_ .f32 0x7F800000#32
  let main_v23 : FVec F S4x4096x1024 .f32 := broadcastInDim S4x4096x1024 ![] bcast_S_S4x4096x1024 main_cst_6
  let main_v24 : IVec S4x4096x1024 1 := cmpf .olt main_v22 main_v23
  let main_c_7 : IVec S_ 1 := constantI S_ 1 1#1
  let main_v25 : IVec S_ 1 := (fun x v => Host.reduce IntOp.andi x v reducesTo_S4x4096x1024_S_d0_1_2 h_S_) main_v24 main_c_7
  let main_v26 : IVec S_ 1 := andi main_v20 main_v25
  let main_v27 : FVec F S1x4x64 .f32 := Host.absf main_arg5
  let main_cst_8 : FVec F S_ .f32 := constant S_ .f32 0x7F800000#32
  let main_v28 : FVec F S1x4x64 .f32 := broadcastInDim S1x4x64 ![] bcast_S_S1x4x64 main_cst_8
  let main_v29 : IVec S1x4x64 1 := cmpf .olt main_v27 main_v28
  let main_c_9 : IVec S_ 1 := constantI S_ 1 1#1
  let main_v30 : IVec S_ 1 := (fun x v => Host.reduce IntOp.andi x v reducesTo_S1x4x64_S_d0_1_2 h_S_) main_v29 main_c_9
  let main_v31 : IVec S_ 1 := andi main_v26 main_v30
  main_v31

def fn {F : FTy → Type} [FloatOps F] (main_arg0 : FVec F S4x4096x1024 .bf16) (main_arg1 : FVec F S4x1x256x8x2x64 .f32) (main_arg2 : FVec F S4x1x256x8x128 .f32) (main_arg3 : FVec F S4x4096x1024 .bf16) (main_arg4 : FVec F S4x4096x1024 .bf16) (main_arg5 : FVec F S1x4x64 .f32) (main_arg6 : FVec F S1x128 .f32) : IVec S_ 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_c : IVec S_ 1 := constantI S_ 1 1#1
  let main_v4 : IVec S_ 1 := (fun x v => Host.reduce IntOp.andi x v reducesTo_S4x4096x1024_S_d0_1_2 h_S_) main_v3 main_c
  let main_v5 : FVec F S4x1x256x8x2x64 .f32 := Host.absf main_arg1
  let main_cst_0 : FVec F S_ .f32 := constant S_ .f32 0x7F800000#32
  let main_v6 : FVec F S4x1x256x8x2x64 .f32 := broadcastInDim S4x1x256x8x2x64 ![] bcast_S_S4x1x256x8x2x64 main_cst_0
  let main_v7 : IVec S4x1x256x8x2x64 1 := cmpf .olt main_v5 main_v6
  let main_c_1 : IVec S_ 1 := constantI S_ 1 1#1
  let main_v8 : IVec S_ 1 := (fun x v => Host.reduce IntOp.andi x v reducesTo_S4x1x256x8x2x64_S_d0_1_2_3_4_5 h_S_) main_v7 main_c_1
  let main_v9 : IVec S_ 1 := andi main_v4 main_v8
  let main_v10 : FVec F S4x1x256x8x128 .f32 := Host.absf main_arg2
  let main_cst_2 : FVec F S_ .f32 := constant S_ .f32 0x7F800000#32
  let main_v11 : FVec F S4x1x256x8x128 .f32 := broadcastInDim S4x1x256x8x128 ![] bcast_S_S4x1x256x8x128 main_cst_2
  let main_v12 : IVec S4x1x256x8x128 1 := cmpf .olt main_v10 main_v11
  let main_c_3 : IVec S_ 1 := constantI S_ 1 1#1
  let main_v13 : IVec S_ 1 := (fun x v => Host.reduce IntOp.andi x v reducesTo_S4x1x256x8x128_S_d0_1_2_3_4 h_S_) main_v12 main_c_3
  let main_v14 : IVec S_ 1 := andi main_v9 main_v13
  let main_v15 : FVec F S4x4096x1024 .f32 := (extf .f32 · bitsLt_bf16_f32) main_arg3
  let main_v16 : FVec F S4x4096x1024 .f32 := Host.absf main_v15
  let main_cst_4 : FVec F S_ .f32 := constant S_ .f32 0x7F800000#32
  fn_part1 (F := F) main_arg4 main_arg5 main_v14 main_v16 main_cst_4
-- ==== Pre_finite_mod.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S8x1024 .f32) (main_arg1 : FVec F S2x1024x6144 .f32) (main_arg2 : FVec F S2x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S2x1024x6144 .f32 := Host.absf main_arg1
  let main_cst_0 : FVec F S_ .f32 := constant S_ .f32 0x7F800000#32
  let main_v5 : FVec F S2x1024x6144 .f32 := broadcastInDim S2x1024x6144 ![] bcast_S_S2x1024x6144 main_cst_0
  let main_v6 : IVec S2x1024x6144 1 := cmpf .olt main_v4 main_v5
  let main_c_1 : IVec S_ 1 := constantI S_ 1 1#1
  let main_v7 : IVec S_ 1 := (fun x v => Host.reduce IntOp.andi x v reducesTo_S2x1024x6144_S_d0_1_2 h_S_) main_v6 main_c_1
  let main_v8 : IVec S_ 1 := andi main_v3 main_v7
  main_v8
-- ==== Pre_finite_proj.lean ====
abbrev S16384x1024 : Shape := ⟨2, ![16384, 1024]⟩
abbrev S8x6x1024 : Shape := ⟨3, ![8, 6, 1024]⟩
abbrev S1x1024x3088 : Shape := ⟨3, ![1, 1024, 3088]⟩
abbrev S1x3x1024 : Shape := ⟨3, ![1, 3, 1024]⟩
abbrev S1x1024 : Shape := ⟨2, ![1, 1024]⟩
abbrev S1x16 : Shape := ⟨2, ![1, 16]⟩
abbrev S_ : Shape := ⟨0, ![]⟩
abbrev S4x2x1024 : Shape := ⟨3, ![4, 2, 1024]⟩
abbrev S1x1024x16 : Shape := ⟨3, ![1, 1024, 16]⟩
abbrev S1024x16 : Shape := ⟨2, ![1024, 16]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S8x6x1024_S4x2x1024_1_0_0 : S8x6x1024.Slices ![1, 0, 0] S4x2x1024
  bcast_S_S4x2x1024 : S_.BroadcastsInDim S4x2x1024 (![] : Fin 0 → Fin S4x2x1024.rank)
  reducesTo_S4x2x1024_S_d0_1_2 : S4x2x1024.ReducesTo [0, 1, 2] S_
  slices_S1x1024x3088_S1x1024x16_0_0_3072 : S1x1024x3088.Slices ![0, 0, 3072] S1x1024x16
  shapeCasts_S1x1024x16_S1024x16 : S1x1024x16.ShapeCasts S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S16384x1024 .f32) (main_arg1 : FVec F S8x6x1024 .f32) (main_arg2 : FVec F S1x1024x3088 .f32) (main_arg3 : FVec F S1x3x1024 .f32) (main_arg4 : FVec F S1x1024 .f32) (main_arg5 : FVec F S1x16 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x2x1024 .f32 := (extractStridedSlice S4x2x1024 ![1, 0, 0] · slices_S8x6x1024_S4x2x1024_1_0_0) main_arg1
  let main_v5 : FVec F S4x2x1024 .f32 := Host.absf main_v4
  let main_cst_0 : FVec F S_ .f32 := constant S_ .f32 0x7F800000#32
  let main_v6 : FVec F S4x2x1024 .f32 := broadcastInDim S4x2x1024 ![] bcast_S_S4x2x1024 main_cst_0
  let main_v7 : IVec S4x2x1024 1 := cmpf .olt main_v5 main_v6
  let main_c_1 : IVec S_ 1 := constantI S_ 1 1#1
  let main_v8 : IVec S_ 1 := (fun x v => Host.reduce IntOp.andi x v reducesTo_S4x2x1024_S_d0_1_2 h_S_) main_v7 main_c_1
  let main_v9 : IVec S_ 1 := andi main_v3 main_v8
  let main_v10 : FVec F S1x1024x16 .f32 := (extractStridedSlice S1x1024x16 ![0, 0, 3072] · slices_S1x1024x3088_S1x1024x16_0_0_3072) main_arg2
  let main_v11 : FVec F S1024x16 .f32 := shapeCast S1024x16 main_v10 shapeCasts_S1x1024x16_S1024x16
  let main_v12 : FVec F S1024x16 .f32 := Host.absf main_v11
  let main_cst_2 : FVec F S_ .f32 := constant S_ .f32 0x7F800000#32
  let main_v13 : FVec F S1024x16 .f32 := broadcastInDim S1024x16 ![] bcast_S_S1024x16 main_cst_2
  let main_v14 : IVec S1024x16 1 := cmpf .olt main_v12 main_v13
  let main_c_3 : IVec S_ 1 := constantI S_ 1 1#1
  let main_v15 : IVec S_ 1 := (fun x v => Host.reduce IntOp.andi x v reducesTo_S1024x16_S_d0_1 h_S_) main_v14 main_c_3
  let main_v16 : IVec S_ 1 := andi main_v9 main_v15
  main_v16
-- ==== Kernel.lean ====
abbrev S4x4096x1024 : Shape := ⟨3, ![4, 4096, 1024]⟩
abbrev S4x1x256x8x2x64 : Shape := ⟨6, ![4, 1, 256, 8, 2, 64]⟩
abbrev S4x1x256x8x128 : Shape := ⟨5, ![4, 1, 256, 8, 128]⟩
abbrev S1x4x64 : Shape := ⟨3, ![1, 4, 64]⟩
abbrev S1x128 : Shape := ⟨2, ![1, 128]⟩
abbrev S4x256x8x2x64 : Shape := ⟨5, ![4, 256, 8, 2, 64]⟩
abbrev S4x256x1024 : Shape := ⟨3, ![4, 256, 1024]⟩
abbrev S4x256x8x128 : Shape := ⟨4, ![4, 256, 8, 128]⟩
abbrev S4x64 : Shape := ⟨2, ![4, 64]⟩
abbrev S128 : Shape := ⟨1, ![128]⟩
abbrev S128x1 : Shape := ⟨2, ![128, 1]⟩
abbrev S1x256x128 : Shape := ⟨3, ![1, 256, 128]⟩
abbrev S1x4096x128 : Shape := ⟨3, ![1, 4096, 128]⟩
abbrev S128x256 : Shape := ⟨2, ![128, 256]⟩
abbrev S8x128x512 : Shape := ⟨3, ![8, 128, 512]⟩
abbrev S2x128x256 : Shape := ⟨3, ![2, 128, 256]⟩
abbrev S8x256 : Shape := ⟨2, ![8, 256]⟩
abbrev S256x128 : Shape := ⟨2, ![256, 128]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S256x64 : Shape := ⟨2, ![256, 64]⟩
abbrev S256x256 : Shape := ⟨2, ![256, 256]⟩
abbrev S1x256 : Shape := ⟨2, ![1, 256]⟩
abbrev S256 : Shape := ⟨1, ![256]⟩
abbrev S1x128x256 : Shape := ⟨3, ![1, 128, 256]⟩
abbrev S512x64 : Shape := ⟨2, ![512, 64]⟩
abbrev S512x256 : Shape := ⟨2, ![512, 256]⟩
abbrev S1x64 : Shape := ⟨2, ![1, 64]⟩
abbrev S1 : Shape := ⟨1, ![1]⟩
abbrev S1x1 : Shape := ⟨2, ![1, 1]⟩

abbrev nBuf : Space → Nat
  | .hbm => 15
  | .vmem => 19
  | .smem => 0
  | _ => 0

abbrev bufTy : (tb : Table) → Fin (tcTables nBuf tb) → BufTy
  | .hbm, ⟨0, _⟩ => ⟨S4x4096x1024, .bf16⟩
  | .hbm, ⟨1, _⟩ => ⟨S4x1x256x8x2x64, .f32⟩
  | .hbm, ⟨2, _⟩ => ⟨S4x1x256x8x128, .f32⟩
  | .hbm, ⟨3, _⟩ => ⟨S4x4096x1024, .bf16⟩
  | .hbm, ⟨4, _⟩ => ⟨S4x4096x1024, .bf16⟩
  | .hbm, ⟨5, _⟩ => ⟨S1x4x64, .f32⟩
  | .hbm, ⟨6, _⟩ => ⟨S1x128, .f32⟩
  | .hbm, ⟨7, _⟩ => ⟨S4x256x8x2x64, .f32⟩
  | .hbm, ⟨8, _⟩ => ⟨S4x256x1024, .f32⟩
  | .hbm, ⟨9, _⟩ => ⟨S4x256x8x128, .f32⟩
  | .hbm, ⟨10, _⟩ => ⟨S4x256x1024, .f32⟩
  | .hbm, ⟨11, _⟩ => ⟨S4x64, .f32⟩
  | .hbm, ⟨12, _⟩ => ⟨S128, .f32⟩
  | .hbm, ⟨13, _⟩ => ⟨S128x1, .f32⟩
  | .hbm, ⟨14, _⟩ => ⟨S4x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S4x64, .f32⟩
  | .local _ .vmem, ⟨11, _⟩ => ⟨S128x1, .f32⟩
  | .local _ .vmem, ⟨12, _⟩ => ⟨S1x256x128, .bf16⟩
  | .local _ .vmem, ⟨13, _⟩ => ⟨S1x256x128, .bf16⟩
  | .local _ .vmem, ⟨14, _⟩ => ⟨S128x256, .bf16⟩
  | .local _ .vmem, ⟨15, _⟩ => ⟨S8x128x512, .bf16⟩
  | .local _ .vmem, ⟨16, _⟩ => ⟨S2x128x256, .f32⟩
  | .local _ .vmem, ⟨17, _⟩ => ⟨S8x256, .f32⟩
  | .local _ .vmem, ⟨18, _⟩ => ⟨S8x256, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 16], ![false, false, false]⟩

@[reducible] def k0_t1_loop : Scf.Loop 32 :=
  let c0_i32_52 : BitVec 32 := 0#32
  let c8_i32 : BitVec 32 := 8#32
  let v87 : BitVec 32 := Scalar.addi c0_i32_52 c8_i32
  let c1_i32 : BitVec 32 := 1#32
  ⟨c0_i32_52, v87, c1_i32⟩
def k0_mult1 (k0_t1 : Fin k0_t1_loop.trips) : BitVec 32 :=
  let c0_i32_52 : BitVec 32 := 0#32
  let c1_i32 : BitVec 32 := 1#32
  let arg16 : BitVec 32 := Scf.iv c0_i32_52 c1_i32 k0_t1
  let c512_i32 : BitVec 32 := 512#32
  let v141 : BitVec 32 := Scalar.muli arg16 c512_i32
  v141
def k0_off1 (k0_t1 : Fin k0_t1_loop.trips) : Fin 3 → Nat :=
  let c0_79 : Index := 0#32
  let c0_i32_52 : BitVec 32 := 0#32
  let c1_i32 : BitVec 32 := 1#32
  let arg16 : BitVec 32 := Scf.iv c0_i32_52 c1_i32 k0_t1
  let c512_i32 : BitVec 32 := 512#32
  let v141 : BitVec 32 := Scalar.muli arg16 c512_i32
  let v142 : BitVec 32 := v141
  let v143 : Index := Scalar.indexCast v142
  let c0_80 : Index := 0#32
  ![0, v143.toNat, 0]
def k0_off2 (k0_t1 : Fin k0_t1_loop.trips) : Fin 3 → Nat :=
  let c0_i32_52 : BitVec 32 := 0#32
  let c1_i32 : BitVec 32 := 1#32
  let arg16 : BitVec 32 := Scf.iv c0_i32_52 c1_i32 k0_t1
  let v146 : Index := Scalar.indexCast arg16
  let c0_81 : Index := 0#32
  let c0_82 : Index := 0#32
  ![v146.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "neg_inf" => some ⊥
  | _ => none
-- ==== ReferenceIdeal.lean ====
abbrev S4x4096x1024 : Shape := ⟨3, ![4, 4096, 1024]⟩
abbrev S4x1x256x8x2x64 : Shape := ⟨6, ![4, 1, 256, 8, 2, 64]⟩
abbrev S4x1x256x8x128 : Shape := ⟨5, ![4, 1, 256, 8, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S4x4096x8x2x64 : Shape := ⟨5, ![4, 4096, 8, 2, 64]⟩
abbrev S4x4096x8x128 : Shape := ⟨4, ![4, 4096, 8, 128]⟩
abbrev S4x256x8x2x64 : Shape := ⟨5, ![4, 256, 8, 2, 64]⟩
abbrev S4x4352x8x2x64 : Shape := ⟨5, ![4, 4352, 8, 2, 64]⟩
abbrev S4x256x8x128 : Shape := ⟨4, ![4, 256, 8, 128]⟩
abbrev S4x4352x8x128 : Shape := ⟨4, ![4, 4352, 8, 128]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x1x4096x4352 : Shape := ⟨5, ![4, 8, 1, 4096, 4352]⟩
abbrev S4x8x4096x4352 : Shape := ⟨4, ![4, 8, 4096, 4352]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S128 : Shape := ⟨1, ![128]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x1x256x8x2x64, .f32⟩
  | .hbm, ⟨2, _⟩ => ⟨S4x1x256x8x128, .f32⟩
  | .hbm, ⟨3, _⟩ => ⟨S4x4096x1024, .bf16⟩
  | .hbm, ⟨4, _⟩ => ⟨S4x4096x1024, .bf16⟩
  | .hbm, ⟨5, _⟩ => ⟨S1x4x64, .f32⟩
  | .hbm, ⟨6, _⟩ => ⟨S1x128, .f32⟩
  | .hbm, ⟨7, _⟩ => ⟨S4x64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x4096x1024, .f32⟩
  | .hbm, ⟨28, _⟩ => ⟨S4x4096x8x2x64, .f32⟩
  | .hbm, ⟨29, _⟩ => ⟨S4x4096x1024, .f32⟩
  | .hbm, ⟨30, _⟩ => ⟨S4x4096x8x2x64, .f32⟩
  | .hbm, ⟨31, _⟩ => ⟨S4x4096x1024, .f32⟩
  | .hbm, ⟨32, _⟩ => ⟨S4x4096x8x128, .f32⟩
  | .hbm, ⟨33, _⟩ => ⟨S4x256x8x2x64, .f32⟩
  | .hbm, ⟨34, _⟩ => ⟨S4x4352x8x2x64, .f32⟩
  | .hbm, ⟨35, _⟩ => ⟨S4x256x8x128, .f32⟩
  | .hbm, ⟨36, _⟩ => ⟨S4x4352x8x128, .f32⟩
  | .hbm, ⟨37, _⟩ => ⟨S4x8x2x4096x4352, .f32⟩
  | .hbm, ⟨38, _⟩ => ⟨S_, .f32⟩
  | .hbm, ⟨39, _⟩ => ⟨S4x8x2x4096, .f32⟩
  | .hbm, ⟨40, _⟩ => ⟨S_, .f32⟩
  | .hbm, ⟨41, _⟩ => ⟨S4x8x2x4096, .f32⟩
  | .hbm, ⟨42, _⟩ => ⟨S4x8x2x4096, .f32⟩
  | .hbm, ⟨43, _⟩ => ⟨S4x8x2x4096x1, .f32⟩
  | .hbm, ⟨44, _⟩ => ⟨S4x8x2x4096x4352, .f32⟩
  | .hbm, ⟨45, _⟩ => ⟨S4x8x2x4096x4352, .f32⟩
  | .hbm, ⟨46, _⟩ => ⟨S4x8x2x4096x4352, .f32⟩
  | .hbm, ⟨47, _⟩ => ⟨S_, .f32⟩
  | .hbm, ⟨48, _⟩ => ⟨S4x8x2x4096, .f32⟩
  | .hbm, ⟨49, _⟩ => ⟨S4x8x2x4096x1, .f32⟩
  | .hbm, ⟨50, _⟩ => ⟨S4x8x2x4096x4352, .f32⟩
  | .hbm, ⟨51, _⟩ => ⟨S4x8x2x4096x4352, .f32⟩
  | .hbm, ⟨52, _⟩ => ⟨S4x8x1x4096x4352, .f32⟩
  | .hbm, ⟨53, _⟩ => ⟨S4x8x4096x4352, .f32⟩
  | .hbm, ⟨54, _⟩ => ⟨S4x8x1x4096x4352, .f32⟩
  | .hbm, ⟨55, _⟩ => ⟨S4x8x4096x4352, .f32⟩
  | .hbm, ⟨56, _⟩ => ⟨S4x8x4096x4352, .f32⟩
  | .hbm, ⟨57, _⟩ => ⟨S4x8x4096x4352, .f32⟩
  | .hbm, ⟨58, _⟩ => ⟨S4x8x4096x4352, .f32⟩
  | .hbm, ⟨59, _⟩ => ⟨S4x8x128x4096, .f32⟩
  | .hbm, ⟨60, _⟩ => ⟨S4x4096x8x128, .f32⟩
  | .hbm, ⟨61, _⟩ => ⟨S4x4096x8x128, .f32⟩
  | .hbm, ⟨62, _⟩ => ⟨S_, .f32⟩
  | .hbm, ⟨63, _⟩ => ⟨S4x4096x8, .f32⟩
  | .hbm, ⟨64, _⟩ => ⟨S4x4096x8x1, .f32⟩
  | .hbm, ⟨65, _⟩ => ⟨S_, .f32⟩
  | .hbm, ⟨66, _⟩ => ⟨S4x4096x8x1, .f32⟩
  | .hbm, ⟨67, _⟩ => ⟨S4x4096x8x1, .f32⟩
  | .hbm, ⟨68, _⟩ => ⟨S_, .f32⟩
  | .hbm, ⟨69, _⟩ => ⟨S4x4096x8x1, .f32⟩
  | .hbm, ⟨70, _⟩ => ⟨S4x4096x8x1, .f32⟩
  | .hbm, ⟨71, _⟩ => ⟨S4x4096x8x1, .f32⟩
  | .hbm, ⟨72, _⟩ => ⟨S4x4096x8x128, .f32⟩
  | .hbm, ⟨73, _⟩ => ⟨S4x4096x8x128, .f32⟩
  | .hbm, ⟨74, _⟩ => ⟨S128, .f32⟩
  | .hbm, ⟨75, _⟩ => ⟨S1x1x1x128, .f32⟩
  | .hbm, ⟨76, _⟩ => ⟨S4x4096x8x128, .f32⟩
  | .hbm, ⟨77, _⟩ => ⟨S4x4096x8x128, .f32⟩
  | .hbm, ⟨78, _⟩ => ⟨S_, .f32⟩
  | .hbm, ⟨79, _⟩ => ⟨S4x4096x8x128, .f32⟩
  | .hbm, ⟨80, _⟩ => ⟨S4x4096x8x128, .f32⟩
  | .hbm, ⟨81, _⟩ => ⟨S4x4096x1024, .f32⟩
  | .hbm, ⟨82, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Ffn.lean ====
abbrev S16384x1024 : Shape := ⟨2, ![16384, 1024]⟩
abbrev S8x6x1024 : Shape := ⟨3, ![8, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S16x1024 : Shape := ⟨2, ![16, 1024]⟩
abbrev S512x1024 : Shape := ⟨2, ![512, 1024]⟩
abbrev S1x6x1024 : Shape := ⟨3, ![1, 6, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S544x1024 : Shape := ⟨2, ![544, 1024]⟩
abbrev S544x256 : Shape := ⟨2, ![544, 256]⟩
abbrev S1x1x1024 : Shape := ⟨3, ![1, 1, 1024]⟩
abbrev S512x1 : Shape := ⟨2, ![512, 1]⟩
abbrev S512x256 : Shape := ⟨2, ![512, 256]⟩
abbrev S512 : Shape := ⟨1, ![512]⟩

abbrev nBuf : Space → Nat
  | .hbm => 14
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S2816x1024, .bf16⟩
  | .hbm, ⟨10, _⟩ => ⟨S1x5632, .f32⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S544x1024, .bf16⟩
  | .local _ .vmem, ⟨27, _⟩ => ⟨S544x256, .f32⟩
  | .local _ .vmem, ⟨28, _⟩ => ⟨S544x256, .f32⟩
  | .local _ .vmem, ⟨29, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v110 : BitVec 1 := Scalar.cmpi .eq arg1 c10_i32
  let v111 : BitVec 32 := Scalar.extui v110
  let c0_i32_53 : BitVec 32 := 0#32
  let v112 : BitVec 1 := Scalar.cmpi .ne v111 c0_i32_53
  v112

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S16384x1024 : Shape := ⟨2, ![16384, 1024]⟩
abbrev S8x6x1024 : Shape := ⟨3, ![8, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S4x4096x1024 : Shape := ⟨3, ![4, 4096, 1024]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S1x4x1x1024 : Shape := ⟨4, ![1, 4, 1, 1024]⟩
abbrev S4x1x1024 : Shape := ⟨3, ![4, 1, 1024]⟩
abbrev S_ : Shape := ⟨0, ![]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4x4096x1024, .f32⟩
  | .hbm, ⟨9, _⟩ => ⟨S4x6x1024, .f32⟩
  | .hbm, ⟨10, _⟩ => ⟨S6x4x1024, .f32⟩
  | .hbm, ⟨11, _⟩ => ⟨S6x4x1x1024, .f32⟩
  | .hbm, ⟨12, _⟩ => ⟨S1x4x1x1024, .f32⟩
  | .hbm, ⟨13, _⟩ => ⟨S4x1x1024, .f32⟩
  | .hbm, ⟨14, _⟩ => ⟨S1x4x1x1024, .f32⟩
  | .hbm, ⟨15, _⟩ => ⟨S4x1x1024, .f32⟩
  | .hbm, ⟨16, _⟩ => ⟨S1x4x1x1024, .f32⟩
  | .hbm, ⟨17, _⟩ => ⟨S4x1x1024, .f32⟩
  | .hbm, ⟨18, _⟩ => ⟨S_, .f32⟩
  | .hbm, ⟨19, _⟩ => ⟨S4x1x1024, .f32⟩
  | .hbm, ⟨20, _⟩ => ⟨S4x1x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x5632, .f32⟩
  | .hbm, ⟨26, _⟩ => ⟨S_, .i32⟩
  | .hbm, ⟨27, _⟩ => ⟨S_, .f32⟩
  | .hbm, ⟨28, _⟩ => ⟨S4x4098x5632, .f32⟩
  | .hbm, ⟨29, _⟩ => ⟨S4x4096x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S_, .f32⟩
  | .hbm, ⟨57, _⟩ => ⟨S4x4096x2816, .f32⟩
  | .hbm, ⟨58, _⟩ => ⟨S4x4096x2816, .f32⟩
  | .hbm, ⟨59, _⟩ => ⟨S_, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x1024, .f32⟩
  | .hbm, ⟨65, _⟩ => ⟨S_, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1024, .f32⟩
  | .hbm, ⟨87, _⟩ => ⟨S4x4096x1024, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S4x4096x1, .f32⟩
  | .hbm, ⟨92, _⟩ => ⟨S4x4096x1024, .f32⟩
  | .hbm, ⟨93, _⟩ => ⟨S4x4096x1024, .f32⟩
  | .hbm, ⟨94, _⟩ => ⟨S1x1x1024, .f32⟩
  | .hbm, ⟨95, _⟩ => ⟨S4x4096x1024, .f32⟩
  | .hbm, ⟨96, _⟩ => ⟨S4x4096x1024, .f32⟩
  | .hbm, ⟨97, _⟩ => ⟨S1x1x1024, .f32⟩
  | .hbm, ⟨98, _⟩ => ⟨S4x4096x1024, .f32⟩
  | .hbm, ⟨99, _⟩ => ⟨S4x4096x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_1 : Ref sig .tc := ⟨.hbm, 71, rfl⟩
abbrev main_v51 : Ref sig .tc := ⟨.hbm, 72, rfl⟩
abbrev main_v52 : Ref sig .tc := ⟨.hbm, 73, rfl⟩
abbrev main_cst_2 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Qkv.lean ====
abbrev S32x256x1024 : Shape := ⟨3, ![32, 256, 1024]⟩
abbrev S8x6x1024 : Shape := ⟨3, ![8, 6, 1024]⟩
abbrev S1x1024x3072 : Shape := ⟨3, ![1, 1024, 3072]⟩
abbrev S8192x1024 : Shape := ⟨2, ![8192, 1024]⟩
abbrev S1024x3072 : Shape := ⟨2, ![1024, 3072]⟩
abbrev S512x1024 : Shape := ⟨2, ![512, 1024]⟩
abbrev S1x6x1024 : Shape := ⟨3, ![1, 6, 1024]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S1x1024x3072, .f32⟩
  | .hbm, ⟨3, _⟩ => ⟨S8192x1024, .f32⟩
  | .hbm, ⟨4, _⟩ => ⟨S1024x3072, .f32⟩
  | .hbm, ⟨5, _⟩ => ⟨S1024x3072, .bf16⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRefIdeal.lean ====
abbrev S32x256x1024 : Shape := ⟨3, ![32, 256, 1024]⟩
abbrev S8x6x1024 : Shape := ⟨3, ![8, 6, 1024]⟩
abbrev S1x1024x3072 : Shape := ⟨3, ![1, 1024, 3072]⟩
abbrev S1x1x1024 : Shape := ⟨3, ![1, 1, 1024]⟩
abbrev S1024 : Shape := ⟨1, ![1024]⟩
abbrev S_ : Shape := ⟨0, ![]⟩
abbrev S1024x3072 : Shape := ⟨2, ![1024, 3072]⟩
abbrev S32x256x3072 : Shape := ⟨3, ![32, 256, 3072]⟩
abbrev S8192x1024 : Shape := ⟨2, ![8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S1x1024x3072, .f32⟩
  | .hbm, ⟨3, _⟩ => ⟨S1x1x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1x1024, .f32⟩
  | .hbm, ⟨9, _⟩ => ⟨S32x256x1024, .f32⟩
  | .hbm, ⟨10, _⟩ => ⟨S32x256x1024, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S32x256x1024, .f32⟩
  | .hbm, ⟨15, _⟩ => ⟨S32x256x1024, .f32⟩
  | .hbm, ⟨16, _⟩ => ⟨S1024x3072, .f32⟩
  | .hbm, ⟨17, _⟩ => ⟨S32x256x3072, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S32x256x1024, .f32⟩
  | .hbm, ⟨23, _⟩ => ⟨S32x256x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Out.lean ====
abbrev S4x4096x1024 : Shape := ⟨3, ![4, 4096, 1024]⟩
abbrev S1x1024x1024 : Shape := ⟨3, ![1, 1024, 1024]⟩
abbrev S16384x1024 : Shape := ⟨2, ![16384, 1024]⟩
abbrev S8x6x1024 : Shape := ⟨3, ![8, 6, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x4096x1024, .bf16⟩
  | .hbm, ⟨1, _⟩ => ⟨S1x1024x1024, .f32⟩
  | .hbm, ⟨2, _⟩ => ⟨S16384x1024, .f32⟩
  | .hbm, ⟨3, _⟩ => ⟨S8x6x1024, .f32⟩
  | .hbm, ⟨4, _⟩ => ⟨S1024, .f32⟩
  | .hbm, ⟨5, _⟩ => ⟨S1024, .f32⟩
  | .hbm, ⟨6, _⟩ => ⟨S16384x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S4x4096x1024 : Shape := ⟨3, ![4, 4096, 1024]⟩
abbrev S1x1024x1024 : Shape := ⟨3, ![1, 1024, 1024]⟩
abbrev S16384x1024 : Shape := ⟨2, ![16384, 1024]⟩
abbrev S8x6x1024 : Shape := ⟨3, ![8, 6, 1024]⟩
abbrev S1024 : Shape := ⟨1, ![1024]⟩
abbrev S1024x1024 : Shape := ⟨2, ![1024, 1024]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S1x1024x1024, .f32⟩
  | .hbm, ⟨2, _⟩ => ⟨S16384x1024, .f32⟩
  | .hbm, ⟨3, _⟩ => ⟨S8x6x1024, .f32⟩
  | .hbm, ⟨4, _⟩ => ⟨S1024, .f32⟩
  | .hbm, ⟨5, _⟩ => ⟨S1024, .f32⟩
  | .hbm, ⟨6, _⟩ => ⟨S4x4096x1024, .f32⟩
  | .hbm, ⟨7, _⟩ => ⟨S1024x1024, .f32⟩
  | .hbm, ⟨8, _⟩ => ⟨S4x4096x1024, .f32⟩
  | .hbm, ⟨9, _⟩ => ⟨S4x1x1024, .f32⟩
  | .hbm, ⟨10, _⟩ => ⟨S4x1024, .f32⟩
  | .hbm, ⟨11, _⟩ => ⟨S4x1x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S16384x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MlOut.lean ====
abbrev S16384x1024 : Shape := ⟨2, ![16384, 1024]⟩
abbrev S1x4x256 : Shape := ⟨3, ![1, 4, 256]⟩
abbrev S1x1024x1024 : Shape := ⟨3, ![1, 1024, 1024]⟩
abbrev S8x6x1024 : Shape := ⟨3, ![8, 6, 1024]⟩
abbrev S1024 : Shape := ⟨1, ![1024]⟩
abbrev S1024x1024 : Shape := ⟨2, ![1024, 1024]⟩
abbrev S4x256 : Shape := ⟨2, ![4, 256]⟩
abbrev S1x1024 : Shape := ⟨2, ![1, 1024]⟩
abbrev S512x1024 : Shape := ⟨2, ![512, 1024]⟩
abbrev S1x6x1024 : Shape := ⟨3, ![1, 6, 1024]⟩
abbrev S512x256 : Shape := ⟨2, ![512, 256]⟩
abbrev S512 : Shape := ⟨1, ![512]⟩
abbrev S512x1 : Shape := ⟨2, ![512, 1]⟩
abbrev S1x1x1024 : Shape := ⟨3, ![1, 1, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1x4x256, .f32⟩
  | .hbm, ⟨4, _⟩ => ⟨S1x1024x1024, .f32⟩
  | .hbm, ⟨5, _⟩ => ⟨S16384x1024, .f32⟩
  | .hbm, ⟨6, _⟩ => ⟨S8x6x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S4x256, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlOutRefIdeal.lean ====
abbrev S16384x1024 : Shape := ⟨2, ![16384, 1024]⟩
abbrev S1x4x256 : Shape := ⟨3, ![1, 4, 256]⟩
abbrev S1x1024x1024 : Shape := ⟨3, ![1, 1024, 1024]⟩
abbrev S8x6x1024 : Shape := ⟨3, ![8, 6, 1024]⟩
abbrev S1024 : Shape := ⟨1, ![1024]⟩
abbrev S4x4096x4x256 : Shape := ⟨4, ![4, 4096, 4, 256]⟩
abbrev S_ : Shape := ⟨0, ![]⟩
abbrev S4x4096x4 : Shape := ⟨3, ![4, 4096, 4]⟩
abbrev S4x4096x4x1 : Shape := ⟨4, ![4, 4096, 4, 1]⟩
abbrev S4x256 : Shape := ⟨2, ![4, 256]⟩
abbrev S1x1x4x256 : Shape := ⟨4, ![1, 1, 4, 256]⟩
abbrev S4x4096x1024 : Shape := ⟨3, ![4, 4096, 1024]⟩
abbrev S1024x1024 : Shape := ⟨2, ![1024, 1024]⟩
abbrev S4x1x1024 : Shape := ⟨3, ![4, 1, 1024]⟩
abbrev S4x1024 : Shape := ⟨2, ![4, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1x4x256, .f32⟩
  | .hbm, ⟨4, _⟩ => ⟨S1x1024x1024, .f32⟩
  | .hbm, ⟨5, _⟩ => ⟨S16384x1024, .f32⟩
  | .hbm, ⟨6, _⟩ => ⟨S8x6x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S4x4096x4x256, .f32⟩
  | .hbm, ⟨11, _⟩ => ⟨S_, .f32⟩
  | .hbm, ⟨12, _⟩ => ⟨S4x4096x4, .f32⟩
  | .hbm, ⟨13, _⟩ => ⟨S4x4096x4x1, .f32⟩
  | .hbm, ⟨14, _⟩ => ⟨S_, .f32⟩
  | .hbm, ⟨15, _⟩ => ⟨S4x4096x4x1, .f32⟩
  | .hbm, ⟨16, _⟩ => ⟨S4x4096x4x1, .f32⟩
  | .hbm, ⟨17, _⟩ => ⟨S4x4096x4x256, .f32⟩
  | .hbm, ⟨18, _⟩ => ⟨S4x4096x4x256, .f32⟩
  | .hbm, ⟨19, _⟩ => ⟨S4x4096x4x256, .f32⟩
  | .hbm, ⟨20, _⟩ => ⟨S_, .f32⟩
  | .hbm, ⟨21, _⟩ => ⟨S4x4096x4, .f32⟩
  | .hbm, ⟨22, _⟩ => ⟨S4x4096x4x1, .f32⟩
  | .hbm, ⟨23, _⟩ => ⟨S_, .f32⟩
  | .hbm, ⟨24, _⟩ => ⟨S4x4096x4x1, .f32⟩
  | .hbm, ⟨25, _⟩ => ⟨S4x4096x4x1, .f32⟩
  | .hbm, ⟨26, _⟩ => ⟨S4x4096x4x256, .f32⟩
  | .hbm, ⟨27, _⟩ => ⟨S4x4096x4x256, .f32⟩
  | .hbm, ⟨28, _⟩ => ⟨S_, .f32⟩
  | .hbm, ⟨29, _⟩ => ⟨S4x4096x4x1, .f32⟩
  | .hbm, ⟨30, _⟩ => ⟨S4x4096x4x1, .f32⟩
  | .hbm, ⟨31, _⟩ => ⟨S4x4096x4x1, .f32⟩
  | .hbm, ⟨32, _⟩ => ⟨S4x4096x4x256, .f32⟩
  | .hbm, ⟨33, _⟩ => ⟨S4x4096x4x256, .f32⟩
  | .hbm, ⟨34, _⟩ => ⟨S4x256, .f32⟩
  | .hbm, ⟨35, _⟩ => ⟨S1x1x4x256, .f32⟩
  | .hbm, ⟨36, _⟩ => ⟨S4x4096x4x256, .f32⟩
  | .hbm, ⟨37, _⟩ => ⟨S4x4096x4x256, .f32⟩
  | .hbm, ⟨38, _⟩ => ⟨S16384x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S1024x1024, .f32⟩
  | .hbm, ⟨43, _⟩ => ⟨S4x4096x1024, .f32⟩
  | .hbm, ⟨44, _⟩ => ⟨S4x1x1024, .f32⟩
  | .hbm, ⟨45, _⟩ => ⟨S4x1024, .f32⟩
  | .hbm, ⟨46, _⟩ => ⟨S4x1x1024, .f32⟩
  | .hbm, ⟨47, _⟩ => ⟨S4x4096x1024, .f32⟩
  | .hbm, ⟨48, _⟩ => ⟨S_, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== MlProj.lean ====
abbrev S16384x1024 : Shape := ⟨2, ![16384, 1024]⟩
abbrev S8x6x1024 : Shape := ⟨3, ![8, 6, 1024]⟩
abbrev S1x1024x3088 : Shape := ⟨3, ![1, 1024, 3088]⟩
abbrev S1x3x1024 : Shape := ⟨3, ![1, 3, 1024]⟩
abbrev S1x1024 : Shape := ⟨2, ![1, 1024]⟩
abbrev S1x16 : Shape := ⟨2, ![1, 16]⟩
abbrev S1024x3088 : Shape := ⟨2, ![1024, 3088]⟩
abbrev S1024x3072 : Shape := ⟨2, ![1024, 3072]⟩
abbrev S1024x16 : Shape := ⟨2, ![1024, 16]⟩
abbrev S3x1024 : Shape := ⟨2, ![3, 1024]⟩
abbrev S1024 : Shape := ⟨1, ![1024]⟩
abbrev S16 : Shape := ⟨1, ![16]⟩
abbrev S16x1024 : Shape := ⟨2, ![16, 1024]⟩
abbrev S16x1 : Shape := ⟨2, ![16, 1]⟩
abbrev S16384x512 : Shape := ⟨2, ![16384, 512]⟩
abbrev S16384x16 : Shape := ⟨2, ![16384, 16]⟩
abbrev S16x16384 : Shape := ⟨2, ![16, 16384]⟩
abbrev S512x1024 : Shape := ⟨2, ![512, 1024]⟩
abbrev S1x6x1024 : Shape := ⟨3, ![1, 6, 1024]⟩
abbrev S512x512 : Shape := ⟨2, ![512, 512]⟩
abbrev S512x16 : Shape := ⟨2, ![512, 16]⟩
abbrev S16x512 : Shape := ⟨2, ![16, 512]⟩
abbrev S544x1024 : Shape := ⟨2, ![544, 1024]⟩
abbrev S1x1x1024 : Shape := ⟨3, ![1, 1, 1024]⟩
abbrev S1024x1024 : Shape := ⟨2, ![1024, 1024]⟩
abbrev S512x1 : Shape := ⟨2, ![512, 1]⟩

abbrev nBuf : Space → Nat
  | .hbm => 24
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1x1024x3088, .f32⟩
  | .hbm, ⟨3, _⟩ => ⟨S1x3x1024, .f32⟩
  | .hbm, ⟨4, _⟩ => ⟨S1x1024, .f32⟩
  | .hbm, ⟨5, _⟩ => ⟨S1x16, .f32⟩
  | .hbm, ⟨6, _⟩ => ⟨S1024x3088, .f32⟩
  | .hbm, ⟨7, _⟩ => ⟨S1024x3072, .f32⟩
  | .hbm, ⟨8, _⟩ => ⟨S1024x3072, .bf16⟩
  | .hbm, ⟨9, _⟩ => ⟨S1024x3088, .f32⟩
  | .hbm, ⟨10, _⟩ => ⟨S1024x16, .f32⟩
  | .hbm, ⟨11, _⟩ => ⟨S3x1024, .f32⟩
  | .hbm, ⟨12, _⟩ => ⟨S1024, .f32⟩
  | .hbm, ⟨13, _⟩ => ⟨S16, .f32⟩
  | .hbm, ⟨14, _⟩ => ⟨S16x1024, .f32⟩
  | .hbm, ⟨15, _⟩ => ⟨S1x1024, .f32⟩
  | .hbm, ⟨16, _⟩ => ⟨S1x16, .f32⟩
  | .hbm, ⟨17, _⟩ => ⟨S16x1, .f32⟩
  | .hbm, ⟨18, _⟩ => ⟨S16384x512, .bf16⟩
  | .hbm, ⟨19, _⟩ => ⟨S16384x512, .bf16⟩
  | .hbm, ⟨20, _⟩ => ⟨S16384x1024, .bf16⟩
  | .hbm, ⟨21, _⟩ => ⟨S16384x1024, .bf16⟩
  | .hbm, ⟨22, _⟩ => ⟨S16384x16, .f32⟩
  | .hbm, ⟨23, _⟩ => ⟨S16x16384, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x3072, .bf16⟩
  | .local _ .vmem, ⟨9, _⟩ => ⟨S1024x16, .f32⟩
  | .local _ .vmem, ⟨10, _⟩ => ⟨S16x1024, .f32⟩
  | .local _ .vmem, ⟨11, _⟩ => ⟨S3x1024, .f32⟩
  | .local _ .vmem, ⟨12, _⟩ => ⟨S1x1024, .f32⟩
  | .local _ .vmem, ⟨13, _⟩ => ⟨S1x16, .f32⟩
  | .local _ .vmem, ⟨14, _⟩ => ⟨S16x1, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x16, .f32⟩
  | .local _ .vmem, ⟨24, _⟩ => ⟨S512x16, .f32⟩
  | .local _ .vmem, ⟨25, _⟩ => ⟨S16x512, .f32⟩
  | .local _ .vmem, ⟨26, _⟩ => ⟨S16x512, .f32⟩
  | .local _ .vmem, ⟨27, _⟩ => ⟨S544x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MlProjRefIdeal.lean ====
abbrev S16384x1024 : Shape := ⟨2, ![16384, 1024]⟩
abbrev S8x6x1024 : Shape := ⟨3, ![8, 6, 1024]⟩
abbrev S1x1024x3088 : Shape := ⟨3, ![1, 1024, 3088]⟩
abbrev S1x3x1024 : Shape := ⟨3, ![1, 3, 1024]⟩
abbrev S1x1024 : Shape := ⟨2, ![1, 1024]⟩
abbrev S1x16 : Shape := ⟨2, ![1, 16]⟩
abbrev S4x4096x1024 : Shape := ⟨3, ![4, 4096, 1024]⟩
abbrev S4x1x1024 : Shape := ⟨3, ![4, 1, 1024]⟩
abbrev S4x1024 : Shape := ⟨2, ![4, 1024]⟩
abbrev S_ : Shape := ⟨0, ![]⟩
abbrev S1024x3088 : Shape := ⟨2, ![1024, 3088]⟩
abbrev S4x4096x3088 : Shape := ⟨3, ![4, 4096, 3088]⟩
abbrev S4x4096x16 : Shape := ⟨3, ![4, 4096, 16]⟩
abbrev S3x1024 : Shape := ⟨2, ![3, 1024]⟩
abbrev S1024 : Shape := ⟨1, ![1024]⟩
abbrev S4x4098x1024 : Shape := ⟨3, ![4, 4098, 1024]⟩
abbrev S1x1x1024 : Shape := ⟨3, ![1, 1, 1024]⟩
abbrev S4x4096x512 : Shape := ⟨3, ![4, 4096, 512]⟩
abbrev S16 : Shape := ⟨1, ![16]⟩
abbrev S1x1x16 : Shape := ⟨3, ![1, 1, 16]⟩
abbrev S16384x16 : Shape := ⟨2, ![16384, 16]⟩
abbrev S16384x512 : Shape := ⟨2, ![16384, 512]⟩
abbrev S16x16384 : Shape := ⟨2, ![16, 16384]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1x1024x3088, .f32⟩
  | .hbm, ⟨3, _⟩ => ⟨S1x3x1024, .f32⟩
  | .hbm, ⟨4, _⟩ => ⟨S1x1024, .f32⟩
  | .hbm, ⟨5, _⟩ => ⟨S1x16, .f32⟩
  | .hbm, ⟨6, _⟩ => ⟨S4x4096x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S4x4096x1024, .f32⟩
  | .hbm, ⟨15, _⟩ => ⟨S4x1x1024, .f32⟩
  | .hbm, ⟨16, _⟩ => ⟨S4x1024, .f32⟩
  | .hbm, ⟨17, _⟩ => ⟨S4x1x1024, .f32⟩
  | .hbm, ⟨18, _⟩ => ⟨S4x4096x1024, .f32⟩
  | .hbm, ⟨19, _⟩ => ⟨S4x4096x1024, .f32⟩
  | .hbm, ⟨20, _⟩ => ⟨S1024x3088, .f32⟩
  | .hbm, ⟨21, _⟩ => ⟨S4x4096x3088, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x16, .f32⟩
  | .hbm, ⟨26, _⟩ => ⟨S3x1024, .f32⟩
  | .hbm, ⟨27, _⟩ => ⟨S1024, .f32⟩
  | .hbm, ⟨28, _⟩ => ⟨S_, .i32⟩
  | .hbm, ⟨29, _⟩ => ⟨S_, .f32⟩
  | .hbm, ⟨30, _⟩ => ⟨S4x4098x1024, .f32⟩
  | .hbm, ⟨31, _⟩ => ⟨S4x4096x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x512, .f32⟩
  | .hbm, ⟨64, _⟩ => ⟨S4x4096x512, .f32⟩
  | .hbm, ⟨65, _⟩ => ⟨S16, .f32⟩
  | .hbm, ⟨66, _⟩ => ⟨S1x1x16, .f32⟩
  | .hbm, ⟨67, _⟩ => ⟨S4x4096x16, .f32⟩
  | .hbm, ⟨68, _⟩ => ⟨S4x4096x16, .f32⟩
  | .hbm, ⟨69, _⟩ => ⟨S16384x16, .f32⟩
  | .hbm, ⟨70, _⟩ => ⟨S16384x512, .f32⟩
  | .hbm, ⟨71, _⟩ => ⟨S16384x512, .bf16⟩
  | .hbm, ⟨72, _⟩ => ⟨S_, .f32⟩
  | .hbm, ⟨73, _⟩ => ⟨S4x4096x512, .f32⟩
  | .hbm, ⟨74, _⟩ => ⟨S4x4096x512, .f32⟩
  | .hbm, ⟨75, _⟩ => ⟨S16384x512, .f32⟩
  | .hbm, ⟨76, _⟩ => ⟨S16384x512, .bf16⟩
  | .hbm, ⟨77, _⟩ => ⟨S16384x1024, .f32⟩
  | .hbm, ⟨78, _⟩ => ⟨S16384x1024, .bf16⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x4096x1024, .f32⟩
  | .hbm, ⟨83, _⟩ => ⟨S4x4096x1024, .f32⟩
  | .hbm, ⟨84, _⟩ => ⟨S_, .f32⟩
  | .hbm, ⟨85, _⟩ => ⟨S4x4096x1024, .f32⟩
  | .hbm, ⟨86, _⟩ => ⟨S4x4096x1024, .f32⟩
  | .hbm, ⟨87, _⟩ => ⟨S16384x1024, .f32⟩
  | .hbm, ⟨88, _⟩ => ⟨S16384x1024, .bf16⟩
  | .hbm, ⟨89, _⟩ => ⟨S16x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_1 : Ref sig .tc := ⟨.hbm, 81, rfl⟩
abbrev main_v63 : Ref sig .tc := ⟨.hbm, 82, rfl⟩
abbrev main_v64 : Ref sig .tc := ⟨.hbm, 83, rfl⟩
abbrev main_cst_2 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== PFfn.lean ====
abbrev S8192x1024 : Shape := ⟨2, ![8192, 1024]⟩
abbrev S8x6x1024 : Shape := ⟨3, ![8, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S16x1024 : Shape := ⟨2, ![16, 1024]⟩
abbrev S512x1024 : Shape := ⟨2, ![512, 1024]⟩
abbrev S1x6x1024 : Shape := ⟨3, ![1, 6, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S544x1024 : Shape := ⟨2, ![544, 1024]⟩
abbrev S544x256 : Shape := ⟨2, ![544, 256]⟩
abbrev S1x1x1024 : Shape := ⟨3, ![1, 1, 1024]⟩
abbrev S512x1 : Shape := ⟨2, ![512, 1]⟩
abbrev S512x256 : Shape := ⟨2, ![512, 256]⟩
abbrev S512 : Shape := ⟨1, ![512]⟩

abbrev nBuf : Space → Nat
  | .hbm => 14
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S2816x1024, .bf16⟩
  | .hbm, ⟨10, _⟩ => ⟨S1x5632, .f32⟩
  | .hbm, ⟨11, _⟩ => ⟨S1x1024, .f32⟩
  | .hbm, ⟨12, _⟩ => ⟨S1x1024, .f32⟩
  | .hbm, ⟨13, _⟩ => ⟨S8192x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S1x6x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S544x1024, .bf16⟩
  | .local _ .vmem, ⟨26, _⟩ => ⟨S544x256, .f32⟩
  | .local _ .vmem, ⟨27, _⟩ => ⟨S544x256, .f32⟩
  | .local _ .vmem, ⟨28, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v110 : BitVec 1 := Scalar.cmpi .eq arg1 c10_i32
  let v111 : BitVec 32 := Scalar.extui v110
  let c0_i32_53 : BitVec 32 := 0#32
  let v112 : BitVec 1 := Scalar.cmpi .ne v111 c0_i32_53
  v112

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== PFfnRefIdeal.lean ====
abbrev S8192x1024 : Shape := ⟨2, ![8192, 1024]⟩
abbrev S8x6x1024 : Shape := ⟨3, ![8, 6, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32x256x1024 : Shape := ⟨3, ![32, 256, 1024]⟩
abbrev S1x1x1024 : Shape := ⟨3, ![1, 1, 1024]⟩
abbrev S_ : Shape := ⟨0, ![]⟩
abbrev S32x256x5632 : Shape := ⟨3, ![32, 256, 5632]⟩
abbrev S32x258x5632 : Shape := ⟨3, ![32, 258, 5632]⟩
abbrev S1x5632 : Shape := ⟨2, ![1, 5632]⟩
abbrev S1x1x5632 : Shape := ⟨3, ![1, 1, 5632]⟩
abbrev S32x256x2816 : Shape := ⟨3, ![32, 256, 2816]⟩
abbrev S32x256 : Shape := ⟨2, ![32, 256]⟩
abbrev S32x256x1 : Shape := ⟨3, ![32, 256, 1]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S32x256x1024, .f32⟩
  | .hbm, ⟨9, _⟩ => ⟨S1x1x1024, .f32⟩
  | .hbm, ⟨10, _⟩ => ⟨S1024, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S32x256x5632, .f32⟩
  | .hbm, ⟨25, _⟩ => ⟨S_, .i32⟩
  | .hbm, ⟨26, _⟩ => ⟨S_, .f32⟩
  | .hbm, ⟨27, _⟩ => ⟨S32x258x5632, .f32⟩
  | .hbm, ⟨28, _⟩ => ⟨S32x256x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S32x256x5632, .f32⟩
  | .hbm, ⟨33, _⟩ => ⟨S32x256x5632, .f32⟩
  | .hbm, ⟨34, _⟩ => ⟨S32x256x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S32x256x5632, .f32⟩
  | .hbm, ⟨39, _⟩ => ⟨S32x256x5632, .f32⟩
  | .hbm, ⟨40, _⟩ => ⟨S32x256x5632, .f32⟩
  | .hbm, ⟨41, _⟩ => ⟨S32x256x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S32x256x5632, .f32⟩
  | .hbm, ⟨46, _⟩ => ⟨S32x256x5632, .f32⟩
  | .hbm, ⟨47, _⟩ => ⟨S32x256x5632, .f32⟩
  | .hbm, ⟨48, _⟩ => ⟨S1x1x5632, .f32⟩
  | .hbm, ⟨49, _⟩ => ⟨S32x256x5632, .f32⟩
  | .hbm, ⟨50, _⟩ => ⟨S32x256x5632, .f32⟩
  | .hbm, ⟨51, _⟩ => ⟨S32x256x2816, .f32⟩
  | .hbm, ⟨52, _⟩ => ⟨S32x256x2816, .f32⟩
  | .hbm, ⟨53, _⟩ => ⟨S32x256x2816, .f32⟩
  | .hbm, ⟨54, _⟩ => ⟨S32x256x2816, .f32⟩
  | .hbm, ⟨55, _⟩ => ⟨S_, .f32⟩
  | .hbm, ⟨56, _⟩ => ⟨S32x256x2816, .f32⟩
  | .hbm, ⟨57, _⟩ => ⟨S32x256x2816, .f32⟩
  | .hbm, ⟨58, _⟩ => ⟨S_, .f32⟩
  | .hbm, ⟨59, _⟩ => ⟨S32x256x2816, .f32⟩
  | .hbm, ⟨60, _⟩ => ⟨S32x256x2816, .f32⟩
  | .hbm, ⟨61, _⟩ => ⟨S32x256x2816, .f32⟩
  | .hbm, ⟨62, _⟩ => ⟨S32x256x2816, .f32⟩
  | .hbm, ⟨63, _⟩ => ⟨S32x256x1024, .f32⟩
  | .hbm, ⟨64, _⟩ => ⟨S_, .f32⟩
  | .hbm, ⟨65, _⟩ => ⟨S32x256x1024, .f32⟩
  | .hbm, ⟨66, _⟩ => ⟨S32x256x1024, .f32⟩
  | .hbm, ⟨67, _⟩ => ⟨S1x1x1024, .f32⟩
  | .hbm, ⟨68, _⟩ => ⟨S32x256x1024, .f32⟩
  | .hbm, ⟨69, _⟩ => ⟨S32x256x1024, .f32⟩
  | .hbm, ⟨70, _⟩ => ⟨S32x256x1024, .f32⟩
  | .hbm, ⟨71, _⟩ => ⟨S_, .f32⟩
  | .hbm, ⟨72, _⟩ => ⟨S32x256, .f32⟩
  | .hbm, ⟨73, _⟩ => ⟨S32x256x1, .f32⟩
  | .hbm, ⟨74, _⟩ => ⟨S_, .f32⟩
  | .hbm, ⟨75, _⟩ => ⟨S32x256x1, .f32⟩
  | .hbm, ⟨76, _⟩ => ⟨S32x256x1, .f32⟩
  | .hbm, ⟨77, _⟩ => ⟨S32x256x1024, .f32⟩
  | .hbm, ⟨78, _⟩ => ⟨S32x256x1024, .f32⟩
  | .hbm, ⟨79, _⟩ => ⟨S32x256x1024, .f32⟩
  | .hbm, ⟨80, _⟩ => ⟨S_, .f32⟩
  | .hbm, ⟨81, _⟩ => ⟨S32x256, .f32⟩
  | .hbm, ⟨82, _⟩ => ⟨S32x256x1, .f32⟩
  | .hbm, ⟨83, _⟩ => ⟨S_, .f32⟩
  | .hbm, ⟨84, _⟩ => ⟨S32x256x1, .f32⟩
  | .hbm, ⟨85, _⟩ => ⟨S32x256x1, .f32⟩
  | .hbm, ⟨86, _⟩ => ⟨S32x256x1024, .f32⟩
  | .hbm, ⟨87, _⟩ => ⟨S32x256x1024, .f32⟩
  | .hbm, ⟨88, _⟩ => ⟨S_, .f32⟩
  | .hbm, ⟨89, _⟩ => ⟨S32x256x1, .f32⟩
  | .hbm, ⟨90, _⟩ => ⟨S32x256x1, .f32⟩
  | .hbm, ⟨91, _⟩ => ⟨S32x256x1, .f32⟩
  | .hbm, ⟨92, _⟩ => ⟨S32x256x1024, .f32⟩
  | .hbm, ⟨93, _⟩ => ⟨S32x256x1024, .f32⟩
  | .hbm, ⟨94, _⟩ => ⟨S1x1x1024, .f32⟩
  | .hbm, ⟨95, _⟩ => ⟨S32x256x1024, .f32⟩
  | .hbm, ⟨96, _⟩ => ⟨S32x256x1024, .f32⟩
  | .hbm, ⟨97, _⟩ => ⟨S1x1x1024, .f32⟩
  | .hbm, ⟨98, _⟩ => ⟨S32x256x1024, .f32⟩
  | .hbm, ⟨99, _⟩ => ⟨S32x256x1024, .f32⟩
  | .hbm, ⟨100, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_1 : Ref sig .tc := ⟨.hbm, 71, rfl⟩
abbrev main_v51 : Ref sig .tc := ⟨.hbm, 72, rfl⟩
abbrev main_v52 : Ref sig .tc := ⟨.hbm, 73, rfl⟩
abbrev main_cst_2 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Mod.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.FfnSpec.lean ====
module

public import Idealize.ShloMosaic.Lib.Pointwise
public import Idealize.ShloMosaic.PureOps.Ideal.Laws

@[expose] public section

noncomputable section

/-! The gated convolutional feed-forward of `N` rows in sequences of `L` rows, as functions of the entries of its
    arguments: `X` the rows, `M` the six modulation vectors of each row, `U` and `D` the two weight matrices, `CW` and
    `CB` the taps and the bias of the convolution, `G` and `B` the scale and the shift of the final norm. -/

namespace Cert.FfnSpec

open Idealize.ShloMosaic

/-- The latent sequence a row belongs to, as the row of the modulation table it reads. -/
def seqOf (r : ℕ) (h : r < 16384) : Fin 8 := ⟨1 + r / 4096, by omega⟩

variable {N : ℕ}

/-- The rows are whole sequences: a row that is not a sequence's first has the row before it in the same sequence, and
    one that is not the last the row after it. -/
structure Seqs (N L : ℕ) : Prop where
  fits : ∀ r < N, r % L ≠ L - 1 → r + 1 < N
  before : ∀ r, r % L ≠ 0 → (r - 1) / L = r / L
  after : ∀ r, r % L ≠ L - 1 → (r + 1) / L = r / L

/-- An entry modulated: scaled by one plus the scale, and shifted. -/
def modul (X : Fin N → Fin 1024 → EReal) (M : Fin N → Fin 6 → Fin 1024 → EReal) (r : Fin N) (k : Fin 1024) : EReal :=
  X r k * (1 + M r 4 k) + M r 3 k

/-- The up-projection of a modulated row. -/
def up (X : Fin N → Fin 1024 → EReal) (M : Fin N → Fin 6 → Fin 1024 → EReal) (U : Fin 1024 → Fin 5632 → EReal)
    (r : Fin N) (n : Fin 5632) : EReal := ∑ k, modul X M r k * U k n

/-- The row before, or zero at the first row of a sequence. -/
def before (L : ℕ) (u : Fin N → Fin 5632 → EReal) (r : Fin N) (n : Fin 5632) : EReal :=
  if h : r.val % L = 0 then 0 else u ⟨r.val - 1, by have := r.isLt; omega⟩ n

/-- The row after, or zero at the last row of a sequence, and where there is none. -/
def after (L : ℕ) (u : Fin N → Fin 5632 → EReal) (r : Fin N) (n : Fin 5632) : EReal :=
  if h : r.val % L = L - 1 ∨ N ≤ r.val + 1 then 0 else u ⟨r.val + 1, by omega⟩ n

/-- The three taps of the convolution along a sequence, and its bias. -/
def conv (L : ℕ) (u : Fin N → Fin 5632 → EReal) (CW : Fin 3 → Fin 5632 → EReal) (CB : Fin 5632 → EReal)
    (r : Fin N) (n : Fin 5632) : EReal :=
  before L u r n * CW 0 n + u r n * CW 1 n + after L u r n * CW 2 n + CB n

/-- The first half of the channels, through `x / (1 + exp (-x))`, times the second half. -/
def act (v : Fin N → Fin 5632 → EReal) (r : Fin N) (n : Fin 2816) : EReal :=
  v r ⟨n.val, by omega⟩ * Ideal.div 1 (1 + Ideal.exp (-(v r ⟨n.val, by omega⟩))) * v r ⟨2816 + n.val, by omega⟩

/-- The gated activations of all rows. -/
def hidden (L : ℕ) (X : Fin N → Fin 1024 → EReal) (M : Fin N → Fin 6 → Fin 1024 → EReal) (U : Fin 1024 → Fin 5632 → EReal)
    (CW : Fin 3 → Fin 5632 → EReal) (CB : Fin 5632 → EReal) : Fin N → Fin 2816 → EReal :=
  act (conv L (up X M U) CW CB)

/-- The feed-forward of a row, gated, added to `√2` times the row. -/
def res (X : Fin N → Fin 1024 → EReal) (M : Fin N → Fin 6 → Fin 1024 → EReal) (a : Fin N → Fin 2816 → EReal)
    (D : Fin 2816 → Fin 1024 → EReal) (r : Fin N) (k : Fin 1024) : EReal :=
  Ideal.ofBits .f32 0x3FB504F3#32 * X r k + M r 5 k * ∑ n, a r n * D n k

/-- The mean of a row of 1024 entries. -/
def mean (x : Fin 1024 → EReal) : EReal := Ideal.div (∑ k, x k) (Ideal.ofBits .f32 0x44800000#32)

/-- A row normed to mean zero and variance one, scaled by `G` and shifted by `B`. -/
def norm (x : Fin 1024 → EReal) (G B : Fin 1024 → EReal) (k : Fin 1024) : EReal :=
  (x k - mean x) * Ideal.rsqrt (mean (fun l => (x l - mean x) * (x l - mean x)) + Ideal.ofBits .f32 0x3727C5AC#32) * G k + B k

/-- The second half of a layer on its rows. -/
def out (L : ℕ) (X : Fin N → Fin 1024 → EReal) (M : Fin N → Fin 6 → Fin 1024 → EReal) (U : Fin 1024 → Fin 5632 → EReal)
    (CW : Fin 3 → Fin 5632 → EReal) (CB : Fin 5632 → EReal) (D : Fin 2816 → Fin 1024 → EReal) (G B : Fin 1024 → EReal)
    (r : Fin N) : Fin 1024 → EReal :=
  norm (res X M (hidden L X M U CW CB) D r) G B

end Cert.FfnSpec

end
-- ==== Proof.FfnRef.lean ====
module

public import proofs.«01_k».proof.Proof.Gen.FfnRefIdeal.Run
public import proofs.«01_k».proof.Proof.FfnSpec

@[expose] public section

set_option maxRecDepth 16384

noncomputable section

/-! The feed-forward reference, its named intermediate arrays read at an index. -/

namespace Cert.FfnRefIdeal.Value

open Cert.FfnRefIdeal Cert.FfnRefIdeal.Gen Idealize.ShloMosaic Idealize.ShloMosaic.TcCoe Idealize.SL.Sem
open Cert.FfnSpec

variable (V0 : Valuation τ sig (Elt Ideal))

/-- The arguments by their entries. -/
def aX (r : Fin 16384) (k : Fin 1024) : EReal := (V0 (Proc.devRef .tc main_arg0) : FVec Ideal S16384x1024 .f32) (ix2 r k)
def aM (s : Fin 8) (j : Fin 6) (k : Fin 1024) : EReal := (V0 (Proc.devRef .tc main_arg1) : FVec Ideal S8x6x1024 .f32) (ix3 s j k)
def aU (k : Fin 1024) (n : Fin 5632) : EReal := (V0 (Proc.devRef .tc main_arg2) : FVec Ideal S1024x5632 .f32) (ix2 k n)
def aCW (j : Fin 3) (n : Fin 5632) : EReal := (V0 (Proc.devRef .tc main_arg3) : FVec Ideal S3x5632 .f32) (ix2 j n)
def aCB (n : Fin 5632) : EReal := (V0 (Proc.devRef .tc main_arg4) : FVec Ideal S5632 .f32) (ix1 n)
def aD (n : Fin 2816) (k : Fin 1024) : EReal := (V0 (Proc.devRef .tc main_arg5) : FVec Ideal S2816x1024 .f32) (ix2 n k)
def aG (k : Fin 1024) : EReal := (V0 (Proc.devRef .tc main_arg6) : FVec Ideal S1024 .f32) (ix1 k)
def aB (k : Fin 1024) : EReal := (V0 (Proc.devRef .tc main_arg7) : FVec Ideal S1024 .f32) (ix1 k)

/-- The modulation of a row: its sequence's. -/
def rM (r : Fin 16384) : Fin 6 → Fin 1024 → EReal := aM V0 (seqOf r.val r.isLt)

theorem seq_at (b : Fin 4) (l : ℕ) (hl : l < 4096) (h : b.val * 4096 + l < 16384) :
    seqOf (b.val * 4096 + l) h = ⟨1 + b.val, by omega⟩ := by
  apply Fin.ext
  show 1 + (b.val * 4096 + l) / 4096 = 1 + b.val
  omega

/-- The padded up-projection: a zero row, the rows of the sequence, a zero row. -/
theorem res17 (b : Fin 4) (p : Fin 4098) (n : Fin 5632) :
    (res_main_v17 V0 : FVec Ideal S4x4098x5632 .f32) (ix3 b p n)
      = if h : 1 ≤ p.val ∧ p.val - 1 < 4096 then up (aX V0) (rM V0) (aU V0) ⟨b.val * 4096 + (p.val - 1), by omega⟩ n else 0 := by
  pointwise [res_main_v17, res_main_v0, res_main_v3]
  by_cases h : 1 ≤ p.val ∧ p.val - 1 < 4096
  · rw [dif_pos h, dif_pos h]
    unfold up modul rM
    rw [seq_at b (p.val - 1) h.2]
    rfl
  · rw [dif_neg h, dif_neg h]
    exact show ((((0#32 : BitVec 32).toInt : ℤ) : ℝ) : EReal) = 0 by simp

/-- The convolution of the up-projection. -/
theorem res40 (b : Fin 4) (l : Fin 4096) (n : Fin 5632) :
    (res_main_v40 V0 : FVec Ideal S4x4096x5632 .f32) (ix3 b l n)
      = conv 4096 (up (aX V0) (rM V0) (aU V0)) (aCW V0) (aCB V0) ⟨b.val * 4096 + l.val, by omega⟩ n := by
  pointwise [res_main_v40]
  have hb := b.isLt
  have hl := l.isLt
  have e0 : (res_main_v17 V0 : FVec Ideal S4x4098x5632 .f32) (ix3 b ⟨l.val, by omega⟩ n)
      = FfnSpec.before 4096 (up (aX V0) (rM V0) (aU V0)) ⟨b.val * 4096 + l.val, by omega⟩ n := by
    rw [res17]
    unfold FfnSpec.before
    by_cases h : l.val = 0
    · rw [dif_neg (by dsimp only; omega), dif_pos (by dsimp only; omega)]
    · rw [dif_pos (by dsimp only; omega), dif_neg (by dsimp only; omega)]
      congr 1
      apply Fin.ext
      dsimp only
      omega
  have e1 : (res_main_v17 V0 : FVec Ideal S4x4098x5632 .f32) (ix3 b ⟨1 + l.val, by omega⟩ n)
      = up (aX V0) (rM V0) (aU V0) ⟨b.val * 4096 + l.val, by omega⟩ n := by
    rw [res17, dif_pos (by dsimp only; omega)]
    congr 1
    apply Fin.ext
    dsimp only
    omega
  have e2 : (res_main_v17 V0 : FVec Ideal S4x4098x5632 .f32) (ix3 b ⟨2 + l.val, by omega⟩ n)
      = FfnSpec.after 4096 (up (aX V0) (rM V0) (aU V0)) ⟨b.val * 4096 + l.val, by omega⟩ n := by
    rw [res17]
    unfold FfnSpec.after
    by_cases h : l.val = 4095
    · rw [dif_neg (by dsimp only; omega), dif_pos (by dsimp only; omega)]
    · rw [dif_pos (by dsimp only; omega), dif_neg (by dsimp only; omega)]
      congr 1
      apply Fin.ext
      dsimp only
      omega
  rw [e0, e1, e2]
  rfl

/-- The residual sum before the norm. -/
theorem res50 (b : Fin 4) (l : Fin 4096) (k : Fin 1024) :
    (res_main_v50 V0 : FVec Ideal S4x4096x1024 .f32) (ix3 b l k)
      = res (aX V0) (rM V0) (hidden 4096 (aX V0) (rM V0) (aU V0) (aCW V0) (aCB V0)) (aD V0) ⟨b.val * 4096 + l.val, by omega⟩ k := by
  pointwise [res_main_v50, res_main_v41, res_main_v0, res_main_v3]
  simp only [res40]
  unfold res rM
  rw [seq_at b l.val l.isLt]
  rfl

/-- The mean of a row. -/
theorem res54 (b : Fin 4) (l : Fin 4096) (z : Fin 1) :
    (res_main_v54 V0 : FVec Ideal S4x4096x1 .f32) (ix3 b l z)
      = mean fun k => (res_main_v50 V0 : FVec Ideal S4x4096x1024 .f32) (ix3 b l k) := by
  pointwise [res_main_v54]
  rfl

/-- The reference's result, as `run` states it, is the second half of the layer. -/
theorem res75 (r : Fin 16384) (k : Fin 1024) :
    (shapeCast _ (addf (mulf (mulf (subf (res_main_v50 V0) (broadcastInDim S4x4096x1024 ![0, 1, 2] bcast_S4x4096x1_S4x4096x1024_0_1_2 (res_main_v54 V0))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v56 V0) (res_main_v56 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (V0 (Proc.devRef .tc main_arg6))))) (broadcastInDim S4x4096x1024 ![0, 1, 2] bcast_S1x1x1024_S4x4096x1024_0_1_2 (broadcastInDim S1x1x1024 ![2] bcast_S1024_S1x1x1024_2 (V0 (Proc.devRef .tc main_arg7))))) shapeCasts_S4x4096x1024_S16384x1024 : FVec Ideal S16384x1024 .f32) (ix2 r k)
      = out 4096 (aX V0) (rM V0) (aU V0) (aCW V0) (aCB V0) (aD V0) (aG V0) (aB V0) r k := by
  pointwise [res_main_v56]
  simp only [res54, res50]
  have e : (⟨r.val / 4096 * 4096 + r.val % 4096, by omega⟩ : Fin 16384) = r := Fin.ext (by dsimp only; omega)
  simp only [e]
  rfl

end Cert.FfnRefIdeal.Value

end
-- ==== Proof.FfnKer.lean ====
module

public import proofs.«01_k».proof.Proof.Gen.FfnIdeal.Skeleton
public import proofs.«01_k».proof.Proof.FfnSpec
public import Idealize.ShloMosaic.Lib.Pipeline.ValueKit

@[expose] public section

set_option maxRecDepth 16384

noncomputable section

/-! What the body of the feed-forward kernel computes, read at an index. -/

namespace Cert.FfnIdeal.Value

open Cert.FfnIdeal Cert.FfnIdeal.Gen Idealize.ShloMosaic Idealize.ShloMosaic.TcCoe Idealize.SL.Sem
open Cert.FfnSpec

/-- The part of a point that adds one column tile of the hidden layer to the accumulator. -/
def tile (m5 m6 : IVec S512x1 1) (h : FVec Ideal S544x1024 .bf16) (wg wv : FVec Ideal S1024x256 .bf16) (cg cv : FVec Ideal S3x256 .f32)
    (bg bv : FVec Ideal S1x256 .f32) (acc : FVec Ideal S512x1024 .f32) (wd : FVec Ideal S256x1024 .bf16) : FVec Ideal S512x1024 .f32 :=
  k0_pay12 m6
    (k0_pay10 m5 m6
      (View.ld (Val := Elt Ideal) (S := S544x256) (e' := .f32) (k0_pay7 (F := Ideal) h wg) (Rect.unit ![15, 0] ![512, 256] inb_S544x256_S512x256_15_0))
      (View.ld (Val := Elt Ideal) (S := S544x256) (e' := .f32) (k0_pay7 (F := Ideal) h wg) (Rect.unit ![16, 0] ![512, 256] inb_S544x256_S512x256_16_0))
      (View.ld (Val := Elt Ideal) (S := S544x256) (e' := .f32) (k0_pay7 (F := Ideal) h wg) (Rect.unit ![17, 0] ![512, 256] inb_S544x256_S512x256_17_0))
      (View.ld (Val := Elt Ideal) (S := S3x256) (e' := .f32) cg (Rect.unit ![0, 0] ![1, 256] inb_S3x256_S1x256_0_0))
      (View.ld (Val := Elt Ideal) (S := S3x256) (e' := .f32) cg (Rect.unit ![1, 0] ![1, 256] inb_S3x256_S1x256_1_0))
      (View.ld (Val := Elt Ideal) (S := S3x256) (e' := .f32) cg (Rect.unit ![2, 0] ![1, 256] inb_S3x256_S1x256_2_0)) bg)
    (k0_pay11 m5
      (View.ld (Val := Elt Ideal) (S := S544x256) (e' := .f32) (k0_pay9 (F := Ideal) h (k0_pay8 wv)) (Rect.unit ![15, 0] ![512, 256] inb_S544x256_S512x256_15_0)))
    (View.ld (Val := Elt Ideal) (S := S544x256) (e' := .f32) (k0_pay9 (F := Ideal) h (k0_pay8 wv)) (Rect.unit ![16, 0] ![512, 256] inb_S544x256_S512x256_16_0))
    (View.ld (Val := Elt Ideal) (S := S544x256) (e' := .f32) (k0_pay9 (F := Ideal) h (k0_pay8 wv)) (Rect.unit ![17, 0] ![512, 256] inb_S544x256_S512x256_17_0))
    (View.ld (Val := Elt Ideal) (S := S3x256) (e' := .f32) cv (Rect.unit ![0, 0] ![1, 256] inb_S3x256_S1x256_0_0))
    (View.ld (Val := Elt Ideal) (S := S3x256) (e' := .f32) cv (Rect.unit ![1, 0] ![1, 256] inb_S3x256_S1x256_1_0))
    (View.ld (Val := Elt Ideal) (S := S3x256) (e' := .f32) cv (Rect.unit ![2, 0] ![1, 256] inb_S3x256_S1x256_2_0)) bv acc wd

/-- The place of a row in its sequence, as the kernel computes it: the remainder, made nonnegative. -/
theorem pos_eq (L : ℕ) (hL : 0 < L ∧ L ≤ 4096)
    (e1 : Scalar.select (Scalar.cmpi CmpIPredicate.eq (BitVec.ofNat 32 L) 0#32) 1#32 (BitVec.ofNat 32 L) = BitVec.ofNat 32 L)
    (e4 : Scalar.cmpi CmpIPredicate.slt (BitVec.ofNat 32 L) 0#32 = 0#1) : ∀ n : Fin 16384, Scalar.select
      (IntOp.andi
        (IntOp.xori
          (IntOp.cmpi CmpIPredicate.slt
            (IntOp.remsi ArithUnit.vector
              (BitVec.ofNat 32 n.val)
              (Scalar.select (Scalar.cmpi CmpIPredicate.eq (BitVec.ofNat 32 L) 0#32) 1#32 (BitVec.ofNat 32 L)))
            0#32)
          (Scalar.cmpi CmpIPredicate.slt (Scalar.select (Scalar.cmpi CmpIPredicate.eq (BitVec.ofNat 32 L) 0#32) 1#32 (BitVec.ofNat 32 L)) 0#32))
        (IntOp.cmpi CmpIPredicate.ne
          (IntOp.remsi ArithUnit.vector (BitVec.ofNat 32 n.val)
            (Scalar.select (Scalar.cmpi CmpIPredicate.eq (BitVec.ofNat 32 L) 0#32) 1#32 (BitVec.ofNat 32 L)))
          0#32))
      (IntOp.addi
        (IntOp.remsi ArithUnit.vector (BitVec.ofNat 32 n.val)
          (Scalar.select (Scalar.cmpi CmpIPredicate.eq (BitVec.ofNat 32 L) 0#32) 1#32 (BitVec.ofNat 32 L)))
        (Scalar.select (Scalar.cmpi CmpIPredicate.eq (BitVec.ofNat 32 L) 0#32) 1#32 (BitVec.ofNat 32 L)))
      (IntOp.remsi ArithUnit.vector (BitVec.ofNat 32 n.val)
        (Scalar.select (Scalar.cmpi CmpIPredicate.eq (BitVec.ofNat 32 L) 0#32) 1#32 (BitVec.ofNat 32 L)))
      = BitVec.ofNat 32 (n.val % L) := by
  intro n
  have e2 : IntOp.remsi ArithUnit.vector (BitVec.ofNat 32 n.val) (BitVec.ofNat 32 L) = BitVec.ofNat 32 (n.val % L) := by
    apply BitVec.eq_of_toNat_eq
    have hn := n.isLt
    have hm := Nat.mod_lt n.val hL.1
    have hx : (BitVec.ofNat 32 n.val).toNat = n.val := by rw [BitVec.toNat_ofNat, Nat.mod_eq_of_lt (by omega)]
    have := IntOp.toNat_remsi .vector (x := BitVec.ofNat 32 n.val) (by rw [hx]; omega) L (by omega) (by omega)
    rw [hx] at this
    rw [BitVec.toNat_ofNat, Nat.mod_eq_of_lt (by omega)]
    exact this
  have e3 : ∀ k : Fin 4096, IntOp.cmpi CmpIPredicate.slt (BitVec.ofNat 32 k.val) 0#32 = 0#1 := by decide +kernel
  rw [e1, e2, e3 ⟨n.val % L, by have := Nat.mod_lt n.val hL.1; omega⟩, e4]
  have e5 : ∀ b : BitVec 1, IntOp.andi (IntOp.xori 0#1 0#1) b = 0#1 := by decide
  rw [e5]
  rfl

theorem num_eq (a : Fin 32) (y : Fin 512) :
    IntOp.addi (Scalar.muli (BitVec.ofNat 32 a.val) 512#32) (BitVec.ofNat 32 y.val) = BitVec.ofNat 32 (a.val * 512 + y.val) := by
  rw [BitVec.ofNat_add, BitVec.ofNat_mul]
  rfl

theorem pay4_at (i : grid0.Coords) (y : Fin 512) :
    k0_pay4 i (ix2 y 0) = BitVec.ofNat 32 (((i 0).val * 512 + y.val) % 4096) := by
  pointwise [k0_pay4]
  have hi : (i 0).val < 32 := (i 0).isLt
  rw [num_eq ⟨(i 0).val, hi⟩ y]
  exact pos_eq 4096 (by omega) rfl rfl ⟨(i 0).val * 512 + y.val, by omega⟩

theorem ne_eq (n k : ℕ) (hn : n < 4096) (hk : k < 4096) :
    IntOp.cmpi CmpIPredicate.ne (BitVec.ofNat 32 n) (BitVec.ofNat 32 k) = if n = k then 0#1 else 1#1 := by
  show BitVec.ofBool (BitVec.ofNat 32 n != BitVec.ofNat 32 k) = _
  by_cases h : n = k
  · rw [if_pos h, h, bne_self_eq_false]; rfl
  · rw [if_neg h]
    have : BitVec.ofNat 32 n ≠ BitVec.ofNat 32 k := fun e => h (by
      have := congrArg BitVec.toNat e
      rw [BitVec.toNat_ofNat, BitVec.toNat_ofNat, Nat.mod_eq_of_lt (by omega), Nat.mod_eq_of_lt (by omega)] at this
      exact this)
    rw [bne_iff_ne.mpr this]; rfl

/-- The mask of the rows that have a row before them in their sequence. -/
theorem pay5_at (i : grid0.Coords) (y : Fin 512) :
    k0_pay5 i (ix2 y 0) = if ((i 0).val * 512 + y.val) % 4096 = 0 then 0#1 else 1#1 := by
  pointwise [k0_pay5]
  rw [pay4_at]
  exact ne_eq _ 0 (by omega) (by omega)

/-- The mask of the rows that have a row after them in their sequence. -/
theorem pay6_at (i : grid0.Coords) (y : Fin 512) :
    k0_pay6 i (ix2 y 0) = if ((i 0).val * 512 + y.val) % 4096 = 4095 then 0#1 else 1#1 := by
  pointwise [k0_pay6]
  rw [pay4_at]
  exact ne_eq _ 4095 (by omega) (by omega)

variable {N : ℕ}

/-- What the held rows of a point must be: row `p` of them is row `512 i + p - 16` of the input modulated, as far as
    that row lies in the sequence of one of the rows `512 i …`. -/
def Held (L : ℕ) (X : Fin N → Fin 1024 → EReal) (M : Fin N → Fin 6 → Fin 1024 → EReal) (i : ℕ)
    (h : FVec Ideal S544x1024 .bf16) : Prop :=
  ∀ (p : Fin 544) (r : Fin N) (k : Fin 1024), r.val + 16 = i * 512 + p.val → (∃ y < 512, r.val / L = (i * 512 + y) / L) →
    h (ix2 p k) = modul X M r k

/-- The convolution of one column tile of the up-projection, from the held rows. -/
theorem conv_at {L : ℕ} (hL : Seqs N L) (X : Fin N → Fin 1024 → EReal) (M : Fin N → Fin 6 → Fin 1024 → EReal) (U : Fin 1024 → Fin 5632 → EReal)
    (CW : Fin 3 → Fin 5632 → EReal) (CB : Fin 5632 → EReal) (i : ℕ) (h : FVec Ideal S544x1024 .bf16)
    (w : FVec Ideal S1024x256 .bf16) (cw : FVec Ideal S3x256 .f32) (b : FVec Ideal S1x256 .f32) (hh : Held L X M i h)
    (r : Fin N) (y : Fin 512) (hr : r.val = i * 512 + y.val)
    (m5 m6 : BitVec 1) (h5 : m5 = if (i * 512 + y.val) % L = 0 then 0#1 else 1#1) (h6 : m6 = if (i * 512 + y.val) % L = L - 1 then 0#1 else 1#1) (x : Fin 256) (n : Fin 5632)
    (hw : ∀ k, w (ix2 k x) = U k n) (hc : ∀ a, cw (ix2 a x) = CW a n) (hb : b (ix2 0 x) = CB n) :
    Scalar.select m5 ((∑ k, h (ix2 ⟨15 + y.val, by omega⟩ k) * w (ix2 k x)) * cw (ix2 0 x)) 0
        + (∑ k, h (ix2 ⟨16 + y.val, by omega⟩ k) * w (ix2 k x)) * cw (ix2 1 x)
        + Scalar.select m6 ((∑ k, h (ix2 ⟨17 + y.val, by omega⟩ k) * w (ix2 k x)) * cw (ix2 2 x)) 0
        + b (ix2 0 x)
      = conv L (up X M U) CW CB r n := by
  have hy := y.isLt
  have row : ∀ (p : Fin 544) (q : Fin N), q.val + 16 = i * 512 + p.val → (∃ y < 512, q.val / L = (i * 512 + y) / L) →
      ∑ k, h (ix2 p k) * w (ix2 k x) = up X M U q n := fun p q e1 e2 => by
    unfold up
    refine Finset.sum_congr rfl fun k _ => ?_
    rw [hh p q k e1 e2, hw k]
  have e0 : Scalar.select m5 ((∑ k, h (ix2 ⟨15 + y.val, by omega⟩ k) * w (ix2 k x)) * cw (ix2 0 x)) 0
      = FfnSpec.before L (up X M U) r n * CW 0 n := by
    rw [h5]
    unfold FfnSpec.before
    by_cases hz : (i * 512 + y.val) % L = 0
    · rw [if_pos hz, dif_pos (by rw [hr]; exact hz), zero_mul]
      rfl
    · have h1 : 1 ≤ r.val := Nat.one_le_iff_ne_zero.mpr fun e => hz (by rw [← hr, e, Nat.zero_mod])
      rw [if_neg hz, dif_neg (by rw [hr]; exact hz), row _ ⟨r.val - 1, by omega⟩ (by dsimp only; omega)
        ⟨y.val, hy, by rw [← hr]; exact hL.before _ (by rw [hr]; exact hz)⟩, hc 0]
      rfl
  have e1 : (∑ k, h (ix2 ⟨16 + y.val, by omega⟩ k) * w (ix2 k x)) * cw (ix2 1 x) = up X M U r n * CW 1 n := by
    rw [row _ r (by dsimp only; omega) ⟨y.val, hy, by rw [hr]⟩, hc 1]
  have e2 : Scalar.select m6 ((∑ k, h (ix2 ⟨17 + y.val, by omega⟩ k) * w (ix2 k x)) * cw (ix2 2 x)) 0
      = FfnSpec.after L (up X M U) r n * CW 2 n := by
    rw [h6]
    unfold FfnSpec.after
    by_cases hz : (i * 512 + y.val) % L = L - 1
    · rw [if_pos hz, dif_pos (Or.inl (by rw [hr]; exact hz)), zero_mul]
      rfl
    · have h1 : r.val + 1 < N := hL.fits _ r.isLt (by rw [hr]; exact hz)
      rw [if_neg hz, dif_neg (by rw [hr]; omega), row _ ⟨r.val + 1, h1⟩ (by dsimp only; omega)
        ⟨y.val, hy, by rw [← hr]; exact hL.after _ (by rw [hr]; exact hz)⟩, hc 2]
      rfl
  rw [e0, e1, e2, hb]
  rfl

/-- What one column tile adds to the accumulator. -/
def part (L : ℕ) (X : Fin N → Fin 1024 → EReal) (M : Fin N → Fin 6 → Fin 1024 → EReal) (U : Fin 1024 → Fin 5632 → EReal)
    (CW : Fin 3 → Fin 5632 → EReal) (CB : Fin 5632 → EReal) (D : Fin 2816 → Fin 1024 → EReal) (r : Fin N) (j : Fin 11)
    (d : Fin 1024) : EReal :=
  ∑ x : Fin 256, hidden L X M U CW CB r ⟨j.val * 256 + x.val, by omega⟩ * D ⟨j.val * 256 + x.val, by omega⟩ d

theorem tile_at {L : ℕ} (hL : Seqs N L) (X : Fin N → Fin 1024 → EReal) (M : Fin N → Fin 6 → Fin 1024 → EReal) (U : Fin 1024 → Fin 5632 → EReal)
    (CW : Fin 3 → Fin 5632 → EReal) (CB : Fin 5632 → EReal) (D : Fin 2816 → Fin 1024 → EReal)
    (i : ℕ) (h : FVec Ideal S544x1024 .bf16) (wg wv : FVec Ideal S1024x256 .bf16) (cg cv : FVec Ideal S3x256 .f32)
    (bg bv : FVec Ideal S1x256 .f32) (acc : FVec Ideal S512x1024 .f32) (wd : FVec Ideal S256x1024 .bf16) (hh : Held L X M i h)
    (j : Fin 11) (hwg : ∀ k (x : Fin 256), wg (ix2 k x) = U k ⟨j.val * 256 + x.val, by omega⟩)
    (hwv : ∀ k (x : Fin 256), wv (ix2 k x) = U k ⟨2816 + (j.val * 256 + x.val), by omega⟩)
    (hcg : ∀ a (x : Fin 256), cg (ix2 a x) = CW a ⟨j.val * 256 + x.val, by omega⟩)
    (hcv : ∀ a (x : Fin 256), cv (ix2 a x) = CW a ⟨2816 + (j.val * 256 + x.val), by omega⟩)
    (hbg : ∀ (x : Fin 256), bg (ix2 0 x) = CB ⟨j.val * 256 + x.val, by omega⟩)
    (hbv : ∀ (x : Fin 256), bv (ix2 0 x) = CB ⟨2816 + (j.val * 256 + x.val), by omega⟩)
    (hwd : ∀ (x : Fin 256) d, wd (ix2 x d) = D ⟨j.val * 256 + x.val, by omega⟩ d)
    (r : Fin N) (y : Fin 512) (hr : r.val = i * 512 + y.val) (m5 m6 : IVec S512x1 1)
    (h5 : m5 (ix2 y 0) = if (i * 512 + y.val) % L = 0 then 0#1 else 1#1)
    (h6 : m6 (ix2 y 0) = if (i * 512 + y.val) % L = L - 1 then 0#1 else 1#1) (d : Fin 1024) :
    tile m5 m6 h wg wv cg cv bg bv acc wd (ix2 y d) = acc (ix2 y d) + part L X M U CW CB D r j d := by
  pointwise [tile, k0_pay12, k0_pay11, k0_pay10, k0_pay9, k0_pay8, k0_pay7]
  refine congrArg (acc (ix2 y d) + ·) (Finset.sum_congr rfl fun x _ => ?_)
  rw [conv_at hL X M U CW CB i h wg cg bg hh r y hr _ _ h5 h6 x _ (fun k => hwg k x) (fun a => hcg a x) (hbg x),
    conv_at hL X M U CW CB i h wv cv bv hh r y hr _ _ h5 h6 x _ (fun k => hwv k x) (fun a => hcv a x) (hbv x), hwd x d, zero_sub]
  rfl

/-- The tiles together: the gated activations of a row times the second weight matrix. -/
theorem sum_part (L : ℕ) (X : Fin N → Fin 1024 → EReal) (M : Fin N → Fin 6 → Fin 1024 → EReal) (U : Fin 1024 → Fin 5632 → EReal)
    (CW : Fin 3 → Fin 5632 → EReal) (CB : Fin 5632 → EReal) (D : Fin 2816 → Fin 1024 → EReal) (r : Fin N) (d : Fin 1024) :
    ∑ j : Fin 11, part L X M U CW CB D r j d = ∑ n, hidden L X M U CW CB r n * D n d :=
  (Fin.sum_univ_tiles 11 256 rfl fun n : Fin 2816 => hidden L X M U CW CB r n * D n d).symm

theorem pay2_at (sh sc : FVec Ideal S1x1x1024 .f32) (x0 : FVec Ideal S16x1024 .f32) (x1 : FVec Ideal S512x1024 .f32)
    (x2 : FVec Ideal S16x1024 .f32) (p : Fin 544) (k : Fin 1024) :
    (k0_pay2 sh sc x0 x1 x2 : FVec Ideal S544x1024 .bf16) (ix2 p k)
      = (if h : p.val < 16 then x0 (ix2 ⟨p.val, h⟩ k)
        else if h : p.val - 16 < 512 then x1 (ix2 ⟨p.val - 16, h⟩ k) else x2 (ix2 ⟨p.val - 16 - 512, by omega⟩ k))
          * (1 + sc (ix3 0 0 k)) + sh (ix3 0 0 k) := by
  pointwise [k0_pay2]

theorem pay3_at (y : Fin 512) (d : Fin 1024) : k0_pay3 (F := Ideal) (ix2 y d) = (0 : EReal) := by
  pointwise [k0_pay3]

theorem pay1_at (x : FVec Ideal S512x1024 .f32) (g5 : FVec Ideal S1x1x1024 .f32) (acc : FVec Ideal S512x1024 .f32) (g b : FVec Ideal S1x1024 .f32) (y : Fin 512) (d : Fin 1024) :
    (k0_pay1 x g5 acc g b : FVec Ideal S512x1024 .f32) (ix2 y d) = norm (fun k => Ideal.ofBits .f32 0x3FB504F3#32 * x (ix2 y k) + g5 (ix3 0 0 k) * acc (ix2 y k)) (fun k => g (ix2 0 k)) (fun k => b (ix2 0 k)) d := by
  pointwise [k0_pay1]
  rfl

end Cert.FfnIdeal.Value

end
-- ==== Proof.FfnVal.lean ====
module

public import proofs.«01_k».proof.Proof.Gen.FfnIdeal.Frame
public import proofs.«01_k».proof.Proof.FfnKer
public import Idealize.ShloMosaic.Lib.Pipeline.ReadBack
public import Idealize.ShloMosaic.Lib.Claim

@[expose] public section

set_option maxRecDepth 16384

noncomputable section

/-! The feed-forward kernel's output array. -/

namespace Cert.FfnIdeal.Value

open Cert.FfnIdeal Cert.FfnIdeal.Gen Idealize.ShloMosaic Idealize.ShloMosaic.TcCoe Idealize.SL.Sem
open Cert.FfnSpec

variable (m : (ℓ : Loc nD τ sig) → Buf (Elt Ideal) ℓ)

/-- The arguments by their entries. -/
def aX (c : Dev nD) (r : Fin 16384) (k : Fin 1024) : EReal := (m ((c : Thread nD τ).loc main_arg0) : FVec Ideal S16384x1024 .f32) (ix2 r k)
def aM (c : Dev nD) (s : Fin 8) (j : Fin 6) (k : Fin 1024) : EReal := (m ((c : Thread nD τ).loc main_arg1) : FVec Ideal S8x6x1024 .f32) (ix3 s j k)
def aU (c : Dev nD) (k : Fin 1024) (n : Fin 5632) : EReal := (m ((c : Thread nD τ).loc main_arg2) : FVec Ideal S1024x5632 .f32) (ix2 k n)
def aCW (c : Dev nD) (j : Fin 3) (n : Fin 5632) : EReal := (m ((c : Thread nD τ).loc main_arg3) : FVec Ideal S3x5632 .f32) (ix2 j n)
def aCB (c : Dev nD) (n : Fin 5632) : EReal := (m ((c : Thread nD τ).loc main_arg4) : FVec Ideal S5632 .f32) (ix1 n)
def aD (c : Dev nD) (n : Fin 2816) (k : Fin 1024) : EReal := (m ((c : Thread nD τ).loc main_arg5) : FVec Ideal S2816x1024 .f32) (ix2 n k)
def aG (c : Dev nD) (k : Fin 1024) : EReal := (m ((c : Thread nD τ).loc main_arg6) : FVec Ideal S1024 .f32) (ix1 k)
def aB (c : Dev nD) (k : Fin 1024) : EReal := (m ((c : Thread nD τ).loc main_arg7) : FVec Ideal S1024 .f32) (ix1 k)

/-- The modulation of a row: its sequence's. -/
def rM (c : Dev nD) (r : Fin 16384) : Fin 6 → Fin 1024 → EReal := aM m c (seqOf r.val r.isLt)

/-- The rows are four sequences of 4096 rows. -/
theorem seqs : Seqs 16384 4096 := ⟨fun r h1 h2 => by omega, fun r h => by omega, fun r h => by omega⟩

/-- The windows' block indices at a point, and its first grid coordinate. -/
theorem idx : ∀ t : Fin cfg0.N, win0_0.index t = ![32 * (t.val / 11) - 1, 0] ∧ win0_1.index t = ![t.val / 11, 0]
    ∧ win0_2.index t = ![min (32 * (t.val / 11) + 32) 1023, 0] ∧ win0_3.index t = ![t.val / 11 / 8 + 1, 0, 0]
    ∧ win0_4.index t = ![0, t.val % 11] ∧ win0_5.index t = ![0, 11 + t.val % 11] ∧ win0_6.index t = ![0, t.val % 11]
    ∧ win0_7.index t = ![0, 11 + t.val % 11] ∧ win0_8.index t = ![0, t.val % 11] ∧ win0_9.index t = ![0, 11 + t.val % 11]
    ∧ win0_10.index t = ![t.val % 11, 0] ∧ win0_11.index t = ![0, 0] ∧ win0_12.index t = ![0, 0]
    ∧ win0_13.index t = ![t.val / 11, 0] ∧ (grid0.coords t 0).val = t.val / 11 :=
  (by decide +kernel : ∀ t : Fin grid0.N, _)

theorem lt352 (t : Fin cfg0.N) : t.val < 352 := lt_of_lt_of_eq t.isLt N_0

/-! The blocks of a point. -/

theorem blk0 (c : Dev nD) (t : Fin cfg0.N) (p : Fin 16) (k : Fin 1024) :
    (iblk m c 0 t : FVec Ideal S16x1024 .f32) (ix2 p k) = aX m c ⟨(32 * (t.val / 11) - 1) * 16 + p.val, by have := lt352 t; omega⟩ k := by
  have ht := lt352 t
  unfold aX
  blk_point [iblk, V, idx t]

theorem blk1 (c : Dev nD) (t : Fin cfg0.N) (p : Fin 512) (k : Fin 1024) :
    (iblk m c 1 t : FVec Ideal S512x1024 .f32) (ix2 p k) = aX m c ⟨t.val / 11 * 512 + p.val, by have := lt352 t; omega⟩ k := by
  have ht := lt352 t
  unfold aX
  blk_point [iblk, V, idx t]

theorem blk2 (c : Dev nD) (t : Fin cfg0.N) (p : Fin 16) (k : Fin 1024) :
    (iblk m c 2 t : FVec Ideal S16x1024 .f32) (ix2 p k) = aX m c ⟨min (32 * (t.val / 11) + 32) 1023 * 16 + p.val, by have := lt352 t; omega⟩ k := by
  have ht := lt352 t
  unfold aX
  blk_point [iblk, V, idx t]

theorem blk3 (c : Dev nD) (t : Fin cfg0.N) (j : Fin 6) (k : Fin 1024) :
    (iblk m c 3 t : FVec Ideal S1x6x1024 .f32) (ix3 0 j k) = aM m c ⟨1 + t.val / 11 / 8, by have := lt352 t; omega⟩ j k := by
  have ht := lt352 t
  unfold aM
  blk_point [iblk, V, idx t]

theorem blk4 (c : Dev nD) (t : Fin cfg0.N) (k : Fin 1024) (x : Fin 256) :
    (iblk m c 4 t : FVec Ideal S1024x256 .bf16) (ix2 k x) = aU m c k ⟨t.val % 11 * 256 + x.val, by omega⟩ := by
  have ht := lt352 t
  unfold aU
  blk_point [iblk, V, idx t]

theorem blk5 (c : Dev nD) (t : Fin cfg0.N) (k : Fin 1024) (x : Fin 256) :
    (iblk m c 5 t : FVec Ideal S1024x256 .bf16) (ix2 k x) = aU m c k ⟨2816 + (t.val % 11 * 256 + x.val), by omega⟩ := by
  have ht := lt352 t
  unfold aU
  blk_point [iblk, V, idx t]

theorem blk6 (c : Dev nD) (t : Fin cfg0.N) (a : Fin 3) (x : Fin 256) :
    (iblk m c 6 t : FVec Ideal S3x256 .f32) (ix2 a x) = aCW m c a ⟨t.val % 11 * 256 + x.val, by omega⟩ := by
  have ht := lt352 t
  unfold aCW
  blk_point [iblk, V, idx t]

theorem blk7 (c : Dev nD) (t : Fin cfg0.N) (a : Fin 3) (x : Fin 256) :
    (iblk m c 7 t : FVec Ideal S3x256 .f32) (ix2 a x) = aCW m c a ⟨2816 + (t.val % 11 * 256 + x.val), by omega⟩ := by
  have ht := lt352 t
  unfold aCW
  blk_point [iblk, V, idx t]

theorem blk8 (c : Dev nD) (t : Fin cfg0.N) (x : Fin 256) :
    (iblk m c 8 t : FVec Ideal S1x256 .f32) (ix2 0 x) = aCB m c ⟨t.val % 11 * 256 + x.val, by omega⟩ := by
  have ht := lt352 t
  unfold aCB
  blk_point [iblk, V, idx t]

theorem blk9 (c : Dev nD) (t : Fin cfg0.N) (x : Fin 256) :
    (iblk m c 9 t : FVec Ideal S1x256 .f32) (ix2 0 x) = aCB m c ⟨2816 + (t.val % 11 * 256 + x.val), by omega⟩ := by
  have ht := lt352 t
  unfold aCB
  blk_point [iblk, V, idx t]

theorem blk10 (c : Dev nD) (t : Fin cfg0.N) (x : Fin 256) (d : Fin 1024) :
    (iblk m c 10 t : FVec Ideal S256x1024 .bf16) (ix2 x d) = aD m c ⟨t.val % 11 * 256 + x.val, by omega⟩ d := by
  have ht := lt352 t
  unfold aD
  blk_point [iblk, V, idx t]

theorem blk11 (c : Dev nD) (t : Fin cfg0.N) (d : Fin 1024) :
    (iblk m c 11 t : FVec Ideal S1x1024 .f32) (ix2 0 d) = aG m c d := by
  have ht := lt352 t
  unfold aG
  blk_point [iblk, V, idx t]

theorem blk12 (c : Dev nD) (t : Fin cfg0.N) (d : Fin 1024) :
    (iblk m c 12 t : FVec Ideal S1x1024 .f32) (ix2 0 d) = aB m c d := by
  have ht := lt352 t
  unfold aB
  blk_point [iblk, V, idx t]

/-- The rows held at a point, as its first stores build them. -/
def heldV (c : Dev nD) (t : Fin cfg0.N) : FVec Ideal S544x1024 .bf16 :=
  k0_pay2 (F := Ideal) (View.ld (iblk m c 3 t) (Rect.unit ![0, 3, 0] ![1, 1, 1024] inb_S1x6x1024_S1x1x1024_0_3_0))
    (View.ld (iblk m c 3 t) (Rect.unit ![0, 4, 0] ![1, 1, 1024] inb_S1x6x1024_S1x1x1024_0_4_0)) (iblk m c 0 t) (iblk m c 1 t) (iblk m c 2 t)

theorem heldV_held (c : Dev nD) (t : Fin cfg0.N) : Held 4096 (aX m c) (rM m c) (grid0.coords t 0).val (heldV m c t) := by
  rintro p r k hr ⟨u, hu, hs⟩
  have ht := lt352 t
  have hi : (grid0.coords t 0).val = t.val / 11 := (idx t).2.2.2.2.2.2.2.2.2.2.2.2.2.2
  rw [hi] at hr hs
  have hp := p.isLt
  unfold heldV
  rw [pay2_at]
  have e3 : (View.ld (Val := Elt Ideal) (iblk m c 3 t) (Rect.unit ![0, 3, 0] ![1, 1, 1024] inb_S1x6x1024_S1x1x1024_0_3_0) : FVec Ideal S1x1x1024 .f32) (ix3 0 0 k)
      = rM m c r 3 k := by
    unfold rM
    pointwise
    rw [blk3]
    congr 1
    apply Fin.ext
    show 1 + t.val / 11 / 8 = 1 + r.val / 4096
    omega
  have e4 : (View.ld (Val := Elt Ideal) (iblk m c 3 t) (Rect.unit ![0, 4, 0] ![1, 1, 1024] inb_S1x6x1024_S1x1x1024_0_4_0) : FVec Ideal S1x1x1024 .f32) (ix3 0 0 k)
      = rM m c r 4 k := by
    unfold rM
    pointwise
    rw [blk3]
    congr 1
    apply Fin.ext
    show 1 + t.val / 11 / 8 = 1 + r.val / 4096
    omega
  rw [e3, e4]
  unfold modul
  congr 2
  by_cases h1 : p.val < 16
  · rw [dif_pos h1, blk0]
    congr 1
    apply Fin.ext
    dsimp only
    omega
  · rw [dif_neg h1]
    by_cases h2 : p.val - 16 < 512
    · rw [dif_pos h2, blk1]
      congr 1
      apply Fin.ext
      dsimp only
      omega
    · rw [dif_neg h2, blk2]
      congr 1
      apply Fin.ext
      dsimp only
      omega

/-- A row of a point's output block. -/
def rowOf (t : ℕ) (y : Fin 512) (h : t < 352) : Fin 16384 := ⟨t / 11 * 512 + y.val, by omega⟩

/-- A point adds its column tile's part to the accumulator. -/
theorem tile_pt (c : Dev nD) (t : Fin cfg0.N) (h : FVec Ideal S544x1024 .bf16) (hh : Held 4096 (aX m c) (rM m c) (grid0.coords t 0).val h)
    (acc : FVec Ideal S512x1024 .f32) (y : Fin 512) (d : Fin 1024) :
    tile (k0_pay5 (grid0.coords t)) (k0_pay6 (grid0.coords t)) h (iblk m c 4 t) (iblk m c 5 t) (iblk m c 6 t) (iblk m c 7 t) (iblk m c 8 t) (iblk m c 9 t) acc
        (iblk m c 10 t) (ix2 y d)
      = acc (ix2 y d) + part 4096 (aX m c) (rM m c) (aU m c) (aCW m c) (aCB m c) (aD m c) (rowOf t.val y (lt352 t)) ⟨t.val % 11, by omega⟩ d :=
  tile_at seqs (aX m c) (rM m c) (aU m c) (aCW m c) (aCB m c) (aD m c) (grid0.coords t 0).val h (iblk m c 4 t) (iblk m c 5 t) (iblk m c 6 t)
    (iblk m c 7 t) (iblk m c 8 t) (iblk m c 9 t) acc (iblk m c 10 t) hh ⟨t.val % 11, by omega⟩
    (blk4 m c t) (blk5 m c t) (blk6 m c t) (blk7 m c t) (blk8 m c t) (blk9 m c t) (blk10 m c t) _ y
    (by rw [(idx t).2.2.2.2.2.2.2.2.2.2.2.2.2.2]; rfl) _ _ (pay5_at _ y) (pay6_at _ y) d

end Cert.FfnIdeal.Value

end
-- ==== Proof.FfnFinal.lean ====
module

public import proofs.«01_k».proof.Proof.FfnVal
public import proofs.«01_k».proof.Proof.FfnRef

@[expose] public section

set_option maxRecDepth 16384

noncomputable section

/-! The feed-forward kernel's run: its output array is the second half of the layer. -/

namespace Cert.FfnIdeal.Value

open Cert.FfnIdeal Cert.FfnIdeal.Gen Idealize.ShloMosaic Idealize.ShloMosaic.TcCoe Idealize.SL.Sem
open Cert.FfnSpec

variable (m : (ℓ : Loc nD τ sig) → Buf (Elt Ideal) ℓ) (ρ : Dev nD → PrngReg)

/-- At the first point of a row tile the held rows are the ones just built. -/
theorem held_A (c : Dev nD) (t : Fin cfg0.N) (h0 : t.val % 11 = 0) (h1 : ¬ t.val % 11 = 10) :
    (outsAt0 m c t.val t.isLt).2.1 = heldV m c t := by
  rw [outsAt0_A m c t h0 h1]; frame_out
  rfl

theorem held_B (c : Dev nD) (t : Fin cfg0.N) (h0 : ¬ t.val % 11 = 0) :
    (outsAt0 m c t.val t.isLt).2.1 = (outsAt0 m c (t.val - 1) (by have := t.isLt; omega)).2.1 := by
  by_cases h1 : t.val % 11 = 10
  · rw [outsAt0_C m c t h0 h1]; frame_out
    rfl
  · rw [outsAt0_B m c t h0 h1]; frame_out
    rfl

theorem held_all (c : Dev nD) : ∀ (n : ℕ) (h : n < cfg0.N),
    Held 4096 (aX m c) (rM m c) (grid0.coords ⟨n, h⟩ 0).val (outsAt0 m c n h).2.1 := by
  intro n
  induction n with
  | zero =>
    intro h
    rw [held_A m c ⟨0, h⟩ rfl (by show ¬ 0 % 11 = 10; omega)]
    exact heldV_held m c ⟨0, h⟩
  | succ n ih =>
    intro h
    by_cases h0 : (n + 1) % 11 = 0
    · rw [held_A m c ⟨n + 1, h⟩ h0 (by show ¬ (n + 1) % 11 = 10; omega)]
      exact heldV_held m c ⟨n + 1, h⟩
    · rw [held_B m c ⟨n + 1, h⟩ h0]
      have e : ∀ t : Fin cfg0.N, (grid0.coords t 0).val = t.val / 11 := fun t => (idx t).2.2.2.2.2.2.2.2.2.2.2.2.2.2
      have e1 := e ⟨n + 1, h⟩
      have e2 := e ⟨n, by omega⟩
      dsimp only at e1 e2
      rw [e1, show (n + 1) / 11 = n / 11 by omega, ← e2]
      exact ih (by omega)

/-- What a point adds to the accumulator. -/
def term (c : Dev nD) (t : Fin cfg0.N) (z : S512x1024.Idx) : EReal :=
  part 4096 (aX m c) (rM m c) (aU m c) (aCW m c) (aCB m c) (aD m c) (rowOf t.val (z 0) (lt352 t)) ⟨t.val % 11, by omega⟩ (z 1)

theorem acc_A (c : Dev nD) (t : Fin cfg0.N) (h0 : t.val % 11 = 0) (z : S512x1024.Idx) :
    (outsAt0 m c t.val t.isLt).2.2 z = (0 : EReal) + term m c t z := by
  rw [outsAt0_A m c t h0 (by omega)]; frame_out
  simp (disch := decide) only [↓ View.readCov_skip, ↓ View.readCov_cons_toLoadRect, ↓ View.readCov_fill]
  idx_vars z
  refine (tile_pt m c t (heldV m c t) (heldV_held m c t) (k0_pay3 (F := Ideal)) _ _).trans ?_
  rw [pay3_at]
  rfl

theorem acc_B (c : Dev nD) (t : Fin cfg0.N) (h0 : ¬ t.val % 11 = 0) (z : S512x1024.Idx) :
    (outsAt0 m c t.val t.isLt).2.2 z = (outsAt0 m c (t.val - 1) (by have := t.isLt; omega)).2.2 z + term m c t z := by
  have hN := t.isLt
  have hh : Held 4096 (aX m c) (rM m c) (grid0.coords t 0).val (outsAt0 m c (t.val - 1) (by omega)).2.1 := by
    rw [← held_B m c t h0]
    exact held_all m c t.val t.isLt
  by_cases h1 : t.val % 11 = 10
  · rw [outsAt0_C m c t h0 h1]; frame_out
    simp (disch := decide) only [↓ View.readCov_skip, ↓ View.readCov_cons_toLoadRect, ↓ View.readCov_fill, read_unread_whole]
    idx_vars z
    exact tile_pt m c t _ hh _ _ _
  · rw [outsAt0_B m c t h0 h1]; frame_out
    simp (disch := decide) only [↓ View.readCov_skip, ↓ View.readCov_cons_toLoadRect, ↓ View.readCov_fill, read_unread_whole]
    idx_vars z
    exact tile_pt m c t _ hh _ _ _

/-- The accumulator at a row tile's last point. -/
theorem acc_last (c : Dev nD) (t : Fin cfg0.N) (hf : t.val % 11 = 10) (z : S512x1024.Idx) :
    (outsAt0 m c t.val t.isLt).2.2 z = ∑ n, hidden 4096 (aX m c) (rM m c) (aU m c) (aCW m c) (aCB m c) (rowOf t.val (z 0) (lt352 t)) n * aD m c n (z 1) := by
  have e := Pipeline.eq_sum_fin_of_reset_step_apply_of_flush (fun n h => (outsAt0 m c n h).2.2) 11 (fun _ => (0 : EReal)) (fun t z => term m c t z)
    (fun t h z => acc_A m c t h z) (fun t h z => acc_B m c t h z) t hf z
  refine e.trans ?_
  refine Eq.trans ?_ (sum_part 4096 (aX m c) (rM m c) (aU m c) (aCW m c) (aCB m c) (aD m c) (rowOf t.val (z 0) (lt352 t)) (z 1))
  rw [zero_add]
  have ht := lt352 t
  refine Finset.sum_congr rfl fun s _ => ?_
  have hs := s.isLt
  unfold term
  have e1 : rowOf (11 * (t.val / 11) + s.val) (z 0) (by omega) = rowOf t.val (z 0) ht := by
    apply Fin.ext
    show (11 * (t.val / 11) + s.val) / 11 * 512 + (z 0).val = t.val / 11 * 512 + (z 0).val
    omega
  have e2 : (⟨(11 * (t.val / 11) + s.val) % 11, by omega⟩ : Fin 11) = s := Fin.ext (by dsimp only; omega)
  exact congr_arg₂ (fun r j => part 4096 (aX m c) (rM m c) (aU m c) (aCW m c) (aCB m c) (aD m c) r j (z 1)) e1 e2

theorem out_last (c : Dev nD) (t : Fin cfg0.N) (h1 : t.val % 11 = 10) :
    (outsAt0 m c t.val t.isLt).1 = k0_pay1 (F := Ideal) (iblk m c 1 t)
      (View.ld (iblk m c 3 t) (Rect.unit ![0, 5, 0] ![1, 1, 1024] inb_S1x6x1024_S1x1x1024_0_5_0)) (outsAt0 m c t.val t.isLt).2.2
      (iblk m c 11 t) (iblk m c 12 t) := by
  rw [outsAt0_C m c t (by omega) h1]; frame_out
  rfl

/-- The result, by its entries. -/
def result (c : Dev nD) (z : S16384x1024.Idx) : EReal :=
  out 4096 (aX m c) (rM m c) (aU m c) (aCW m c) (aCB m c) (aD m c) (aG m c) (aB m c) (z 0) (z 1)

/-- What the last point of a row tile writes back is that row tile of the result. -/
theorem out_at (c : Dev nD) (t : Fin cfg0.N) (h1 : t.val % 11 = 10) (y : Fin 512) (d : Fin 1024) :
    (outsAt0 m c t.val t.isLt).1 (ix2 y d) = result m c (ix2 (rowOf t.val y (lt352 t)) d) := by
  rw [out_last m c t h1]
  refine (pay1_at (iblk m c 1 t) _ (outsAt0 m c t.val t.isLt).2.2 (iblk m c 11 t) (iblk m c 12 t) y d).trans ?_
  have key : ∀ f f' g g' b b' : Fin 1024 → EReal, f = f' → g = g' → b = b' → norm f g b d = norm f' g' b' d := by
    rintro _ _ _ _ _ _ rfl rfl rfl
    rfl
  refine key _ (res (aX m c) (rM m c) (hidden 4096 (aX m c) (rM m c) (aU m c) (aCW m c) (aCB m c)) (aD m c) (rowOf t.val y (lt352 t)))
    _ (aG m c) _ (aB m c) (funext fun k => ?_) (funext fun k => blk11 m c t k) (funext fun k => blk12 m c t k)
  rw [acc_last m c t h1, blk1]
  have e3 : (View.ld (Val := Elt Ideal) (iblk m c 3 t) (Rect.unit ![0, 5, 0] ![1, 1, 1024] inb_S1x6x1024_S1x1x1024_0_5_0) : FVec Ideal S1x1x1024 .f32) (ix3 0 0 k)
      = rM m c (rowOf t.val y (lt352 t)) 5 k := by
    unfold rM
    pointwise
    rw [blk3]
    congr 1
    apply Fin.ext
    show 1 + t.val / 11 / 8 = 1 + (t.val / 11 * 512 + y.val) / 4096
    omega
  rw [e3]
  rfl

/-- The output array after the run. -/
theorem final (c : Dev nD) : (dats m 0 c).arrAt 13 (cfgs 0).N = result m c := by
  refine (dats m 0 c).arrAt_eq_of_covers 13 _ (by decide +kernel) fun t hf y => ?_
  blk_simp
  rw [after0_13]
  idx_vars y
  refine (out_at m c t ((flush0_13 t).mp hf) y0 y1).trans ?_
  congr 1
  blk_ext [idx t]
  rfl

/-- A run of the kernel leaves the result in its output array. -/
theorem run : θ_run defs (onTc (τ := τ) (main (F := Ideal))) ⟨m, fun _ => 0, ρ⟩ fun r => ∀ c : Dev nD,
    r.2.mem ((c.tc : Thread nD τ).loc main_v5) = result m c :=
  (θ_run defs _ _).mono (fun r h c => ((h c).1 13).trans (final m c)) (run_main m ρ)

end Cert.FfnIdeal.Value

end
-- ==== Proof.FfnAlg.lean ====
module

public import proofs.«01_k».proof.Defs
public import proofs.«01_k».proof.Proof.Gen.FfnRefIdeal
public import proofs.«01_k».proof.Proof.FfnRef
public import proofs.«01_k».proof.Proof.FfnFinal
public import Idealize.ShloMosaic.Adequacy

@[expose] public section

noncomputable section

/-! The feed-forward claims: the reference's frame, and kernel and reference leave the same result. -/

namespace Cert.Proof

open Idealize.ShloMosaic Idealize.ShloMosaic.StableHlo Idealize.SL.Sem

/-- The feed-forward reference leaves its arguments as they were and every counter at zero. -/
theorem frame_ffnRef : Cert.quiescent_FfnRefIdeal (hFfnRefIdeal := Cert.FfnRefIdeal.Gen.facts) := fun m ρ _ =>
  (θ_run _ _ _).mono (fun _ h => ⟨fun c => (h c).2, sem_eq_zero_of_no_sems (by decide) _⟩) (Cert.FfnRefIdeal.Value.run m ρ)

/-- From equal arguments the feed-forward kernel and its reference end with equal results. -/
theorem algebraic_ffn : Cert.algebraic_FfnIdeal_FfnRefIdeal (hFfnIdeal := Cert.FfnIdeal.Gen.facts) (hFfnRefIdeal := Cert.FfnRefIdeal.Gen.facts) :=
  fun m ρ m' ρ' _ hag => ⟨fun c => Cert.FfnIdeal.Value.result m c,
    (θ_run _ _ _).mono (fun _ h c => ⟨h.1 c, h.2 c⟩) (θ_run_and (Cert.FfnIdeal.Value.run m ρ) (Cert.FfnIdeal.Gen.unchanged m ρ)),
    (θ_run _ _ _).mono (fun _ h c => ⟨(h c).1.trans (by
        obtain ⟨e0, e1, e2, e3, e4, e5, e6, e7⟩ := hag c
        funext z
        idx_vars z
        refine (Cert.FfnRefIdeal.Value.res75 (launchContents m' c) z0 z1).trans ?_
        have f0 : Cert.FfnRefIdeal.Value.aX (launchContents m' c) = Cert.FfnIdeal.Value.aX m c := funext fun r => funext fun k => congrFun e0 (ix2 r k)
        have f1 : Cert.FfnRefIdeal.Value.rM (launchContents m' c) = Cert.FfnIdeal.Value.rM m c := funext fun r => funext fun j => funext fun k => congrFun e1 (ix3 (Cert.FfnSpec.seqOf r.val r.isLt) j k)
        have f2 : Cert.FfnRefIdeal.Value.aU (launchContents m' c) = Cert.FfnIdeal.Value.aU m c := funext fun r => funext fun k => congrFun e2 (ix2 r k)
        have f3 : Cert.FfnRefIdeal.Value.aCW (launchContents m' c) = Cert.FfnIdeal.Value.aCW m c := funext fun r => funext fun k => congrFun e3 (ix2 r k)
        have f4 : Cert.FfnRefIdeal.Value.aCB (launchContents m' c) = Cert.FfnIdeal.Value.aCB m c := funext fun k => congrFun e4 (ix1 k)
        have f5 : Cert.FfnRefIdeal.Value.aD (launchContents m' c) = Cert.FfnIdeal.Value.aD m c := funext fun r => funext fun k => congrFun e5 (ix2 r k)
        have f6 : Cert.FfnRefIdeal.Value.aG (launchContents m' c) = Cert.FfnIdeal.Value.aG m c := funext fun k => congrFun e6 (ix1 k)
        have f7 : Cert.FfnRefIdeal.Value.aB (launchContents m' c) = Cert.FfnIdeal.Value.aB m c := funext fun k => congrFun e7 (ix1 k)
        rw [f0, f1, f2, f3, f4, f5, f6, f7]
        rfl), (h c).2⟩) (Cert.FfnRefIdeal.Value.run m' ρ')⟩

end Cert.Proof

end
-- ==== Proof.AttnPre.lean ====
module

public import proofs.«01_k».proof.Pre_finite
public import Idealize.ShloMosaic.Lib.ReduceAll
public import Idealize.ShloMosaic.PureOps.Ideal

@[expose] public section

noncomputable section

/-! The attention's precondition, read as what it says of the entries. -/

namespace Cert.AttnPre

open Idealize.ShloMosaic Cert.Pre_finite

theorem andi_one (a b : BitVec 1) : IntOp.andi a b = 1#1 ↔ a = 1#1 ∧ b = 1#1 := by revert a b; decide

/-- A number whose absolute value is below infinity is a real. -/
theorem real_of_abs (x : EReal) (h : Ideal.cmp .olt (max x (-x)) (Ideal.ofBits FTy.f32 0x7F800000#32) = 1#1) : ∃ r : ℝ, x = (r : EReal) := by
  rw [show Ideal.ofBits FTy.f32 0x7F800000#32 = ⊤ by simp [Ideal.ofBits, Ideal.ieee]] at h
  have hlt : max x (-x) < ⊤ := by
    by_contra hn
    simp [Ideal.cmp, hn] at h
  induction x using EReal.rec with
  | bot => simp at hlt
  | coe r => exact ⟨r, rfl⟩
  | top => simp at hlt

instance : Subsingleton S_.Idx := ⟨fun _ _ => funext fun a => a.elim0⟩

/-- An array all of whose entries are found below infinity holds reals. -/
theorem reals_of {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (z : s.Idx) : ∃ r : ℝ, x z = (r : EReal) :=
  real_of_abs (x z) (Host.reduce_andi_all _ _ hr hu j h z)

variable [Facts]

/-- Under the precondition every argument but the last holds reals. -/
theorem reals (x0 : FVec Ideal S4x4096x1024 .bf16) (x1 : FVec Ideal S4x1x256x8x2x64 .f32) (x2 : FVec Ideal S4x1x256x8x128 .f32)
    (x3 x4 : FVec Ideal S4x4096x1024 .bf16) (x5 : FVec Ideal S1x4x64 .f32) (x6 : FVec Ideal S1x128 .f32)
    (h : fn (F := Ideal) x0 x1 x2 x3 x4 x5 x6 = fun _ => 1#1) :
    (∀ z, ∃ r : ℝ, x0 z = (r : EReal)) ∧ (∀ z, ∃ r : ℝ, x1 z = (r : EReal)) ∧ (∀ z, ∃ r : ℝ, x2 z = (r : EReal))
      ∧ (∀ z, ∃ r : ℝ, x3 z = (r : EReal)) ∧ (∀ z, ∃ r : ℝ, x4 z = (r : EReal)) ∧ (∀ z, ∃ r : ℝ, x5 z = (r : EReal)) := by
  have h := congrFun h (fun a => a.elim0)
  dsimp only [fn, fn_part1, andi] at h
  simp only [andi_one] at h
  obtain ⟨⟨⟨⟨⟨h0, h1⟩, h2⟩, h3⟩, h4⟩, h5⟩ := h
  exact ⟨reals_of (extf .f32 x0 _) _ _ _ _ h0, reals_of x1 _ _ _ _ h1, reals_of x2 _ _ _ _ h2, reals_of (extf .f32 x3 _) _ _ _ _ h3,
    reals_of (extf .f32 x4 _) _ _ _ _ h4, reals_of x5 _ _ _ _ h5⟩

end Cert.AttnPre

end
-- ==== Proof.AttnMath.lean ====
module

public import Idealize.ShloMosaic.PureOps.Ideal
public import Mathlib.Tactic.LinearCombination
public import Mathlib.Tactic.FieldSimp

@[expose] public section

noncomputable section

/-! The softmax over tiles: the running maximum, the running sum of exponentials and the running weighted sum. -/

namespace Cert.AttnMath

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem exp_sub (a b : ℝ) : Ideal.exp ((a : EReal) - (b : EReal)) = ((Real.exp (a - b) : ℝ) : EReal) := by
  rw [← EReal.coe_sub, Ideal.exp_coe]

/-- The maximum of finitely many finite numbers is finite. -/
theorem fold_max_coe {n : ℕ} (hn : 0 < n) (s : Fin n → ℝ) :
    ∃ R : ℝ, Finset.fold max (⊥ : EReal) (fun i => ((s i : ℝ) : EReal)) Finset.univ = (R : EReal) := by
  have hne : (Finset.univ : Finset (Fin n)).Nonempty := ⟨⟨0, hn⟩, Finset.mem_univ _⟩
  obtain ⟨i, _, hi⟩ := Finset.exists_mem_eq_sup (Finset.univ : Finset (Fin n)) hne (fun i => ((s i : ℝ) : EReal))
  exact ⟨s i, hi⟩

/-- What is held of one row after some keys: a finite maximum, the sum `E` of the exponentials and the weighted sum `W`, both
    scaled by the exponential of minus that maximum. -/
def Inv (E W : ℝ) (m l a : EReal) : Prop :=
  ∃ M : ℝ, m = (M : EReal) ∧ l = ((E * Real.exp (-M) : ℝ) : EReal) ∧ a = ((W * Real.exp (-M) : ℝ) : EReal)

theorem max_coe (a b : ℝ) : max (a : EReal) (b : EReal) = ((max a b : ℝ) : EReal) :=
  (EReal.coe_strictMono.monotone.map_max).symm

/-- One more tile of keys. -/
theorem Inv.step {n : ℕ} (hn : 0 < n) {E W : ℝ} {m l a : EReal} (h : Inv E W m l a) (s v : Fin n → ℝ) (S V : Fin n → EReal)
    (hS : ∀ i, S i = (s i : EReal)) (hV : ∀ i, V i = (v i : EReal)) (m' : EReal) (hm : m' = max m (Finset.fold max ⊥ S Finset.univ)) :
    Inv (E + ∑ i, Real.exp (s i)) (W + ∑ i, v i * Real.exp (s i)) m'
      (Ideal.exp (m - m') * l + ∑ i, Ideal.exp (S i - m')) (Ideal.exp (m - m') * a + ∑ i, V i * Ideal.exp (S i - m')) := by
  obtain ⟨M, rfl, rfl, rfl⟩ := h
  obtain rfl : S = fun i => ((s i : ℝ) : EReal) := funext hS
  obtain rfl : V = fun i => ((v i : ℝ) : EReal) := funext hV
  obtain ⟨R, hR⟩ := fold_max_coe hn s
  rw [hR, max_coe] at hm
  subst hm
  have key : ∀ x : ℝ, Real.exp (x - max M R) = Real.exp x * Real.exp (-max M R) := fun x => by rw [← Real.exp_add, sub_eq_add_neg]
  have hk : Real.exp M * Real.exp (-M) = 1 := by rw [← Real.exp_add, add_neg_cancel, Real.exp_zero]
  refine ⟨max M R, rfl, ?_, ?_⟩
  · simp only [exp_sub, coe_sum, ← EReal.coe_mul, ← EReal.coe_add, key]
    refine congrArg _ ?_
    rw [← Finset.sum_mul]
    linear_combination (E * Real.exp (-max M R)) * hk
  · simp only [exp_sub, coe_sum, ← EReal.coe_mul, ← EReal.coe_add, key]
    refine congrArg _ ?_
    rw [add_mul, Finset.sum_mul]
    simp only [mul_assoc]
    linear_combination (W * Real.exp (-max M R)) * hk

/-- The first tile, from the empty state. -/
theorem Inv.first {n : ℕ} (hn : 0 < n) (s v : Fin n → ℝ) (S V : Fin n → EReal)
    (hS : ∀ i, S i = (s i : EReal)) (hV : ∀ i, V i = (v i : EReal)) (m' : EReal) (hm : m' = max ⊥ (Finset.fold max ⊥ S Finset.univ)) :
    Inv (∑ i, Real.exp (s i)) (∑ i, v i * Real.exp (s i)) m'
      (Ideal.exp (⊥ - m') * 0 + ∑ i, Ideal.exp (S i - m')) (Ideal.exp (⊥ - m') * 0 + ∑ i, V i * Ideal.exp (S i - m')) := by
  obtain rfl : S = fun i => ((s i : ℝ) : EReal) := funext hS
  obtain rfl : V = fun i => ((v i : ℝ) : EReal) := funext hV
  obtain ⟨R, hR⟩ := fold_max_coe hn s
  rw [hR, max_eq_right bot_le] at hm
  subst hm
  have key : ∀ x : ℝ, Real.exp (x - R) = Real.exp x * Real.exp (-R) := fun x => by rw [← Real.exp_add, sub_eq_add_neg]
  refine ⟨R, rfl, ?_, ?_⟩
  · simp only [exp_sub, coe_sum, mul_zero, zero_add, key, ← Finset.sum_mul]
  · simp only [exp_sub, coe_sum, mul_zero, zero_add, key, ← EReal.coe_mul, ← mul_assoc, ← Finset.sum_mul]

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The difference of the two maps' outputs, from what is held of them. -/
theorem Inv.out {E0 W0 E1 W1 : ℝ} {m0 l0 a0 m1 l1 a1 : EReal} (h0 : Inv E0 W0 m0 l0 a0) (h1 : Inv E1 W1 m1 l1 a1) (hE0 : 0 < E0)
    (hE1 : 0 < E1) (lam : ℝ) :
    a0 * Ideal.div 1 l0 - a1 * Ideal.div (lam : EReal) l1 = ((W0 / E0 - lam * (W1 / E1) : ℝ) : EReal) := by
  obtain ⟨M0, rfl, rfl, rfl⟩ := h0
  obtain ⟨M1, rfl, rfl, rfl⟩ := h1
  have e0 := Real.exp_pos (-M0)
  have e1 := Real.exp_pos (-M1)
  rw [show (1 : EReal) = ((1 : ℝ) : EReal) from rfl, div_coe _ _ (mul_pos hE0 e0).ne', div_coe _ _ (mul_pos hE1 e1).ne',
    ← EReal.coe_mul, ← EReal.coe_mul, ← EReal.coe_sub]
  refine congrArg _ ?_
  have := e0.ne'
  have := e1.ne'
  have := hE0.ne'
  have := hE1.ne'
  field_simp

/-- A softmax taken at once over `n` keys. -/
theorem softmax {n : ℕ} (s : Fin n → ℝ) (R : ℝ) (hE : 0 < ∑ i, Real.exp (s i)) (i : Fin n) :
    Ideal.div (Ideal.exp ((s i : EReal) - (R : EReal))) (∑ j, Ideal.exp ((s j : EReal) - (R : EReal)))
      = ((Real.exp (s i) / ∑ j, Real.exp (s j) : ℝ) : EReal) := by
  have key : ∀ x : ℝ, Real.exp (x - R) = Real.exp x * Real.exp (-R) := fun x => by rw [← Real.exp_add, sub_eq_add_neg]
  have eR := (Real.exp_pos (-R)).ne'
  simp only [exp_sub, coe_sum, key, ← Finset.sum_mul]
  rw [div_coe _ _ (mul_ne_zero hE.ne' eR), mul_div_mul_right _ _ eR]

end Cert.AttnMath

end
-- ==== Proof.AttnSpec.lean ====
module

public import proofs.«01_k».proof.Proof.AttnMath

@[expose] public section

noncomputable section

/-! The differential attention of one query row and head over the cached keys and the new ones, in plain sums of reals. -/

namespace Cert.AttnSpec

open Idealize.ShloMosaic

/-- The queries, the cached and the new keys and values, and the four lambda vectors, as reals. -/
structure Args where
  Q : Fin 4 → Fin 4096 → Fin 1024 → ℝ
  CK : Fin 4 → Fin 256 → Fin 8 → Fin 2 → Fin 64 → ℝ
  CV : Fin 4 → Fin 256 → Fin 8 → Fin 128 → ℝ
  K : Fin 4 → Fin 4096 → Fin 1024 → ℝ
  V : Fin 4 → Fin 4096 → Fin 1024 → ℝ
  L : Fin 4 → Fin 64 → ℝ

/-- The lane of a head, and the lane of one map's half of a head. -/
def lane (h : Fin 8) (d : Fin 128) : Fin 1024 := ⟨h.val * 128 + d.val, by omega⟩
def part (h : Fin 8) (i : Fin 2) (c : Fin 64) : Fin 1024 := ⟨h.val * 128 + (i.val * 64 + c.val), by omega⟩

variable (A : Args)

/-- The score of a query row with a cached key, and with a new key. -/
def sc (i : Fin 2) (b : Fin 4) (n : Fin 4096) (h : Fin 8) (x : Fin 256) : ℝ := ∑ c, A.CK b x h i c * A.Q b n (part h i c)
def st (i : Fin 2) (b : Fin 4) (n : Fin 4096) (h : Fin 8) (x : Fin 4096) : ℝ := ∑ c, A.K b x (part h i c) * A.Q b n (part h i c)

/-- One map's sum of exponentials, and its sum of values weighted by them. -/
def E (i : Fin 2) (b : Fin 4) (n : Fin 4096) (h : Fin 8) : ℝ := ∑ x, Real.exp (sc A i b n h x) + ∑ x, Real.exp (st A i b n h x)
def W (i : Fin 2) (b : Fin 4) (n : Fin 4096) (h : Fin 8) (d : Fin 128) : ℝ :=
  ∑ x, A.CV b x h d * Real.exp (sc A i b n h x) + ∑ x, A.V b x (lane h d) * Real.exp (st A i b n h x)

/-- The constant added to the weight of the second map. -/
def init : ℝ := 13421773 / 67108864
/-- The weight of the second map. -/
def lam : ℝ := Real.exp (∑ c, A.L 0 c * A.L 1 c) - Real.exp (∑ c, A.L 2 c * A.L 3 c) + init

/-- The first map's attention less the weighted second one's. -/
def o (b : Fin 4) (n : Fin 4096) (h : Fin 8) (d : Fin 128) : ℝ := W A 0 b n h d / E A 0 b n h - lam A * (W A 1 b n h d / E A 1 b n h)

/-- It, divided by its root mean square over the lanes of the head and scaled. -/
def out (G : Fin 128 → EReal) (b : Fin 4) (n : Fin 4096) (h : Fin 8) (d : Fin 128) : EReal :=
  (o A b n h d : EReal) * Ideal.rsqrt (Ideal.div (∑ x, (o A b n h x : EReal) * (o A b n h x : EReal)) (Ideal.ofBits FTy.f32 1124073472#32) + Ideal.ofBits FTy.f32 925353388#32)
    * (G d * Ideal.ofBits FTy.f32 1061997773#32)

theorem init_eq : Ideal.ofBits FTy.f32 1045220557#32 = (init : EReal) := by
  simp [Ideal.ofBits, Ideal.ieee, init, -EReal.coe_mul]
  norm_num

theorem E_pos (i : Fin 2) (b : Fin 4) (n : Fin 4096) (h : Fin 8) : 0 < E A i b n h :=
  add_pos_of_pos_of_nonneg (Finset.sum_pos (fun _ _ => Real.exp_pos _) ⟨0, Finset.mem_univ _⟩) (Finset.sum_nonneg fun _ _ => (Real.exp_pos _).le)

/-- The key row of a tile, at a row number below the number of rows. -/
def wrap (n : ℕ) : Fin 4096 := ⟨n % 4096, by omega⟩

theorem sum_range_tiles (g : ℕ → ℝ) (J : ℕ) : ∑ j ∈ Finset.range J, ∑ x : Fin 512, g (j * 512 + x.val) = ∑ n ∈ Finset.range (J * 512), g n := by
  induction J with
  | zero => simp
  | succ J ih => rw [Finset.sum_range_succ, ih, Nat.succ_mul, Finset.sum_range_add, Finset.sum_range (n := 512)]

/-- Eight tiles of 512 rows are the 4096 rows. -/
theorem sum_tiles (g : Fin 4096 → ℝ) : ∑ j ∈ Finset.range 8, ∑ x : Fin 512, g (wrap (j * 512 + x.val)) = ∑ n, g n := by
  rw [sum_range_tiles (fun n => g (wrap n)) 8, Finset.sum_range]
  exact Finset.sum_congr rfl fun n _ => congrArg g (Fin.ext (Nat.mod_eq_of_lt n.isLt))

end Cert.AttnSpec

end
-- ==== Proof.AttnRef.lean ====
module

public import proofs.«01_k».proof.Proof.Gen.ReferenceIdeal.Read
public import proofs.«01_k».proof.Proof.AttnSpec
public import Idealize.ShloMosaic.Lib.Pointwise

@[expose] public section

set_option maxRecDepth 16384

noncomputable section

/-! The attention reference's keys, values, scores and weights, read at an index. -/

namespace Cert.ReferenceIdeal.Value

open Cert.ReferenceIdeal Cert.ReferenceIdeal.Gen Cert.ReferenceIdeal.Read Idealize.ShloMosaic Idealize.ShloMosaic.TcCoe Idealize.SL.Sem
open Cert.AttnSpec (Args lane part)

variable (x0 : FVec Ideal S4x4096x1024 .bf16) (x1 : FVec Ideal S4x1x256x8x2x64 .f32) (x2 : FVec Ideal S4x1x256x8x128 .f32)
  (x3 x4 : FVec Ideal S4x4096x1024 .bf16) (x5 : FVec Ideal S1x4x64 .f32) (x6 : FVec Ideal S1x128 .f32)

/-- A key's place among the cached keys followed by the new ones. -/
def cached (p : Fin 256) : Fin 4352 := ⟨p.val, by omega⟩
def fresh (n : Fin 4096) : Fin 4352 := ⟨256 + n.val, by omega⟩

theorem v18_at (b : Fin 4) (n : Fin 4096) (h : Fin 8) (i : Fin 2) (c : Fin 64) :
    (val_main_v18 (F := Ideal) x0 : FVec Ideal S4x4096x8x2x64 .f32) (ix5 b n h i c) = x0 (ix3 b n (part h i c)) := by
  unfold part
  pointwise [val_main_v18, val_main_v17]
  exact congrArg (fun z => x0 (ix3 b n z)) (Fin.ext (Nat.add_assoc _ _ _))

theorem v20_at (b : Fin 4) (n : Fin 4096) (h : Fin 8) (i : Fin 2) (c : Fin 64) :
    (val_main_v20 (F := Ideal) x3 : FVec Ideal S4x4096x8x2x64 .f32) (ix5 b n h i c) = x3 (ix3 b n (part h i c)) := v18_at x3 b n h i c

theorem v22_at (b : Fin 4) (n : Fin 4096) (h : Fin 8) (d : Fin 128) :
    (val_main_v22 (F := Ideal) x4 : FVec Ideal S4x4096x8x128 .f32) (ix4 b n h d) = x4 (ix3 b n (lane h d)) := by
  unfold lane
  pointwise [val_main_v22, val_main_v21]

theorem v24_cached (b : Fin 4) (p : Fin 256) (h : Fin 8) (i : Fin 2) (c : Fin 64) :
    (val_main_v24 (F := Ideal) x1 x3 : FVec Ideal S4x4352x8x2x64 .f32) (ix5 b (cached p) h i c) = x1 (ix6 b 0 p h i c) := by
  unfold cached
  pointwise [val_main_v24, val_main_v23]

theorem v24_fresh (b : Fin 4) (n : Fin 4096) (h : Fin 8) (i : Fin 2) (c : Fin 64) :
    (val_main_v24 (F := Ideal) x1 x3 : FVec Ideal S4x4352x8x2x64 .f32) (ix5 b (fresh n) h i c) = x3 (ix3 b n (part h i c)) := by
  unfold fresh
  pointwise [val_main_v24]
  exact v20_at x3 b n h i c

theorem v26_cached (b : Fin 4) (p : Fin 256) (h : Fin 8) (d : Fin 128) :
    (val_main_v26 (F := Ideal) x2 x4 : FVec Ideal S4x4352x8x128 .f32) (ix4 b (cached p) h d) = x2 (ix5 b 0 p h d) := by
  unfold cached
  pointwise [val_main_v26, val_main_v25]

theorem v26_fresh (b : Fin 4) (n : Fin 4096) (h : Fin 8) (d : Fin 128) :
    (val_main_v26 (F := Ideal) x2 x4 : FVec Ideal S4x4352x8x128 .f32) (ix4 b (fresh n) h d) = x4 (ix3 b n (lane h d)) := by
  unfold fresh
  pointwise [val_main_v26]
  exact v22_at x4 b n h d

theorem v27_at (b : Fin 4) (h : Fin 8) (i : Fin 2) (n : Fin 4096) (k : Fin 4352) :
    (val_main_v27 (F := Ideal) x0 x1 x3 : FVec Ideal S4x8x2x4096x4352 .f32) (ix5 b h i n k)
      = ∑ c, (val_main_v18 (F := Ideal) x0 : FVec Ideal S4x4096x8x2x64 .f32) (ix5 b n h i c)
        * (val_main_v24 (F := Ideal) x1 x3 : FVec Ideal S4x4352x8x2x64 .f32) (ix5 b k h i c) := by
  pointwise [val_main_v27]

/-- The maximum drops the last axis. -/
theorem red : S4x8x2x4096x4352.Reduces [4] S4x8x2x4096 := by decide

/-- The largest score of a row is a real. -/
theorem v28_real (f : S4x8x2x4096x4352.Idx → ℝ) (hf : ∀ z, (val_main_v27 (F := Ideal) x0 x1 x3 : FVec Ideal S4x8x2x4096x4352 .f32) z = (f z : EReal))
    (j : S4x8x2x4096.Idx) : ∃ R : ℝ, (val_main_v28 (F := Ideal) x0 x1 x3 : FVec Ideal S4x8x2x4096 .f32) j = (R : EReal) := by
  unfold val_main_v28
  rw [show (val_main_v27 (F := Ideal) x0 x1 x3 : FVec Ideal S4x8x2x4096x4352 .f32) = fun z => (f z : EReal) from funext hf]
  obtain ⟨R, hR⟩ := Cert.AttnMath.fold_max_coe (n := 4352) (by omega) (fun k => f (red.lift j k))
  refine ⟨R, Eq.trans ?_ hR⟩
  refine (Host.reduce_eq_fold_single (max : EReal → EReal → EReal) (fun z => (f z : EReal)) _ _ red _ j).trans ?_
  rw [show (val_main_cst_2 (F := Ideal) (Shape.Idx.first h_S_)) = (⊥ : EReal) from (by decide : Ideal.ofBits FTy.f32 4286578688#32 = ⊥)]
  rfl

/-- Where the first and the second map are read. -/
theorem i40 (b : Fin 4) (h : Fin 8) (n : Fin 4096) (k : Fin 4352) : idx_main_v39 (idx_main_v40 (ix4 b h n k)) = ix5 b h 0 n k := by
  have hb := b.isLt
  have hh := h.isLt
  have hn := n.isLt
  have hk := k.isLt
  funext a
  apply Fin.ext
  match a with
  | ⟨0, _⟩ => show (((b.val * 8 + h.val) * 4096 + n.val) * 4352 + k.val) / 142606336 = b.val; omega
  | ⟨1, _⟩ => show (((b.val * 8 + h.val) * 4096 + n.val) * 4352 + k.val) / 17825792 % 8 = h.val; omega
  | ⟨2, _⟩ => rfl
  | ⟨3, _⟩ => show (((b.val * 8 + h.val) * 4096 + n.val) * 4352 + k.val) / 4352 % 4096 = n.val; omega
  | ⟨4, _⟩ => show (((b.val * 8 + h.val) * 4096 + n.val) * 4352 + k.val) % 4352 = k.val; omega

theorem i42 (b : Fin 4) (h : Fin 8) (n : Fin 4096) (k : Fin 4352) : idx_main_v41 (idx_main_v42 (ix4 b h n k)) = ix5 b h 1 n k := by
  have hb := b.isLt
  have hh := h.isLt
  have hn := n.isLt
  have hk := k.isLt
  funext a
  apply Fin.ext
  match a with
  | ⟨0, _⟩ => show (((b.val * 8 + h.val) * 4096 + n.val) * 4352 + k.val) / 142606336 = b.val; omega
  | ⟨1, _⟩ => show (((b.val * 8 + h.val) * 4096 + n.val) * 4352 + k.val) / 17825792 % 8 = h.val; omega
  | ⟨2, _⟩ => rfl
  | ⟨3, _⟩ => show (((b.val * 8 + h.val) * 4096 + n.val) * 4352 + k.val) / 4352 % 4096 = n.val; omega
  | ⟨4, _⟩ => show (((b.val * 8 + h.val) * 4096 + n.val) * 4352 + k.val) % 4352 = k.val; omega

theorem v45_at (b : Fin 4) (h : Fin 8) (n : Fin 4096) (k : Fin 4352) :
    (val_main_v45 (F := Ideal) x0 x1 x3 x5 : FVec Ideal S4x8x4096x4352 .f32) (ix4 b h n k)
      = (val_main_v38 (F := Ideal) x0 x1 x3 : FVec Ideal S4x8x2x4096x4352 .f32) (ix5 b h 0 n k)
        - (val_main_v16 (F := Ideal) x5 : FVec Ideal S_ .f32) ix0 * (val_main_v38 (F := Ideal) x0 x1 x3 : FVec Ideal S4x8x2x4096x4352 .f32) (ix5 b h 1 n k) := by
  rw [val_main_v45_apply, val_main_v44_apply, val_main_v40_apply, val_main_v39_apply, val_main_v42_apply, val_main_v41_apply, val_main_v43_apply, i40, i42]
  rw [show idx_main_v43 (ix4 b h n k) = ix0 from funext fun a => a.elim0]
  rfl

end Cert.ReferenceIdeal.Value

end
-- ==== Proof.AttnRefOut.lean ====
module

public import proofs.«01_k».proof.Proof.Gen.ReferenceIdeal.Read
public import proofs.«01_k».proof.Proof.AttnSpec
public import Idealize.ShloMosaic.Lib.Pointwise

@[expose] public section

set_option maxRecDepth 16384

noncomputable section

/-! The attention reference's softmax, output and normalization, read at an index. -/

namespace Cert.ReferenceIdeal.Value

open Cert.ReferenceIdeal Cert.ReferenceIdeal.Gen Cert.ReferenceIdeal.Read Idealize.ShloMosaic Idealize.ShloMosaic.TcCoe Idealize.SL.Sem
open Cert.AttnSpec (Args lane part)

variable (x0 : FVec Ideal S4x4096x1024 .bf16) (x1 : FVec Ideal S4x1x256x8x2x64 .f32) (x2 : FVec Ideal S4x1x256x8x128 .f32)
  (x3 x4 : FVec Ideal S4x4096x1024 .bf16) (x5 : FVec Ideal S1x4x64 .f32) (x6 : FVec Ideal S1x128 .f32)

theorem v38_at (b : Fin 4) (h : Fin 8) (i : Fin 2) (n : Fin 4096) (k : Fin 4352) :
    (val_main_v38 (F := Ideal) x0 x1 x3 : FVec Ideal S4x8x2x4096x4352 .f32) (ix5 b h i n k)
      = Ideal.div (Ideal.exp ((val_main_v27 (F := Ideal) x0 x1 x3 : FVec Ideal S4x8x2x4096x4352 .f32) (ix5 b h i n k) - (val_main_v30 (F := Ideal) x0 x1 x3 : FVec Ideal S4x8x2x4096 .f32) (ix4 b h i n)))
        (∑ x, Ideal.exp ((val_main_v27 (F := Ideal) x0 x1 x3 : FVec Ideal S4x8x2x4096x4352 .f32) (ix5 b h i n x) - (val_main_v30 (F := Ideal) x0 x1 x3 : FVec Ideal S4x8x2x4096 .f32) (ix4 b h i n))) := by
  pointwise [val_main_v38, val_main_v37, val_main_v36, val_main_v35, val_main_v34, val_main_v33, val_main_v32, val_main_v31, val_main_cst_4]

theorem v16_at : (val_main_v16 (F := Ideal) x5 : FVec Ideal S_ .f32) ix0
    = Ideal.exp (∑ x, x5 (ix3 0 0 x) * x5 (ix3 0 1 x)) - Ideal.exp (∑ x, x5 (ix3 0 2 x) * x5 (ix3 0 3 x)) + Ideal.ofBits FTy.f32 1045220557#32 := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v47_at (b : Fin 4) (h : Fin 8) (n : Fin 4096) (d : Fin 128) :
    (val_main_v47 (F := Ideal) x0 x1 x2 x3 x4 x5 : FVec Ideal S4x4096x8x128 .f32) (ix4 b n h d)
      = ∑ x, (val_main_v26 (F := Ideal) x2 x4 : FVec Ideal S4x4352x8x128 .f32) (ix4 b x h d)
        * (val_main_v45 (F := Ideal) x0 x1 x3 x5 : FVec Ideal S4x8x4096x4352 .f32) (ix4 b h n x) := by
  pointwise [val_main_v47, val_main_v46]

theorem v65_at (b : Fin 4) (n : Fin 4096) (h : Fin 8) (d : Fin 128) :
    (val_main_v65 (F := Ideal) x0 x1 x2 x3 x4 x5 x6 : FVec Ideal S4x4096x1024 .bf16) (ix3 b n (lane h d))
      = (val_main_v47 (F := Ideal) x0 x1 x2 x3 x4 x5 : FVec Ideal S4x4096x8x128 .f32) (ix4 b n h d) * Ideal.rsqrt (Ideal.div (∑ x, (val_main_v47 (F := Ideal) x0 x1 x2 x3 x4 x5 : FVec Ideal S4x4096x8x128 .f32) (ix4 b n h x) * (val_main_v47 (F := Ideal) x0 x1 x2 x3 x4 x5 : FVec Ideal S4x4096x8x128 .f32) (ix4 b n h x)) (Ideal.ofBits FTy.f32 1124073472#32)
        + Ideal.ofBits FTy.f32 925353388#32) * x6 (ix2 0 d) * Ideal.ofBits FTy.f32 1061997773#32 := by
  unfold lane
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_cst_5, val_main_cst_6, val_main_cst_7, val_main_cst_8]

end Cert.ReferenceIdeal.Value

end
-- ==== Proof.AttnRefFinal.lean ====
module

public import proofs.«01_k».proof.Proof.AttnRef
public import proofs.«01_k».proof.Proof.AttnRefOut
public import Mathlib.Tactic.Ring
public import Idealize.ShloMosaic.Lib.Pipeline.ValueKit
public import Idealize.ShloMosaic.Lib.Pointwise

@[expose] public section

set_option maxRecDepth 16384

noncomputable section

/-! The attention reference's result, in plain sums of reals. -/

namespace Cert.ReferenceIdeal.Value

open Cert.ReferenceIdeal Cert.ReferenceIdeal.Gen Cert.ReferenceIdeal.Read Idealize.ShloMosaic Idealize.ShloMosaic.TcCoe Idealize.SL.Sem
open Cert.AttnSpec (Args lane part)

variable (x0 : FVec Ideal S4x4096x1024 .bf16) (x1 : FVec Ideal S4x1x256x8x2x64 .f32) (x2 : FVec Ideal S4x1x256x8x128 .f32)
  (x3 x4 : FVec Ideal S4x4096x1024 .bf16) (x5 : FVec Ideal S1x4x64 .f32) (x6 : FVec Ideal S1x128 .f32)

/-- The arguments hold these reals. -/
structure Holds (A : Args) : Prop where
  q : ∀ b n x, x0 (ix3 b n x) = (A.Q b n x : EReal)
  ck : ∀ b p h i x, x1 (ix6 b 0 p h i x) = (A.CK b p h i x : EReal)
  cv : ∀ b p h d, x2 (ix5 b 0 p h d) = (A.CV b p h d : EReal)
  k : ∀ b n x, x3 (ix3 b n x) = (A.K b n x : EReal)
  v : ∀ b n x, x4 (ix3 b n x) = (A.V b n x : EReal)
  l : ∀ i x, x5 (ix3 0 i x) = (A.L i x : EReal)

theorem coe_mul_of {x y : EReal} {a b : ℝ} (hx : x = a) (hy : y = b) : x * y = ((a * b : ℝ) : EReal) := by
  rw [hx, hy, EReal.coe_mul]

theorem coe_dot_of {n : ℕ} {x y : Fin n → EReal} {a b : Fin n → ℝ} (hx : ∀ c, x c = a c) (hy : ∀ c, y c = b c) :
    ∑ c, x c * y c = ((∑ c, a c * b c : ℝ) : EReal) := by
  rw [← Cert.AttnMath.coe_sum]
  exact Finset.sum_congr rfl fun c _ => coe_mul_of (hx c) (hy c)

/-- Every key is a cached or a new one. -/
theorem every_key {P : Fin 4352 → Prop} (hc : ∀ p, P (cached p)) (hf : ∀ n, P (fresh n)) (k : Fin 4352) : P k := by
  by_cases hk : k.val < 256
  · exact hc ⟨k.val, hk⟩
  · have : k = fresh ⟨k.val - 256, by omega⟩ := Fin.ext (by simp only [fresh]; omega)
    rw [this]
    exact hf _

theorem sum_keys (g : Fin 4352 → ℝ) : ∑ k, g k = ∑ p, g (cached p) + ∑ n, g (fresh n) := Fin.sum_univ_add (a := 256) (b := 4096) g

/-- What is given of the cached keys and of the new ones, over all keys. -/
def join (f : Fin 256 → ℝ) (g : Fin 4096 → ℝ) (k : Fin 4352) : ℝ := if hk : k.val < 256 then f ⟨k.val, hk⟩ else g ⟨k.val - 256, by omega⟩

theorem join_cached (f : Fin 256 → ℝ) (g : Fin 4096 → ℝ) (p : Fin 256) : join f g (cached p) = f p := dif_pos p.isLt

theorem join_fresh (f : Fin 256 → ℝ) (g : Fin 4096 → ℝ) (n : Fin 4096) : join f g (fresh n) = g n := by
  refine (dif_neg (by simp only [fresh]; omega)).trans (congrArg g (Fin.ext ?_))
  simp only [fresh]
  omega

/-- The scores and the values over all keys. -/
def score (A : Args) (i : Fin 2) (b : Fin 4) (n : Fin 4096) (h : Fin 8) : Fin 4352 → ℝ := join (Cert.AttnSpec.sc A i b n h) (Cert.AttnSpec.st A i b n h)
def value (A : Args) (b : Fin 4) (h : Fin 8) (d : Fin 128) : Fin 4352 → ℝ := join (fun p => A.CV b p h d) (fun n => A.V b n (lane h d))

theorem sum_exp (A : Args) (i : Fin 2) (b : Fin 4) (n : Fin 4096) (h : Fin 8) : ∑ k, Real.exp (score A i b n h k) = Cert.AttnSpec.E A i b n h := by
  rw [sum_keys]
  simp only [score, join_cached, join_fresh]
  rfl

theorem sum_value (A : Args) (i : Fin 2) (b : Fin 4) (n : Fin 4096) (h : Fin 8) (d : Fin 128) :
    ∑ k, value A b h d k * Real.exp (score A i b n h k) = Cert.AttnSpec.W A i b n h d := by
  rw [sum_keys]
  simp only [score, value, join_cached, join_fresh]
  rfl

variable {x0 x1 x2 x3 x4 x5} {A : Args} (H : Holds x0 x1 x2 x3 x4 x5 A)
include H

theorem v27_real (b : Fin 4) (h : Fin 8) (i : Fin 2) (n : Fin 4096) (k : Fin 4352) :
    (val_main_v27 (F := Ideal) x0 x1 x3 : FVec Ideal S4x8x2x4096x4352 .f32) (ix5 b h i n k) = (score A i b n h k : EReal) := by
  rw [v27_at]
  revert k
  refine every_key (fun p => ?_) fun x => ?_
  · refine (coe_dot_of (fun c => (v18_at x0 b n h i c).trans (H.q b n _)) (fun c => (v24_cached x1 x3 b p h i c).trans (H.ck b p h i c))).trans (congrArg _ ?_)
    rw [score, join_cached]
    exact Finset.sum_congr rfl fun c _ => mul_comm _ _
  · refine (coe_dot_of (fun c => (v18_at x0 b n h i c).trans (H.q b n _)) (fun c => (v24_fresh x1 x3 b x h i c).trans (H.k b x _))).trans (congrArg _ ?_)
    rw [score, join_fresh]
    exact Finset.sum_congr rfl fun c _ => mul_comm _ _

theorem v26_real (b : Fin 4) (h : Fin 8) (d : Fin 128) (k : Fin 4352) :
    (val_main_v26 (F := Ideal) x2 x4 : FVec Ideal S4x4352x8x128 .f32) (ix4 b k h d) = (value A b h d k : EReal) := by
  revert k
  refine every_key (fun p => ?_) fun x => ?_
  · rw [v26_cached, H.cv, value, join_cached]
  · rw [v26_fresh, H.v, value, join_fresh]

theorem v30_real (j : S4x8x2x4096.Idx) : ∃ R : ℝ, (val_main_v30 (F := Ideal) x0 x1 x3 : FVec Ideal S4x8x2x4096 .f32) j = (R : EReal) := by
  obtain ⟨R, hR⟩ := v28_real x0 x1 x3 (fun z => score A (z 2) (z 0) (z 3) (z 1) (z 4)) (fun z => by
    idx_vars z
    exact v27_real H z0 z1 z2 z3 z4) j
  refine ⟨R, ?_⟩
  rw [val_main_v30_apply, val_main_v29_apply, val_main_cst_3_apply, hR]
  exact (congrArg (fun y => max y (R : EReal)) (by decide : Ideal.ofBits FTy.f32 4286578688#32 = ⊥)).trans (max_eq_right bot_le)

theorem v38_real (b : Fin 4) (h : Fin 8) (i : Fin 2) (n : Fin 4096) (k : Fin 4352) :
    (val_main_v38 (F := Ideal) x0 x1 x3 : FVec Ideal S4x8x2x4096x4352 .f32) (ix5 b h i n k)
      = ((Real.exp (score A i b n h k) / Cert.AttnSpec.E A i b n h : ℝ) : EReal) := by
  obtain ⟨R, hR⟩ := v30_real H (ix4 b h i n)
  rw [v38_at, hR]
  simp only [v27_real H]
  rw [← sum_exp]
  exact Cert.AttnMath.softmax (score A i b n h) R (by rw [sum_exp]; exact Cert.AttnSpec.E_pos A i b n h) k

theorem v16_real : (val_main_v16 (F := Ideal) x5 : FVec Ideal S_ .f32) ix0 = (Cert.AttnSpec.lam A : EReal) := by
  rw [v16_at, Cert.AttnSpec.init_eq, coe_dot_of (fun c => H.l 0 c) (fun c => H.l 1 c), coe_dot_of (fun c => H.l 2 c) (fun c => H.l 3 c), Ideal.exp_coe, Ideal.exp_coe,
    ← EReal.coe_sub, ← EReal.coe_add]
  rfl

theorem v45_real (b : Fin 4) (h : Fin 8) (n : Fin 4096) (k : Fin 4352) :
    (val_main_v45 (F := Ideal) x0 x1 x3 x5 : FVec Ideal S4x8x4096x4352 .f32) (ix4 b h n k)
      = ((Real.exp (score A 0 b n h k) / Cert.AttnSpec.E A 0 b n h
        - Cert.AttnSpec.lam A * (Real.exp (score A 1 b n h k) / Cert.AttnSpec.E A 1 b n h) : ℝ) : EReal) := by
  rw [v45_at, v38_real H, v38_real H, v16_real H, ← EReal.coe_mul, ← EReal.coe_sub]

theorem v47_real (b : Fin 4) (h : Fin 8) (n : Fin 4096) (d : Fin 128) :
    (val_main_v47 (F := Ideal) x0 x1 x2 x3 x4 x5 : FVec Ideal S4x4096x8x128 .f32) (ix4 b n h d) = (Cert.AttnSpec.o A b n h d : EReal) := by
  rw [v47_at]
  refine (coe_dot_of (fun k => v26_real H b h d k) (fun k => v45_real H b h n k)).trans (congrArg _ ?_)
  rw [Cert.AttnSpec.o, ← sum_value, ← sum_value, Finset.sum_div, Finset.sum_div, Finset.mul_sum, ← Finset.sum_sub_distrib]
  exact Finset.sum_congr rfl fun k _ => by ring

/-- The reference's result is the attention of every row and head. -/
theorem v65_real (b : Fin 4) (n : Fin 4096) (h : Fin 8) (d : Fin 128) :
    (val_main_v65 (F := Ideal) x0 x1 x2 x3 x4 x5 x6 : FVec Ideal S4x4096x1024 .bf16) (ix3 b n (lane h d))
      = Cert.AttnSpec.out A (fun d => x6 (ix2 0 d)) b n h d := by
  rw [v65_at]
  simp only [v47_real H]
  exact mul_assoc _ _ _

end Cert.ReferenceIdeal.Value

end
-- ==== Proof.AttnKer.lean ====
module

public import proofs.«01_k».proof.Proof.Gen.KernelIdeal.Skeleton
public import proofs.«01_k».proof.Proof.AttnMath
public import Idealize.ShloMosaic.Lib.Pointwise

@[expose] public section

set_option maxRecDepth 16384

noncomputable section

/-! What the body of the attention kernel computes, read at an index. -/

namespace Cert.KernelIdeal.Value

open Cert.KernelIdeal Cert.KernelIdeal.Gen Idealize.ShloMosaic Idealize.ShloMosaic.TcCoe Idealize.SL.Sem

theorem ofBits_neg : Ideal.ofBits FTy.f32 4286578688#32 = ⊥ := by decide

/-- The part of a head a map reads: lane `c` of the first map, lane `64 + c` of the second. -/
abbrev lane0 (c : Fin 64) : Fin 128 := ⟨c.val, by omega⟩
abbrev lane1 (c : Fin 64) : Fin 128 := ⟨64 + c.val, by omega⟩

section trip
variable (q : FVec Ideal S256x128 .bf16) (K : Vec Ideal S1x512x128 .bf16) (V : Vec Ideal S1x128x512 .bf16)
  (m l : Vec Ideal S1x256 .f32) (a : Vec Ideal S1x128x256 .f32)

theorem pay11_at (p : Fin 512) (r : Fin 256) :
    (k0_pay11 (F := Ideal) q K : FVec Ideal S512x256 .f32) (ix2 p r) = ∑ x, K (ix3 0 p (lane0 x)) * q (ix2 r (lane0 x)) := by
  pointwise [k0_pay11, k0_pay9]
theorem pay19_at (p : Fin 512) (r : Fin 256) :
    (k0_pay19 (F := Ideal) q (k0_pay9 K) : FVec Ideal S512x256 .f32) (ix2 p r) = ∑ x, K (ix3 0 p (lane1 x)) * q (ix2 r (lane1 x)) := by
  pointwise [k0_pay19, k0_pay9]
theorem pay12_at (r : Fin 256) : (k0_pay12 (F := Ideal) q K m : FVec Ideal S1x256 .f32) (ix2 0 r)
    = max (m (ix2 0 r)) (Finset.fold max ⊥ (fun x => (k0_pay11 (F := Ideal) q K : FVec Ideal S512x256 .f32) (ix2 x r)) Finset.univ) := by
  pointwise [k0_pay12]
  rw [ofBits_neg]
theorem pay20_at (r : Fin 256) : (k0_pay20 (F := Ideal) q (k0_pay9 K) m : FVec Ideal S1x256 .f32) (ix2 0 r)
    = max (m (ix2 0 r)) (Finset.fold max ⊥ (fun x => (k0_pay19 (F := Ideal) q (k0_pay9 K) : FVec Ideal S512x256 .f32) (ix2 x r)) Finset.univ) := by
  pointwise [k0_pay20]
  rw [ofBits_neg]
theorem pay15_at (r : Fin 256) : (k0_pay15 (F := Ideal) q K m l : FVec Ideal S1x256 .f32) (ix2 0 r)
    = Ideal.exp (m (ix2 0 r) - (k0_pay12 (F := Ideal) q K m : FVec Ideal S1x256 .f32) (ix2 0 r)) * l (ix2 0 r)
      + ∑ x, Ideal.exp ((k0_pay11 (F := Ideal) q K : FVec Ideal S512x256 .f32) (ix2 x r) - (k0_pay12 (F := Ideal) q K m : FVec Ideal S1x256 .f32) (ix2 0 r)) := by
  pointwise [k0_pay15, k0_pay14, k0_pay13]
theorem pay23_at (r : Fin 256) : (k0_pay23 (F := Ideal) q (k0_pay9 K) m l : FVec Ideal S1x256 .f32) (ix2 0 r)
    = Ideal.exp (m (ix2 0 r) - (k0_pay20 (F := Ideal) q (k0_pay9 K) m : FVec Ideal S1x256 .f32) (ix2 0 r)) * l (ix2 0 r)
      + ∑ x, Ideal.exp ((k0_pay19 (F := Ideal) q (k0_pay9 K) : FVec Ideal S512x256 .f32) (ix2 x r) - (k0_pay20 (F := Ideal) q (k0_pay9 K) m : FVec Ideal S1x256 .f32) (ix2 0 r)) := by
  pointwise [k0_pay23, k0_pay22, k0_pay21]
theorem pay17_at (d : Fin 128) (r : Fin 256) : (k0_pay17 (F := Ideal) (k0_pay16 q K V m a) : FVec Ideal S1x128x256 .f32) (ix3 0 d r)
    = Ideal.exp (m (ix2 0 r) - (k0_pay12 (F := Ideal) q K m : FVec Ideal S1x256 .f32) (ix2 0 r)) * a (ix3 0 d r)
      + ∑ x, V (ix3 0 d x) * Ideal.exp ((k0_pay11 (F := Ideal) q K : FVec Ideal S512x256 .f32) (ix2 x r) - (k0_pay12 (F := Ideal) q K m : FVec Ideal S1x256 .f32) (ix2 0 r)) := by
  pointwise [k0_pay17, k0_pay16, k0_pay10, k0_pay14, k0_pay13]
theorem pay24_at (d : Fin 128) (r : Fin 256) : (k0_pay24 (F := Ideal) q (k0_pay9 K) (k0_pay10 V) m a : FVec Ideal S1x128x256 .f32) (ix3 0 d r)
    = Ideal.exp (m (ix2 0 r) - (k0_pay20 (F := Ideal) q (k0_pay9 K) m : FVec Ideal S1x256 .f32) (ix2 0 r)) * a (ix3 0 d r)
      + ∑ x, V (ix3 0 d x) * Ideal.exp ((k0_pay19 (F := Ideal) q (k0_pay9 K) : FVec Ideal S512x256 .f32) (ix2 x r) - (k0_pay20 (F := Ideal) q (k0_pay9 K) m : FVec Ideal S1x256 .f32) (ix2 0 r)) := by
  pointwise [k0_pay24, k0_pay10, k0_pay22, k0_pay21]
theorem pay18_at (r : Fin 256) : (k0_pay18 (F := Ideal) m : FVec Ideal S1x256 .f32) (ix2 0 r) = m (ix2 0 r) := by
  pointwise [k0_pay18]
theorem pay46_at (r : Fin 256) : (k0_pay46 (F := Ideal) m : FVec Ideal S1x256 .f32) (ix2 0 r) = m (ix2 0 r) := by
  pointwise [k0_pay46]
end trip

section tile
variable (q : Vec Ideal S1x256x128 .bf16) (K : Vec Ideal S1x256x128 .f32) (V : Vec Ideal S128x256 .bf16)
  (m l : Vec Ideal S1x256 .f32) (a : Vec Ideal S1x128x256 .f32)

theorem pay31_at (p : Fin 256) (r : Fin 256) :
    (k0_pay31 (F := Ideal) q K : FVec Ideal S256x256 .f32) (ix2 p r) = ∑ x, K (ix3 0 p (lane0 x)) * q (ix3 0 r (lane0 x)) := by
  pointwise [k0_pay31, k0_pay30, k0_pay26]
theorem pay39_at (p : Fin 256) (r : Fin 256) :
    (k0_pay39 (F := Ideal) (k0_pay26 q) (k0_pay30 K) : FVec Ideal S256x256 .f32) (ix2 p r) = ∑ x, K (ix3 0 p (lane1 x)) * q (ix3 0 r (lane1 x)) := by
  pointwise [k0_pay39, k0_pay30, k0_pay26]
theorem pay32_at (r : Fin 256) : (k0_pay32 (F := Ideal) q K m : FVec Ideal S1x256 .f32) (ix2 0 r)
    = max (m (ix2 0 r)) (Finset.fold max ⊥ (fun x => (k0_pay31 (F := Ideal) q K : FVec Ideal S256x256 .f32) (ix2 x r)) Finset.univ) := by
  pointwise [k0_pay32]
  rw [ofBits_neg]
theorem pay40_at (r : Fin 256) : (k0_pay40 (F := Ideal) (k0_pay26 q) (k0_pay30 K) m : FVec Ideal S1x256 .f32) (ix2 0 r)
    = max (m (ix2 0 r)) (Finset.fold max ⊥ (fun x => (k0_pay39 (F := Ideal) (k0_pay26 q) (k0_pay30 K) : FVec Ideal S256x256 .f32) (ix2 x r)) Finset.univ) := by
  pointwise [k0_pay40]
  rw [ofBits_neg]
theorem pay36_at (r : Fin 256) : (k0_pay36 (F := Ideal) (k0_pay31 q K) (k0_pay32 q K m) (k0_pay33 q K m) l : FVec Ideal S1x256 .f32) (ix2 0 r)
    = Ideal.exp (m (ix2 0 r) - (k0_pay32 (F := Ideal) q K m : FVec Ideal S1x256 .f32) (ix2 0 r)) * l (ix2 0 r)
      + ∑ x, Ideal.exp ((k0_pay31 (F := Ideal) q K : FVec Ideal S256x256 .f32) (ix2 x r) - (k0_pay32 (F := Ideal) q K m : FVec Ideal S1x256 .f32) (ix2 0 r)) := by
  pointwise [k0_pay36, k0_pay35, k0_pay34, k0_pay33]
theorem pay43_at (r : Fin 256) : (k0_pay43 (F := Ideal) (k0_pay41 (k0_pay26 q) (k0_pay30 K) m) (k0_pay42 (k0_pay26 q) (k0_pay30 K) m) l : FVec Ideal S1x256 .f32) (ix2 0 r)
    = Ideal.exp (m (ix2 0 r) - (k0_pay40 (F := Ideal) (k0_pay26 q) (k0_pay30 K) m : FVec Ideal S1x256 .f32) (ix2 0 r)) * l (ix2 0 r)
      + ∑ x, Ideal.exp ((k0_pay39 (F := Ideal) (k0_pay26 q) (k0_pay30 K) : FVec Ideal S256x256 .f32) (ix2 x r) - (k0_pay40 (F := Ideal) (k0_pay26 q) (k0_pay30 K) m : FVec Ideal S1x256 .f32) (ix2 0 r)) := by
  pointwise [k0_pay43, k0_pay42, k0_pay41]
theorem pay37_at (d : Fin 128) (r : Fin 256) : (k0_pay37 (F := Ideal) V (k0_pay31 q K) (k0_pay32 q K m) (k0_pay33 q K m) a : FVec Ideal S1x128x256 .f32) (ix3 0 d r)
    = Ideal.exp (m (ix2 0 r) - (k0_pay32 (F := Ideal) q K m : FVec Ideal S1x256 .f32) (ix2 0 r)) * a (ix3 0 d r)
      + ∑ x, V (ix2 d x) * Ideal.exp ((k0_pay31 (F := Ideal) q K : FVec Ideal S256x256 .f32) (ix2 x r) - (k0_pay32 (F := Ideal) q K m : FVec Ideal S1x256 .f32) (ix2 0 r)) := by
  pointwise [k0_pay37, k0_pay35, k0_pay34, k0_pay33]
theorem pay44_at (d : Fin 128) (r : Fin 256) : (k0_pay44 (F := Ideal) V (k0_pay41 (k0_pay26 q) (k0_pay30 K) m) (k0_pay42 (k0_pay26 q) (k0_pay30 K) m) a : FVec Ideal S1x128x256 .f32) (ix3 0 d r)
    = Ideal.exp (m (ix2 0 r) - (k0_pay40 (F := Ideal) (k0_pay26 q) (k0_pay30 K) m : FVec Ideal S1x256 .f32) (ix2 0 r)) * a (ix3 0 d r)
      + ∑ x, V (ix2 d x) * Ideal.exp ((k0_pay39 (F := Ideal) (k0_pay26 q) (k0_pay30 K) : FVec Ideal S256x256 .f32) (ix2 x r) - (k0_pay40 (F := Ideal) (k0_pay26 q) (k0_pay30 K) m : FVec Ideal S1x256 .f32) (ix2 0 r)) := by
  pointwise [k0_pay44, k0_pay42, k0_pay41]
theorem pay38_at (r : Fin 256) : (k0_pay38 (F := Ideal) m : FVec Ideal S1x256 .f32) (ix2 0 r) = m (ix2 0 r) := by
  pointwise [k0_pay38]
theorem pay45_at (r : Fin 256) : (k0_pay45 (F := Ideal) m : FVec Ideal S1x256 .f32) (ix2 0 r) = m (ix2 0 r) := by
  pointwise [k0_pay45]
end tile

/-- The output of a point, from what is held of the two maps. -/
theorem pay50_at (e0 e1 : FVec Ideal S1x1 .f32) (a0 : Vec Ideal S1x128x256 .f32) (l0 : Vec Ideal S1x256 .f32) (a1 : Vec Ideal S1x128x256 .f32)
    (l1 : Vec Ideal S1x256 .f32) (g : Vec Ideal S128x1 .f32) (o : Fin 128 → EReal) (r : Fin 256) (d : Fin 128)
    (h : ∀ d, a0 (ix3 0 d r) * Ideal.div 1 (l0 (ix2 0 r))
      - a1 (ix3 0 d r) * Ideal.div (e0 (ix2 0 0) - e1 (ix2 0 0) + Ideal.ofBits FTy.f32 1045220557#32) (l1 (ix2 0 r)) = o d) :
    (k0_pay50 (F := Ideal) e0 e1 a0 l0 a1 l1 g : FVec Ideal S1x256x128 .bf16) (ix3 0 r d)
      = o d * Ideal.rsqrt (Ideal.div (∑ x, o x * o x) (Ideal.ofBits FTy.f32 1124073472#32) + Ideal.ofBits FTy.f32 925353388#32)
        * (g (ix2 d 0) * Ideal.ofBits FTy.f32 1061997773#32) := by
  pointwise [k0_pay50]
  simp only [h]

theorem pay48_at (x : Vec Ideal S4x64 .f32) : (k0_pay48 (F := Ideal) x : FVec Ideal S1x1 .f32) (ix2 0 0) = Ideal.exp (∑ c, x (ix2 0 c) * x (ix2 1 c)) := by
  pointwise [k0_pay48, k0_pay47]
theorem pay49_at (x : Vec Ideal S4x64 .f32) : (k0_pay49 (F := Ideal) x : FVec Ideal S1x1 .f32) (ix2 0 0) = Ideal.exp (∑ c, x (ix2 2 c) * x (ix2 3 c)) := by
  pointwise [k0_pay49, k0_pay47]

theorem pay26_at (x : Vec Ideal S1x256x128 .bf16) (r : Fin 256) (c : Fin 128) : (k0_pay26 (F := Ideal) x : FVec Ideal S256x128 .bf16) (ix2 r c) = x (ix3 0 r c) := by
  pointwise [k0_pay26]
theorem pay27_at (i : Fin 8) (r : Fin 256) : (k0_pay27 (F := Ideal) : FVec Ideal S8x256 .f32) (ix2 i r) = ⊥ := by
  pointwise [k0_pay27]
  exact IdealRules.named_const.ideal_named_scalar _ _ _ _ rfl
theorem pay28_at (i : Fin 8) (r : Fin 256) : (k0_pay28 (F := Ideal) : FVec Ideal S8x256 .f32) (ix2 i r) = 0 := by
  pointwise [k0_pay28]
theorem pay29_at (i : Fin 2) (d : Fin 128) (r : Fin 256) : (k0_pay29 (F := Ideal) : FVec Ideal S2x128x256 .f32) (ix3 i d r) = 0 := by
  pointwise [k0_pay29]

end Cert.KernelIdeal.Value

end
-- ==== Proof.AttnTrip.lean ====
module

public import proofs.«01_k».proof.Proof.Gen.KernelIdeal.Frame
public import proofs.«01_k».proof.Proof.AttnKer
public import Idealize.ShloMosaic.Lib.Pipeline.Value
public import Idealize.ShloMosaic.Lib.WritesUnit
public import Idealize.ShloMosaic.Lib.Pointwise

@[expose] public section

set_option maxRecDepth 16384

noncomputable section

/-! The loop of the attention kernel over the tiles of new keys: one trip's stores, and what the trips leave held. -/

namespace Cert.KernelIdeal.Value

open Cert.KernelIdeal Cert.KernelIdeal.Gen Idealize.ShloMosaic Idealize.ShloMosaic.TcCoe Idealize.SL.Sem
open Cert.AttnMath

section reads
variable (A : Memref sig .tc .vmem S2x128x256 .f32) (v : Memref sig .tc .vmem S8x256 .f32)
  (arg6 : Memref sig .tc .vmem S1x4096x128 .bf16) (arg12 : Memref sig .tc .vmem S8x128x512 .bf16)

/-- The keys a trip reads. -/
abbrev keysAt (X6 : BufTy.Contents (Elt Ideal) arg6.view.ty) (k : Fin k0_t1_loop.trips) : Vec Ideal S1x512x128 .bf16 :=
  View.readAt (Elt Ideal) arg6.view (Rect.unit (s := S1x4096x128) (k0_off1 k) S1x512x128.size (k0_off1_inb k)).toLoadRect X6
/-- The values a trip reads. -/
abbrev valsAt (X12 : BufTy.Contents (Elt Ideal) arg12.view.ty) (k : Fin k0_t1_loop.trips) : Vec Ideal S1x128x512 .bf16 :=
  View.readAt (Elt Ideal) arg12.view (Rect.unit (s := S8x128x512) (k0_off2 k) S1x128x512.size (k0_off2_inb k)).toLoadRect X12
/-- The held row of the first map in a buffer of rows, and that of the second. -/
abbrev row0 (f : BufTy.Contents (Elt Ideal) v.view.ty) : Vec Ideal S1x256 .f32 :=
  View.readAt (Elt Ideal) v.view (Rect.unit (s := S8x256) ![0, 0] S1x256.size inb_S8x256_S1x256_0_0).toLoadRect f
abbrev row1 (f : BufTy.Contents (Elt Ideal) v.view.ty) : Vec Ideal S1x256 .f32 :=
  View.readAt (Elt Ideal) v.view (Rect.unit (s := S8x256) ![1, 0] S1x256.size inb_S8x256_S1x256_1_0).toLoadRect f
/-- The held sums of the first map, and those of the second. -/
abbrev sum0 (f : BufTy.Contents (Elt Ideal) A.view.ty) : Vec Ideal S1x128x256 .f32 :=
  View.readAt (Elt Ideal) A.view (Rect.unit (s := S2x128x256) ![0, 0, 0] S1x128x256.size inb_S2x128x256_S1x128x256_0_0_0).toLoadRect f
abbrev sum1 (f : BufTy.Contents (Elt Ideal) A.view.ty) : Vec Ideal S1x128x256 .f32 :=
  View.readAt (Elt Ideal) A.view (Rect.unit (s := S2x128x256) ![1, 0, 0] S1x128x256.size inb_S2x128x256_S1x128x256_1_0_0).toLoadRect f

theorem row0_at (f : BufTy.Contents (Elt Ideal) v.view.ty) (r : Fin 256) : row0 v f (ix2 0 r) = v.view.read (Elt Ideal) f (ix2 0 r) :=
  congrArg (v.view.read (Elt Ideal) f) (by funext a; fin_cases a <;> exact Fin.ext (by simp [LoadRect.idx, Rect.toLoadRect]))
theorem row1_at (f : BufTy.Contents (Elt Ideal) v.view.ty) (r : Fin 256) : row1 v f (ix2 0 r) = v.view.read (Elt Ideal) f (ix2 1 r) :=
  congrArg (v.view.read (Elt Ideal) f) (by funext a; fin_cases a <;> exact Fin.ext (by simp [LoadRect.idx, Rect.toLoadRect]))
theorem sum0_at (f : BufTy.Contents (Elt Ideal) A.view.ty) (d : Fin 128) (r : Fin 256) :
    sum0 A f (ix3 0 d r) = A.view.read (Elt Ideal) f (ix3 0 d r) :=
  congrArg (A.view.read (Elt Ideal) f) (by funext a; fin_cases a <;> exact Fin.ext (by simp [LoadRect.idx, Rect.toLoadRect]))
theorem sum1_at (f : BufTy.Contents (Elt Ideal) A.view.ty) (d : Fin 128) (r : Fin 256) :
    sum1 A f (ix3 0 d r) = A.view.read (Elt Ideal) f (ix3 1 d r) :=
  congrArg (A.view.read (Elt Ideal) f) (by funext a; fin_cases a <;> exact Fin.ext (by simp [LoadRect.idx, Rect.toLoadRect]))

/-- Two row stores, the second map's newest. -/
abbrev rows (w1 w0 : Vec Ideal S1x256 .f32) : List (View.Piece (Elt Ideal) S8x256 .f32) :=
  [⟨Rect.unit (s := S8x256) ![1, 0] S1x256.size inb_S8x256_S1x256_1_0, w1⟩, ⟨Rect.unit (s := S8x256) ![0, 0] S1x256.size inb_S8x256_S1x256_0_0, w0⟩]
abbrev sums (w1 w0 : Vec Ideal S1x128x256 .f32) : List (View.Piece (Elt Ideal) S2x128x256 .f32) :=
  [⟨Rect.unit (s := S2x128x256) ![1, 0, 0] S1x128x256.size inb_S2x128x256_S1x128x256_1_0_0, w1⟩,
    ⟨Rect.unit (s := S2x128x256) ![0, 0, 0] S1x128x256.size inb_S2x128x256_S1x128x256_0_0_0, w0⟩]

theorem rows_at1 (f : BufTy.Contents (Elt Ideal) v.view.ty) (w1 w0 : Vec Ideal S1x256 .f32) (r : Fin 256) :
    v.view.read (Elt Ideal) (v.view.writes (Elt Ideal) f (rows w1 w0)) (ix2 1 r) = w1 (ix2 0 r) :=
  View.read_writes_cons_unit_of_mem v.view f _ w1 _ (ix2 1 r) (ix2 0 r) rfl (by intro a; fin_cases a <;> simp)
theorem rows_at0 (f : BufTy.Contents (Elt Ideal) v.view.ty) (w1 w0 : Vec Ideal S1x256 .f32) (r : Fin 256) :
    v.view.read (Elt Ideal) (v.view.writes (Elt Ideal) f (rows w1 w0)) (ix2 0 r) = w0 (ix2 0 r) :=
  (View.read_writes_cons_unit_of_not_mem v.view f _ w1 _ (ix2 0 r) rfl 0 (.inl (by simp))).trans
    (View.read_writes_cons_unit_of_mem v.view f _ w0 _ (ix2 0 r) (ix2 0 r) rfl (by intro a; fin_cases a <;> simp))
theorem sums_at1 (f : BufTy.Contents (Elt Ideal) A.view.ty) (w1 w0 : Vec Ideal S1x128x256 .f32) (d : Fin 128) (r : Fin 256) :
    A.view.read (Elt Ideal) (A.view.writes (Elt Ideal) f (sums w1 w0)) (ix3 1 d r) = w1 (ix3 0 d r) :=
  View.read_writes_cons_unit_of_mem A.view f _ w1 _ (ix3 1 d r) (ix3 0 d r) rfl (by intro a; fin_cases a <;> simp)
theorem sums_at0 (f : BufTy.Contents (Elt Ideal) A.view.ty) (w1 w0 : Vec Ideal S1x128x256 .f32) (d : Fin 128) (r : Fin 256) :
    A.view.read (Elt Ideal) (A.view.writes (Elt Ideal) f (sums w1 w0)) (ix3 0 d r) = w0 (ix3 0 d r) :=
  (View.read_writes_cons_unit_of_not_mem A.view f _ w1 _ (ix3 0 d r) rfl 0 (.inl (by simp))).trans
    (View.read_writes_cons_unit_of_mem A.view f _ w0 _ (ix3 0 d r) (ix3 0 d r) rfl (by intro a; fin_cases a <;> simp))
end reads

section loop
variable (𝒱 : Variants) (c : Dev nD) (bd : Option 𝒱.V) (i : grid0.Coords)
  (arg3 : Memref sig .tc .vmem S1x256x128 .bf16) (harg3 : arg3.IsWhole)
  (arg4 : Memref sig .tc .vmem S1x256x128 .f32) (harg4 : arg4.IsWhole)
  (arg5 : Memref sig .tc .vmem S1x256x128 .f32) (harg5 : arg5.IsWhole)
  (arg6 : Memref sig .tc .vmem S1x4096x128 .bf16) (harg6 : arg6.IsWhole)
  (arg7 : Memref sig .tc .vmem S1x4096x128 .bf16) (harg7 : arg7.IsWhole)
  (arg8 : Memref sig .tc .vmem S4x64 .f32) (harg8 : arg8.IsWhole)
  (arg9 : Memref sig .tc .vmem S128x1 .f32) (harg9 : arg9.IsWhole)
  (arg10 : Memref sig .tc .vmem S1x256x128 .bf16) (harg10 : arg10.IsWhole)
  (arg11 : Memref sig .tc .vmem S128x256 .bf16) (harg11 : arg11.IsWhole)
  (arg12 : Memref sig .tc .vmem S8x128x512 .bf16) (harg12 : arg12.IsWhole)
  (arg13 : Memref sig .tc .vmem S2x128x256 .f32) (harg13 : arg13.IsWhole)
  (arg14 : Memref sig .tc .vmem S8x256 .f32) (harg14 : arg14.IsWhole)
  (arg15 : Memref sig .tc .vmem S8x256 .f32) (harg15 : arg15.IsWhole)
  (v4 : FVec Ideal S256x128 .bf16) (v20 : Vec Ideal S128x256 .bf16) (v60 v62 : FVec Ideal S1x256 .f32) (v65 : FVec Ideal S256x256 .f32)
  (X6 : BufTy.Contents (Elt Ideal) arg6.view.ty) (X12 : BufTy.Contents (Elt Ideal) arg12.view.ty)

/-- The stores of one trip. -/
theorem trip_eq (k : Fin k0_t1_loop.trips) (f13 : BufTy.Contents (Elt Ideal) arg13.view.ty) (f14 : BufTy.Contents (Elt Ideal) arg14.view.ty)
    (f15 : BufTy.Contents (Elt Ideal) arg15.view.ty) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 k f13 f14 f15 =
     (sums (k0_pay24 v4 (k0_pay9 (keysAt arg6 X6 k)) (k0_pay10 (valsAt arg12 X12 k)) (row1 arg14 f14) (sum1 arg13 f13))
        (k0_pay17 (k0_pay16 v4 (keysAt arg6 X6 k) (valsAt arg12 X12 k) (row0 arg14 f14) (sum0 arg13 f13))),
      rows (k0_pay46 (k0_pay20 v4 (k0_pay9 (keysAt arg6 X6 k)) (row1 arg14 f14))) (k0_pay18 (k0_pay12 v4 (keysAt arg6 X6 k) (row0 arg14 f14))),
      rows (k0_pay23 v4 (k0_pay9 (keysAt arg6 X6 k)) (row1 arg14 f14) (row1 arg15 f15))
        (k0_pay15 v4 (keysAt arg6 X6 k) (row0 arg14 f14) (row0 arg15 f15))) := by
  unfold tripL_k0_t1 trip_k0_t1
  rfl

theorem trips_eq : k0_t1_loop.trips = 8 := by decide

/-- What the first `n` trips leave held of the first map's row `r` and lane `d`. -/
theorem loop0 (r : Fin 256) (d : Fin 128) (s v : ℕ → Fin 512 → ℝ) (E W : ℝ)
    (G13 : BufTy.Contents (Elt Ideal) arg13.view.ty) (G14 : BufTy.Contents (Elt Ideal) arg14.view.ty) (G15 : BufTy.Contents (Elt Ideal) arg15.view.ty)
    (h0 : Inv E W (arg14.view.read (Elt Ideal) G14 (ix2 0 r)) (arg15.view.read (Elt Ideal) G15 (ix2 0 r)) (arg13.view.read (Elt Ideal) G13 (ix3 0 d r)))
    (hS : ∀ (k : Fin k0_t1_loop.trips) (x : Fin 512), ∑ c, keysAt arg6 X6 k (ix3 0 x (lane0 c)) * v4 (ix2 r (lane0 c)) = (s k.val x : EReal))
    (hV : ∀ (k : Fin k0_t1_loop.trips) (x : Fin 512), valsAt arg12 X12 k (ix3 0 d x) = (v k.val x : EReal)) :
    ∀ n ≤ 8, Inv (E + ∑ j ∈ Finset.range n, ∑ x, Real.exp (s j x)) (W + ∑ j ∈ Finset.range n, ∑ x, v j x * Real.exp (s j x))
      (arg14.view.read (Elt Ideal) (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n).2.1) (ix2 0 r))
      (arg15.view.read (Elt Ideal) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n).2.2) (ix2 0 r))
      (arg13.view.read (Elt Ideal) (arg13.view.writes (Elt Ideal) G13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n).1) (ix3 0 d r)) := by
  intro n
  induction n with
  | zero => intro _; simpa [pb_k0_t1] using h0
  | succ n ih =>
    intro hn
    have ih := ih (by omega)
    have hk : n < k0_t1_loop.trips := by rw [trips_eq]; omega
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 ⟨n, hk⟩
    rw [trip_eq] at e
    dsimp only at e
    rw [e]
    dsimp only
    generalize pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n = P at ih ⊢
    simp only [View.writes_append]
    generalize arg13.view.writes (Elt Ideal) G13 P.1 = f13 at ih ⊢
    generalize arg14.view.writes (Elt Ideal) G14 P.2.1 = f14 at ih ⊢
    generalize arg15.view.writes (Elt Ideal) G15 P.2.2 = f15 at ih ⊢
    rw [rows_at0, rows_at0, sums_at0, pay18_at, pay15_at, pay17_at, row0_at, row0_at, sum0_at, Finset.sum_range_succ, Finset.sum_range_succ,
      ← add_assoc, ← add_assoc]
    exact ih.step (by omega) (s n) (v n) (fun x => (k0_pay11 (F := Ideal) v4 (keysAt arg6 X6 ⟨n, hk⟩) : FVec Ideal S512x256 .f32) (ix2 x r)) _
      (fun x => (pay11_at _ _ _ _).trans (hS ⟨n, hk⟩ x)) (hV ⟨n, hk⟩) _ (by rw [pay12_at, row0_at])

/-- What the first `n` trips leave held of the second map's row `r` and lane `d`. -/
theorem loop1 (r : Fin 256) (d : Fin 128) (s v : ℕ → Fin 512 → ℝ) (E W : ℝ)
    (G13 : BufTy.Contents (Elt Ideal) arg13.view.ty) (G14 : BufTy.Contents (Elt Ideal) arg14.view.ty) (G15 : BufTy.Contents (Elt Ideal) arg15.view.ty)
    (h0 : Inv E W (arg14.view.read (Elt Ideal) G14 (ix2 1 r)) (arg15.view.read (Elt Ideal) G15 (ix2 1 r)) (arg13.view.read (Elt Ideal) G13 (ix3 1 d r)))
    (hS : ∀ (k : Fin k0_t1_loop.trips) (x : Fin 512), ∑ c, keysAt arg6 X6 k (ix3 0 x (lane1 c)) * v4 (ix2 r (lane1 c)) = (s k.val x : EReal))
    (hV : ∀ (k : Fin k0_t1_loop.trips) (x : Fin 512), valsAt arg12 X12 k (ix3 0 d x) = (v k.val x : EReal)) :
    ∀ n ≤ 8, Inv (E + ∑ j ∈ Finset.range n, ∑ x, Real.exp (s j x)) (W + ∑ j ∈ Finset.range n, ∑ x, v j x * Real.exp (s j x))
      (arg14.view.read (Elt Ideal) (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n).2.1) (ix2 1 r))
      (arg15.view.read (Elt Ideal) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n).2.2) (ix2 1 r))
      (arg13.view.read (Elt Ideal) (arg13.view.writes (Elt Ideal) G13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n).1) (ix3 1 d r)) := by
  intro n
  induction n with
  | zero => intro _; simpa [pb_k0_t1] using h0
  | succ n ih =>
    intro hn
    have ih := ih (by omega)
    have hk : n < k0_t1_loop.trips := by rw [trips_eq]; omega
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 ⟨n, hk⟩
    rw [trip_eq] at e
    dsimp only at e
    rw [e]
    dsimp only
    generalize pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v4 v20 v60 v62 v65 X6 X12 G13 G14 G15 n = P at ih ⊢
    simp only [View.writes_append]
    generalize arg13.view.writes (Elt Ideal) G13 P.1 = f13 at ih ⊢
    generalize arg14.view.writes (Elt Ideal) G14 P.2.1 = f14 at ih ⊢
    generalize arg15.view.writes (Elt Ideal) G15 P.2.2 = f15 at ih ⊢
    rw [rows_at1, rows_at1, sums_at1, pay46_at, pay23_at, pay24_at, row1_at, row1_at, sum1_at, Finset.sum_range_succ, Finset.sum_range_succ,
      ← add_assoc, ← add_assoc]
    exact ih.step (by omega) (s n) (v n) (fun x => (k0_pay19 (F := Ideal) v4 (k0_pay9 (keysAt arg6 X6 ⟨n, hk⟩)) : FVec Ideal S512x256 .f32) (ix2 x r)) _
      (fun x => (pay19_at _ _ _ _).trans (hS ⟨n, hk⟩ x)) (hV ⟨n, hk⟩) _ (by rw [pay20_at, row1_at])

end loop

end Cert.KernelIdeal.Value

end
-- ==== Proof.AttnPoint.lean ====
module

public import proofs.«01_k».proof.Proof.AttnTrip

@[expose] public section

set_option maxRecDepth 16384

noncomputable section

/-! What one point of the attention kernel leaves in its output block: the first tile, the loop and the last step. -/

namespace Cert.KernelIdeal.Value

open Cert.KernelIdeal Cert.KernelIdeal.Gen Idealize.ShloMosaic Idealize.ShloMosaic.TcCoe Idealize.SL.Sem
open Cert.AttnMath

section fill
variable (A : Memref sig .tc .vmem S2x128x256 .f32) (v : Memref sig .tc .vmem S8x256 .f32)

/-- A buffer of rows, or of sums, filled at the start of a point. -/
abbrev fillRow (z : Vec Ideal S8x256 .f32) : List (View.Piece (Elt Ideal) S8x256 .f32) :=
  [⟨Rect.unit (s := S8x256) ![0, 0] S8x256.size inb_S8x256_S8x256_0_0, z⟩]
abbrev fillSum (z : Vec Ideal S2x128x256 .f32) : List (View.Piece (Elt Ideal) S2x128x256 .f32) :=
  [⟨Rect.unit (s := S2x128x256) ![0, 0, 0] S2x128x256.size inb_S2x128x256_S2x128x256_0_0_0, z⟩]
/-- The row, or the sums, of the first map stored over the filled buffer. -/
abbrev first (w : Vec Ideal S1x256 .f32) (z : Vec Ideal S8x256 .f32) : List (View.Piece (Elt Ideal) S8x256 .f32) :=
  ⟨Rect.unit (s := S8x256) ![0, 0] S1x256.size inb_S8x256_S1x256_0_0, w⟩ :: fillRow z
abbrev firstSum (w : Vec Ideal S1x128x256 .f32) (z : Vec Ideal S2x128x256 .f32) : List (View.Piece (Elt Ideal) S2x128x256 .f32) :=
  ⟨Rect.unit (s := S2x128x256) ![0, 0, 0] S1x128x256.size inb_S2x128x256_S1x128x256_0_0_0, w⟩ :: fillSum z

abbrev cov0 (L : List (View.Piece (Elt Ideal) S8x256 .f32)) : Vec Ideal S1x256 .f32 :=
  v.view.readCov L (Rect.unit (s := S8x256) ![0, 0] S1x256.size inb_S8x256_S1x256_0_0).toLoadRect
abbrev cov1 (L : List (View.Piece (Elt Ideal) S8x256 .f32)) : Vec Ideal S1x256 .f32 :=
  v.view.readCov L (Rect.unit (s := S8x256) ![1, 0] S1x256.size inb_S8x256_S1x256_1_0).toLoadRect
abbrev covS0 (L : List (View.Piece (Elt Ideal) S2x128x256 .f32)) : Vec Ideal S1x128x256 .f32 :=
  A.view.readCov L (Rect.unit (s := S2x128x256) ![0, 0, 0] S1x128x256.size inb_S2x128x256_S1x128x256_0_0_0).toLoadRect
abbrev covS1 (L : List (View.Piece (Elt Ideal) S2x128x256 .f32)) : Vec Ideal S1x128x256 .f32 :=
  A.view.readCov L (Rect.unit (s := S2x128x256) ![1, 0, 0] S1x128x256.size inb_S2x128x256_S1x128x256_1_0_0).toLoadRect

theorem cov0_at (L : List (View.Piece (Elt Ideal) S8x256 .f32)) (r : Fin 256) :
    cov0 v L (ix2 0 r) = v.view.read (Elt Ideal) (v.view.writes (Elt Ideal) v.view.junk L) (ix2 0 r) := row0_at v _ r
theorem cov1_at (L : List (View.Piece (Elt Ideal) S8x256 .f32)) (r : Fin 256) :
    cov1 v L (ix2 0 r) = v.view.read (Elt Ideal) (v.view.writes (Elt Ideal) v.view.junk L) (ix2 1 r) := row1_at v _ r
theorem covS0_at (L : List (View.Piece (Elt Ideal) S2x128x256 .f32)) (d : Fin 128) (r : Fin 256) :
    covS0 A L (ix3 0 d r) = A.view.read (Elt Ideal) (A.view.writes (Elt Ideal) A.view.junk L) (ix3 0 d r) := sum0_at A _ d r
theorem covS1_at (L : List (View.Piece (Elt Ideal) S2x128x256 .f32)) (d : Fin 128) (r : Fin 256) :
    covS1 A L (ix3 0 d r) = A.view.read (Elt Ideal) (A.view.writes (Elt Ideal) A.view.junk L) (ix3 1 d r) := sum1_at A _ d r

theorem fillRow_at (f : BufTy.Contents (Elt Ideal) v.view.ty) (z : Vec Ideal S8x256 .f32) (i : Fin 8) (r : Fin 256) :
    v.view.read (Elt Ideal) (v.view.writes (Elt Ideal) f (fillRow z)) (ix2 i r) = z (ix2 i r) :=
  View.read_writes_cons_unit_of_mem v.view f _ z _ (ix2 i r) (ix2 i r) rfl (by intro a; fin_cases a <;> simp)
theorem fillSum_at (f : BufTy.Contents (Elt Ideal) A.view.ty) (z : Vec Ideal S2x128x256 .f32) (i : Fin 2) (d : Fin 128) (r : Fin 256) :
    A.view.read (Elt Ideal) (A.view.writes (Elt Ideal) f (fillSum z)) (ix3 i d r) = z (ix3 i d r) :=
  View.read_writes_cons_unit_of_mem A.view f _ z _ (ix3 i d r) (ix3 i d r) rfl (by intro a; fin_cases a <;> simp)
theorem first_at (f : BufTy.Contents (Elt Ideal) v.view.ty) (w : Vec Ideal S1x256 .f32) (z : Vec Ideal S8x256 .f32) (r : Fin 256) :
    v.view.read (Elt Ideal) (v.view.writes (Elt Ideal) f (first w z)) (ix2 1 r) = z (ix2 1 r) :=
  (View.read_writes_cons_unit_of_not_mem v.view f _ w _ (ix2 1 r) rfl 0 (.inr (le_of_eq rfl))).trans (fillRow_at v f z 1 r)
theorem firstSum_at (f : BufTy.Contents (Elt Ideal) A.view.ty) (w : Vec Ideal S1x128x256 .f32) (z : Vec Ideal S2x128x256 .f32) (d : Fin 128)
    (r : Fin 256) : A.view.read (Elt Ideal) (A.view.writes (Elt Ideal) f (firstSum w z)) (ix3 1 d r) = z (ix3 1 d r) :=
  (View.read_writes_cons_unit_of_not_mem A.view f _ w _ (ix3 1 d r) rfl 0 (.inr (le_of_eq rfl))).trans (fillSum_at A f z 1 d r)
end fill

section point
variable (𝒱 : Variants) (c : Dev nD) (bd : Option 𝒱.V) (i : grid0.Coords)
  (arg3 : Memref sig .tc .vmem S1x256x128 .bf16) (harg3 : arg3.IsWhole)
  (arg4 : Memref sig .tc .vmem S1x256x128 .f32) (harg4 : arg4.IsWhole)
  (arg5 : Memref sig .tc .vmem S1x256x128 .f32) (harg5 : arg5.IsWhole)
  (arg6 : Memref sig .tc .vmem S1x4096x128 .bf16) (harg6 : arg6.IsWhole)
  (arg7 : Memref sig .tc .vmem S1x4096x128 .bf16) (harg7 : arg7.IsWhole)
  (arg8 : Memref sig .tc .vmem S4x64 .f32) (harg8 : arg8.IsWhole)
  (arg9 : Memref sig .tc .vmem S128x1 .f32) (harg9 : arg9.IsWhole)
  (arg10 : Memref sig .tc .vmem S1x256x128 .bf16) (harg10 : arg10.IsWhole)
  (arg11 : Memref sig .tc .vmem S128x256 .bf16) (harg11 : arg11.IsWhole)
  (arg12 : Memref sig .tc .vmem S8x128x512 .bf16) (harg12 : arg12.IsWhole)
  (arg13 : Memref sig .tc .vmem S2x128x256 .f32) (harg13 : arg13.IsWhole)
  (arg14 : Memref sig .tc .vmem S8x256 .f32) (harg14 : arg14.IsWhole)
  (arg15 : Memref sig .tc .vmem S8x256 .f32) (harg15 : arg15.IsWhole)
  (q : Vec Ideal S1x256x128 .bf16) (K : Vec Ideal S1x256x128 .f32) (V : Vec Ideal S128x256 .bf16)
  (X6 : BufTy.Contents (Elt Ideal) arg6.view.ty) (X12 : BufTy.Contents (Elt Ideal) arg12.view.ty)

/-- The running maximum before the first tile, as each map reads it. -/
def m0 : Vec Ideal S1x256 .f32 := cov0 arg14 (fillRow (k0_pay27 (F := Ideal)))
def m1 : Vec Ideal S1x256 .f32 := cov1 arg14 (first (k0_pay38 (k0_pay32 q K (m0 arg14))) (k0_pay27 (F := Ideal)))

/-- What the first tile, of the cached keys, leaves in the three buffers. -/
def tileM : List (View.Piece (Elt Ideal) S8x256 .f32) :=
  rows (k0_pay45 (k0_pay40 (k0_pay26 q) (k0_pay30 K) (m1 arg14 q K))) (k0_pay38 (k0_pay32 q K (m0 arg14))) ++ fillRow (k0_pay27 (F := Ideal))
def tileL : List (View.Piece (Elt Ideal) S8x256 .f32) :=
  rows (k0_pay43 (k0_pay41 (k0_pay26 q) (k0_pay30 K) (m1 arg14 q K)) (k0_pay42 (k0_pay26 q) (k0_pay30 K) (m1 arg14 q K))
      (cov1 arg15 (first (k0_pay36 (k0_pay31 q K) (k0_pay32 q K (m0 arg14)) (k0_pay33 q K (m0 arg14)) (cov0 arg15 (fillRow (k0_pay28 (F := Ideal))))) (k0_pay28 (F := Ideal)))))
    (k0_pay36 (k0_pay31 q K) (k0_pay32 q K (m0 arg14)) (k0_pay33 q K (m0 arg14)) (cov0 arg15 (fillRow (k0_pay28 (F := Ideal))))) ++ fillRow (k0_pay28 (F := Ideal))
def tileA : List (View.Piece (Elt Ideal) S2x128x256 .f32) :=
  sums (k0_pay44 V (k0_pay41 (k0_pay26 q) (k0_pay30 K) (m1 arg14 q K)) (k0_pay42 (k0_pay26 q) (k0_pay30 K) (m1 arg14 q K))
      (covS1 arg13 (firstSum (k0_pay37 V (k0_pay31 q K) (k0_pay32 q K (m0 arg14)) (k0_pay33 q K (m0 arg14)) (covS0 arg13 (fillSum (k0_pay29 (F := Ideal))))) (k0_pay29 (F := Ideal)))))
    (k0_pay37 V (k0_pay31 q K) (k0_pay32 q K (m0 arg14)) (k0_pay33 q K (m0 arg14)) (covS0 arg13 (fillSum (k0_pay29 (F := Ideal))))) ++ fillSum (k0_pay29 (F := Ideal))

/-- The stores of the loop's trips over what the first tile left. -/
def looped : List (View.Piece (Elt Ideal) S2x128x256 .f32) × List (View.Piece (Elt Ideal) S8x256 .f32) × List (View.Piece (Elt Ideal) S8x256 .f32) :=
  pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 (k0_pay26 q) V (k0_pay40 (k0_pay26 q) (k0_pay30 K) (m1 arg14 q K)) (k0_pay41 (k0_pay26 q) (k0_pay30 K) (m1 arg14 q K))
    (k0_pay42 (k0_pay26 q) (k0_pay30 K) (m1 arg14 q K)) X6 X12
    (arg13.view.writes (Elt Ideal) arg13.view.junk (tileA arg13 arg14 q K V))
    (arg14.view.writes (Elt Ideal) arg14.view.junk (tileM arg14 q K))
    (arg15.view.writes (Elt Ideal) arg15.view.junk (tileL arg14 arg15 q K)) k0_t1_loop.trips

/-- The block a point writes. -/
def pointOut (y : Vec Ideal S4x64 .f32) (g : Vec Ideal S128x1 .f32) : FVec Ideal S1x256x128 .bf16 :=
  k0_pay50 (F := Ideal) (k0_pay48 y) (k0_pay49 y)
    (covS0 arg13 ((looped 𝒱 c bd i arg3 harg3 arg4 harg4 arg5 harg5 arg6 harg6 arg7 harg7 arg8 harg8 arg9 harg9 arg10 harg10 arg11 harg11 arg12 harg12 arg13 harg13 arg14 harg14 arg15 harg15 q K V X6 X12).1 ++ tileA arg13 arg14 q K V))
    (cov0 arg15 ((looped 𝒱 c bd i arg3 harg3 arg4 harg4 arg5 harg5 arg6 harg6 arg7 harg7 arg8 harg8 arg9 harg9 arg10 harg10 arg11 harg11 arg12 harg12 arg13 harg13 arg14 harg14 arg15 harg15 q K V X6 X12).2.2 ++ tileL arg14 arg15 q K))
    (covS1 arg13 ((looped 𝒱 c bd i arg3 harg3 arg4 harg4 arg5 harg5 arg6 harg6 arg7 harg7 arg8 harg8 arg9 harg9 arg10 harg10 arg11 harg11 arg12 harg12 arg13 harg13 arg14 harg14 arg15 harg15 q K V X6 X12).1 ++ tileA arg13 arg14 q K V))
    (cov1 arg15 ((looped 𝒱 c bd i arg3 harg3 arg4 harg4 arg5 harg5 arg6 harg6 arg7 harg7 arg8 harg8 arg9 harg9 arg10 harg10 arg11 harg11 arg12 harg12 arg13 harg13 arg14 harg14 arg15 harg15 q K V X6 X12).2.2 ++ tileL arg14 arg15 q K)) g

theorem m0_at (r : Fin 256) : m0 arg14 (ix2 0 r) = ⊥ := by
  refine (cov0_at _ _ _).trans ?_
  rw [fillRow_at, pay27_at]
theorem m1_at (r : Fin 256) : m1 arg14 q K (ix2 0 r) = ⊥ := by
  refine (cov1_at _ _ _).trans ?_
  rw [first_at, pay27_at]

/-- What the first tile leaves held of the first map's row. -/
theorem tile0 (r : Fin 256) (d : Fin 128) (s v : Fin 256 → ℝ)
    (hS : ∀ x, ∑ c, K (ix3 0 x (lane0 c)) * q (ix3 0 r (lane0 c)) = (s x : EReal)) (hV : ∀ x, V (ix2 d x) = (v x : EReal)) :
    Inv (∑ x, Real.exp (s x)) (∑ x, v x * Real.exp (s x))
      (arg14.view.read (Elt Ideal) (arg14.view.writes (Elt Ideal) arg14.view.junk (tileM arg14 q K)) (ix2 0 r))
      (arg15.view.read (Elt Ideal) (arg15.view.writes (Elt Ideal) arg15.view.junk (tileL arg14 arg15 q K)) (ix2 0 r))
      (arg13.view.read (Elt Ideal) (arg13.view.writes (Elt Ideal) arg13.view.junk (tileA arg13 arg14 q K V)) (ix3 0 d r)) := by
  simp only [tileM, tileL, tileA, View.writes_append]
  rw [rows_at0, rows_at0, sums_at0, pay38_at, pay36_at, pay37_at, m0_at, cov0_at, covS0_at, fillRow_at, fillSum_at, pay28_at, pay29_at]
  refine Inv.first (by omega) s v (fun x => (k0_pay31 (F := Ideal) q K : FVec Ideal S256x256 .f32) (ix2 x r)) _
    (fun x => (pay31_at _ _ _ _).trans (hS x)) hV _ ?_
  rw [pay32_at, m0_at]

/-- What it leaves held of the second map's row. -/
theorem tile1 (r : Fin 256) (d : Fin 128) (s v : Fin 256 → ℝ)
    (hS : ∀ x, ∑ c, K (ix3 0 x (lane1 c)) * q (ix3 0 r (lane1 c)) = (s x : EReal)) (hV : ∀ x, V (ix2 d x) = (v x : EReal)) :
    Inv (∑ x, Real.exp (s x)) (∑ x, v x * Real.exp (s x))
      (arg14.view.read (Elt Ideal) (arg14.view.writes (Elt Ideal) arg14.view.junk (tileM arg14 q K)) (ix2 1 r))
      (arg15.view.read (Elt Ideal) (arg15.view.writes (Elt Ideal) arg15.view.junk (tileL arg14 arg15 q K)) (ix2 1 r))
      (arg13.view.read (Elt Ideal) (arg13.view.writes (Elt Ideal) arg13.view.junk (tileA arg13 arg14 q K V)) (ix3 1 d r)) := by
  simp only [tileM, tileL, tileA, View.writes_append]
  rw [rows_at1, rows_at1, sums_at1, pay45_at, pay43_at, pay44_at, m1_at, cov1_at, covS1_at, first_at, firstSum_at, pay28_at, pay29_at]
  refine Inv.first (by omega) s v (fun x => (k0_pay39 (F := Ideal) (k0_pay26 q) (k0_pay30 K) : FVec Ideal S256x256 .f32) (ix2 x r)) _
    (fun x => (pay39_at _ _ _ _).trans (hS x)) hV _ ?_
  rw [pay40_at, m1_at]

/-- The block a point writes, at an index. -/
theorem pointOut_at (y : Vec Ideal S4x64 .f32) (g : Vec Ideal S128x1 .f32) (r : Fin 256) (d : Fin 128)
    (s0 s1 : Fin 256 → ℝ) (v : Fin 256 → Fin 128 → ℝ) (t0 t1 : ℕ → Fin 512 → ℝ) (w : ℕ → Fin 512 → Fin 128 → ℝ) (lam : ℝ)
    (hs0 : ∀ x, ∑ c, K (ix3 0 x (lane0 c)) * q (ix3 0 r (lane0 c)) = (s0 x : EReal))
    (hs1 : ∀ x, ∑ c, K (ix3 0 x (lane1 c)) * q (ix3 0 r (lane1 c)) = (s1 x : EReal))
    (hv : ∀ x d, V (ix2 d x) = (v x d : EReal))
    (ht0 : ∀ (k : Fin k0_t1_loop.trips) (x : Fin 512), ∑ c, keysAt arg6 X6 k (ix3 0 x (lane0 c)) * q (ix3 0 r (lane0 c)) = (t0 k.val x : EReal))
    (ht1 : ∀ (k : Fin k0_t1_loop.trips) (x : Fin 512), ∑ c, keysAt arg6 X6 k (ix3 0 x (lane1 c)) * q (ix3 0 r (lane1 c)) = (t1 k.val x : EReal))
    (hw : ∀ (k : Fin k0_t1_loop.trips) (x : Fin 512) (d : Fin 128), valsAt arg12 X12 k (ix3 0 d x) = (w k.val x d : EReal))
    (hlam : Ideal.exp (∑ c, y (ix2 0 c) * y (ix2 1 c)) - Ideal.exp (∑ c, y (ix2 2 c) * y (ix2 3 c)) + Ideal.ofBits FTy.f32 1045220557#32 = (lam : EReal))
    (o : Fin 128 → EReal)
    (ho : ∀ d, o d = (((∑ x, v x d * Real.exp (s0 x) + ∑ j ∈ Finset.range 8, ∑ x, w j x d * Real.exp (t0 j x))
          / (∑ x, Real.exp (s0 x) + ∑ j ∈ Finset.range 8, ∑ x, Real.exp (t0 j x))
        - lam * ((∑ x, v x d * Real.exp (s1 x) + ∑ j ∈ Finset.range 8, ∑ x, w j x d * Real.exp (t1 j x))
          / (∑ x, Real.exp (s1 x) + ∑ j ∈ Finset.range 8, ∑ x, Real.exp (t1 j x))) : ℝ) : EReal)) :
    (pointOut 𝒱 c bd i arg3 harg3 arg4 harg4 arg5 harg5 arg6 harg6 arg7 harg7 arg8 harg8 arg9 harg9 arg10 harg10 arg11 harg11 arg12 harg12 arg13 harg13 arg14 harg14 arg15 harg15 q K V X6 X12 y g : FVec Ideal S1x256x128 .bf16) (ix3 0 r d)
      = o d * Ideal.rsqrt (Ideal.div (∑ x, o x * o x) (Ideal.ofBits FTy.f32 1124073472#32) + Ideal.ofBits FTy.f32 925353388#32)
        * (g (ix2 d 0) * Ideal.ofBits FTy.f32 1061997773#32) := by
  unfold pointOut
  refine pay50_at _ _ _ _ _ _ g o r d fun d => ?_
  have pos : ∀ (s : Fin 256 → ℝ) (t : ℕ → Fin 512 → ℝ), 0 < ∑ x, Real.exp (s x) + ∑ j ∈ Finset.range 8, ∑ x, Real.exp (t j x) := fun s t =>
    add_pos_of_pos_of_nonneg (Finset.sum_pos (fun _ _ => Real.exp_pos _) ⟨0, Finset.mem_univ _⟩)
      (Finset.sum_nonneg fun _ _ => Finset.sum_nonneg fun _ _ => (Real.exp_pos _).le)
  have i0 := loop0 𝒱 c bd i arg3 harg3 arg4 harg4 arg5 harg5 arg6 harg6 arg7 harg7 arg8 harg8 arg9 harg9 arg10 harg10 arg11 harg11 arg12 harg12 arg13 harg13 arg14 harg14 arg15 harg15 (k0_pay26 q) V (k0_pay40 (k0_pay26 q) (k0_pay30 K) (m1 arg14 q K)) (k0_pay41 (k0_pay26 q) (k0_pay30 K) (m1 arg14 q K))
    (k0_pay42 (k0_pay26 q) (k0_pay30 K) (m1 arg14 q K)) X6 X12 r d t0 (fun j x => w j x d) _ _ _ _ _
    (tile0 arg13 arg14 arg15 q K V r d s0 (fun x => v x d) hs0 (fun x => hv x d))
    (fun k x => by simpa only [pay26_at] using ht0 k x) (fun k x => hw k x d) k0_t1_loop.trips (le_of_eq trips_eq)
  have i1 := loop1 𝒱 c bd i arg3 harg3 arg4 harg4 arg5 harg5 arg6 harg6 arg7 harg7 arg8 harg8 arg9 harg9 arg10 harg10 arg11 harg11 arg12 harg12 arg13 harg13 arg14 harg14 arg15 harg15 (k0_pay26 q) V (k0_pay40 (k0_pay26 q) (k0_pay30 K) (m1 arg14 q K)) (k0_pay41 (k0_pay26 q) (k0_pay30 K) (m1 arg14 q K))
    (k0_pay42 (k0_pay26 q) (k0_pay30 K) (m1 arg14 q K)) X6 X12 r d t1 (fun j x => w j x d) _ _ _ _ _
    (tile1 arg13 arg14 arg15 q K V r d s1 (fun x => v x d) hs1 (fun x => hv x d))
    (fun k x => by simpa only [pay26_at] using ht1 k x) (fun k x => hw k x d) k0_t1_loop.trips (le_of_eq trips_eq)
  rw [show Finset.range k0_t1_loop.trips = Finset.range 8 from congrArg _ trips_eq] at i0 i1
  unfold looped
  rw [pay48_at, pay49_at, hlam, covS0_at, covS1_at, cov0_at, cov1_at, ho, View.writes_append, View.writes_append]
  exact i0.out i1 (pos s0 t0) (pos s1 t1) lam

end point

end Cert.KernelIdeal.Value

end
-- ==== Proof.AttnBlk.lean ====
module

public import proofs.«01_k».proof.Proof.Gen.KernelIdeal.Frame
public import proofs.«01_k».proof.Proof.AttnKer
public import proofs.«01_k».proof.Proof.AttnSpec
public import Idealize.ShloMosaic.Lib.Pipeline.ValueKit
public import Idealize.ShloMosaic.Lib.Pipeline.ReadBack
public import Idealize.ShloMosaic.Lib.Claim

@[expose] public section

set_option maxRecDepth 16384

noncomputable section

/-! The attention kernel's blocks, by the entries of its arguments. -/

namespace Cert.KernelIdeal.Value

open Cert.KernelIdeal Cert.KernelIdeal.Gen Idealize.ShloMosaic Idealize.ShloMosaic.TcCoe Idealize.SL.Sem
open Cert.AttnSpec (lane part)

variable (m : (ℓ : Loc nD τ sig) → Buf (Elt Ideal) ℓ)

/-- The arguments by their entries. -/
def aQ (c : Dev nD) (b : Fin 4) (n : Fin 4096) (x : Fin 1024) : EReal := (m ((c : Thread nD τ).loc main_arg0) : FVec Ideal S4x4096x1024 .bf16) (ix3 b n x)
def aCK (c : Dev nD) (b : Fin 4) (p : Fin 256) (h : Fin 8) (i : Fin 2) (x : Fin 64) : EReal :=
  (m ((c : Thread nD τ).loc main_arg1) : FVec Ideal S4x1x256x8x2x64 .f32) (ix6 b 0 p h i x)
def aCV (c : Dev nD) (b : Fin 4) (p : Fin 256) (h : Fin 8) (d : Fin 128) : EReal :=
  (m ((c : Thread nD τ).loc main_arg2) : FVec Ideal S4x1x256x8x128 .f32) (ix5 b 0 p h d)
def aK (c : Dev nD) (b : Fin 4) (n : Fin 4096) (x : Fin 1024) : EReal := (m ((c : Thread nD τ).loc main_arg3) : FVec Ideal S4x4096x1024 .bf16) (ix3 b n x)
def aV (c : Dev nD) (b : Fin 4) (n : Fin 4096) (x : Fin 1024) : EReal := (m ((c : Thread nD τ).loc main_arg4) : FVec Ideal S4x4096x1024 .bf16) (ix3 b n x)
def aL (c : Dev nD) (i : Fin 4) (x : Fin 64) : EReal := (m ((c : Thread nD τ).loc main_arg5) : FVec Ideal S1x4x64 .f32) (ix3 0 i x)
def aG (c : Dev nD) (d : Fin 128) : EReal := (m ((c : Thread nD τ).loc main_arg6) : FVec Ideal S1x128 .f32) (ix2 0 d)

/-- The windows' block indices at a point. -/
theorem idx : ∀ t : Fin cfg0.N, win0_0.index t = ![t.val / 128, t.val % 16, t.val / 16 % 8] ∧ win0_1.index t = ![t.val / 128, 0, t.val / 16 % 8]
    ∧ win0_2.index t = ![t.val / 128, 0, t.val / 16 % 8] ∧ win0_3.index t = ![t.val / 128, 0, t.val / 16 % 8]
    ∧ win0_4.index t = ![t.val / 128, 0, t.val / 16 % 8] ∧ win0_5.index t = ![0, 0] ∧ win0_6.index t = ![0, 0]
    ∧ win0_7.index t = ![t.val / 128, t.val % 16, t.val / 16 % 8] :=
  (by decide +kernel : ∀ t : Fin grid0.N, _)

theorem lt512 (t : Fin cfg0.N) : t.val < 512 := lt_of_lt_of_eq t.isLt N_0

/-- A point's sequence, its head, and its tile of query rows. -/
def bOf (t : Fin cfg0.N) : Fin 4 := ⟨t.val / 128, by have := lt512 t; omega⟩
def hOf (t : Fin cfg0.N) : Fin 8 := ⟨t.val / 16 % 8, by omega⟩
def rowOf (t : Fin cfg0.N) (r : Fin 256) : Fin 4096 := ⟨t.val % 16 * 256 + r.val, by omega⟩
theorem blk0 (c : Dev nD) (t : Fin cfg0.N) (r : Fin 256) (x : Fin 128) :
    (iblk m c 0 t : FVec Ideal S1x256x128 .bf16) (ix3 0 r x) = aQ m c (bOf t) (rowOf t r) (lane (hOf t) x) := by
  have ht := lt512 t
  unfold aQ bOf rowOf lane hOf
  blk_point [iblk, V, idx t]

theorem blk3 (c : Dev nD) (t : Fin cfg0.N) (n : Fin 4096) (x : Fin 128) :
    (iblk m c 3 t : FVec Ideal S1x4096x128 .bf16) (ix3 0 n x) = aK m c (bOf t) n (lane (hOf t) x) := by
  have ht := lt512 t
  unfold aK bOf lane hOf
  blk_point [iblk, V, idx t]

theorem blk4 (c : Dev nD) (t : Fin cfg0.N) (n : Fin 4096) (x : Fin 128) :
    (iblk m c 4 t : FVec Ideal S1x4096x128 .bf16) (ix3 0 n x) = aV m c (bOf t) n (lane (hOf t) x) := by
  have ht := lt512 t
  unfold aV bOf lane hOf
  blk_point [iblk, V, idx t]

theorem blk5 (c : Dev nD) (t : Fin cfg0.N) (i : Fin 4) (x : Fin 64) :
    (iblk m c 5 t : FVec Ideal S4x64 .f32) (ix2 i x) = aL m c i x := by
  have ht := lt512 t
  unfold aL
  blk_point [iblk, V, idx t]

theorem blk6 (c : Dev nD) (t : Fin cfg0.N) (d : Fin 128) :
    (iblk m c 6 t : FVec Ideal S128x1 .f32) (ix2 d 0) = aG m c d := by
  have ht := lt512 t
  unfold aG
  blk_point [iblk, V, idx t]

theorem blk1_0 (c : Dev nD) (t : Fin cfg0.N) (p : Fin 256) (x : Fin 64) :
    (iblk m c 1 t : FVec Ideal S1x256x128 .f32) (ix3 0 p (lane0 x)) = aCK m c (bOf t) p (hOf t) 0 x := by
  have ht := lt512 t
  unfold aCK bOf hOf lane0
  blk_point [iblk, V, idx t]

theorem blk1_1 (c : Dev nD) (t : Fin cfg0.N) (p : Fin 256) (x : Fin 64) :
    (iblk m c 1 t : FVec Ideal S1x256x128 .f32) (ix3 0 p (lane1 x)) = aCK m c (bOf t) p (hOf t) 1 x := by
  have ht := lt512 t
  unfold aCK bOf hOf lane1
  blk_point [iblk, V, idx t]

theorem blk2 (c : Dev nD) (t : Fin cfg0.N) (p : Fin 256) (d : Fin 128) :
    (iblk m c 2 t : FVec Ideal S1x256x128 .f32) (ix3 0 p d) = aCV m c (bOf t) p (hOf t) d := by
  have ht := lt512 t
  unfold aCV bOf hOf
  blk_point [iblk, V, idx t]

end Cert.KernelIdeal.Value

end
-- ==== Proof.AttnVal.lean ====
module

public import proofs.«01_k».proof.Proof.AttnPoint
public import proofs.«01_k».proof.Proof.AttnBlk

@[expose] public section

set_option maxRecDepth 16384

noncomputable section

/-! What each point of the attention kernel finds held and what it writes. -/

namespace Cert.KernelIdeal.Value

open Cert.KernelIdeal Cert.KernelIdeal.Gen Idealize.ShloMosaic Idealize.ShloMosaic.TcCoe Idealize.SL.Sem
open Cert.AttnMath
open Cert.AttnSpec (lane part)

theorem readAt_full {s : Shape} {e : EltTy} (M : Memref sig .tc .vmem s e) (h : M.IsWhole) (X : Vec Ideal s e) (o : Fin s.rank → ℕ)
    (ho : o = fun _ => 0) (hin : ∀ a, o a + s.size a ≤ s.size a) :
    View.readAt (Elt Ideal) M.view (Rect.unit (s := s) o s.size hin).toLoadRect (h.unread X) = X := by
  rw [View.readAt_eq_ld, h.read_unread]
  exact View.ld_unit_zero ho _ _

theorem e2 : (![0, 0] : Fin 2 → ℕ) = fun _ => 0 := funext fun a => by fin_cases a <;> rfl
theorem e3 : (![0, 0, 0] : Fin 3 → ℕ) = fun _ => 0 := funext fun a => by fin_cases a <;> rfl

/-! The tiles of keys and of values a trip reads. -/

theorem off1_eq : ∀ k : Fin k0_t1_loop.trips, k0_off1 k = ![0, k.val * 512, 0] := by decide +kernel
theorem off2_eq : ∀ k : Fin k0_t1_loop.trips, k0_off2 k = ![k.val, 0, 0] := by decide +kernel

theorem tile_lt (k : Fin k0_t1_loop.trips) (x : Fin 512) : k.val * 512 + x.val < 4096 := by
  have := lt_of_lt_of_eq k.isLt trips_eq
  omega

theorem keysAt_at (M : Memref sig .tc .vmem S1x4096x128 .bf16) (X : BufTy.Contents (Elt Ideal) M.view.ty) (k : Fin k0_t1_loop.trips)
    (x : Fin 512) (d : Fin 128) : keysAt M X k (ix3 0 x d) = M.view.read (Elt Ideal) X (ix3 0 ⟨k.val * 512 + x.val, tile_lt k x⟩ d) := by
  refine congrArg (M.view.read (Elt Ideal) X) (funext fun a => Fin.ext ?_)
  have e := congrFun (off1_eq k) a
  show k0_off1 k a + 1 * _ = _
  rw [e]
  fin_cases a <;> simp

theorem valsAt_at (M : Memref sig .tc .vmem S8x128x512 .bf16) (X : BufTy.Contents (Elt Ideal) M.view.ty) (k : Fin k0_t1_loop.trips)
    (d : Fin 128) (x : Fin 512) : valsAt M X k (ix3 0 d x) = M.view.read (Elt Ideal) X (ix3 ⟨k.val, lt_of_lt_of_eq k.isLt trips_eq⟩ d x) := by
  refine congrArg (M.view.read (Elt Ideal) X) (funext fun a => Fin.ext ?_)
  have e := congrFun (off2_eq k) a
  show k0_off2 k a + 1 * _ = _
  rw [e]
  fin_cases a <;> simp

/-! The held values: the cached values of the head turned, and its new values in eight turned tiles. -/

theorem slot_hit (f : BufTy.Contents (Elt Ideal) scM0_1.view.ty) (L : List (View.Piece (Elt Ideal) S8x128x512 .bf16)) (j : Fin 8)
    (w : Vec Ideal S1x128x512 .bf16) (inb : ∀ a, (![j.val, 0, 0] : Fin 3 → ℕ) a + S1x128x512.size a ≤ S8x128x512.size a) (d : Fin 128) (x : Fin 512) :
    scM0_1.view.read (Elt Ideal) (scM0_1.view.writes (Elt Ideal) f
      ((⟨Rect.unit (s := S8x128x512) ![j.val, 0, 0] S1x128x512.size inb, w⟩ : View.Piece (Elt Ideal) S8x128x512 .bf16) :: L)) (ix3 j d x) = w (ix3 0 d x) :=
  View.read_writes_cons_unit_of_mem scM0_1.view f inb w L (ix3 j d x) (ix3 0 d x) rfl (by intro a; fin_cases a <;> simp)

theorem slot_miss (f : BufTy.Contents (Elt Ideal) scM0_1.view.ty) (L : List (View.Piece (Elt Ideal) S8x128x512 .bf16)) (i j : Fin 8)
    (h : i.val < j.val) (w : Vec Ideal S1x128x512 .bf16) (inb : ∀ a, (![j.val, 0, 0] : Fin 3 → ℕ) a + S1x128x512.size a ≤ S8x128x512.size a) (d : Fin 128) (x : Fin 512) :
    scM0_1.view.read (Elt Ideal) (scM0_1.view.writes (Elt Ideal) f
      ((⟨Rect.unit (s := S8x128x512) ![j.val, 0, 0] S1x128x512.size inb, w⟩ : View.Piece (Elt Ideal) S8x128x512 .bf16) :: L)) (ix3 i d x)
      = scM0_1.view.read (Elt Ideal) (scM0_1.view.writes (Elt Ideal) f L) (ix3 i d x) :=
  View.read_writes_cons_unit_of_not_mem scM0_1.view f inb w L (ix3 i d x) rfl 0 (.inl h)

/-- The store of a turned tile of values, at an index. -/
theorem turn_at (y : Vec Ideal S1x512x128 .bf16) (d : Fin 128) (x : Fin 512) :
    (k0_pay25 (F := Ideal) y : FVec Ideal S1x128x512 .bf16) (ix3 0 d x) = y (ix3 0 x d) := by
  pointwise [k0_pay25]

theorem cached_at (y : Vec Ideal S1x256x128 .f32) (d : Fin 128) (x : Fin 256) :
    (k0_pay1 (F := Ideal) y : FVec Ideal S128x256 .bf16) (ix2 d x) = y (ix3 0 x d) := by
  pointwise [k0_pay1]

section held
variable (c : Dev nD)

theorem vals_ld (M : Memref sig .tc .vmem S1x4096x128 .bf16) (h : M.IsWhole) (X : Vec Ideal S1x4096x128 .bf16) (o : ℕ)
    (inb : ∀ a, (![0, o, 0] : Fin 3 → ℕ) a + S1x512x128.size a ≤ S1x4096x128.size a) (x : Fin 512) (d : Fin 128) (ho : o + x.val < 4096) :
    View.readAt (Elt Ideal) M.view (Rect.unit (s := S1x4096x128) ![0, o, 0] S1x512x128.size inb).toLoadRect (h.unread X) (ix3 0 x d)
      = X (ix3 0 ⟨o + x.val, ho⟩ d) := by
  rw [View.readAt_eq_ld, h.read_unread]
  refine congrArg X (funext fun a => Fin.ext ?_)
  show (![0, o, 0] : Fin 3 → ℕ) a + 1 * _ = _
  fin_cases a <;> simp

/-- The eight tiles in the buffer of new values after the first point of a head. -/
theorem slots_at (M : Memref sig .tc .vmem S1x4096x128 .bf16) (h : M.IsWhole) (X : Vec Ideal S1x4096x128 .bf16)
    (f : BufTy.Contents (Elt Ideal) scM0_1.view.ty) (j : Fin 8) (d : Fin 128) (x : Fin 512) :
    scM0_1.view.read (Elt Ideal) (scM0_1.view.writes (Elt Ideal) f (kernelRun0_A.sl.HS1_8 c M h X)) (ix3 j d x)
      = X (ix3 0 ⟨j.val * 512 + x.val, by omega⟩ d) := by
  sl_unfold_words
  fin_cases j
  · refine (slot_miss _ _ 0 7 (by decide) _ _ d x).trans ?_
    refine (slot_miss _ _ 0 6 (by decide) _ _ d x).trans ?_
    refine (slot_miss _ _ 0 5 (by decide) _ _ d x).trans ?_
    refine (slot_miss _ _ 0 4 (by decide) _ _ d x).trans ?_
    refine (slot_miss _ _ 0 3 (by decide) _ _ d x).trans ?_
    refine (slot_miss _ _ 0 2 (by decide) _ _ d x).trans ?_
    refine (slot_miss _ _ 0 1 (by decide) _ _ d x).trans ?_
    exact (slot_hit _ _ 0 _ _ d x).trans ((turn_at _ d x).trans (vals_ld M h X 0 _ x d _))
  · refine (slot_miss _ _ 1 7 (by decide) _ _ d x).trans ?_
    refine (slot_miss _ _ 1 6 (by decide) _ _ d x).trans ?_
    refine (slot_miss _ _ 1 5 (by decide) _ _ d x).trans ?_
    refine (slot_miss _ _ 1 4 (by decide) _ _ d x).trans ?_
    refine (slot_miss _ _ 1 3 (by decide) _ _ d x).trans ?_
    refine (slot_miss _ _ 1 2 (by decide) _ _ d x).trans ?_
    exact (slot_hit _ _ 1 _ _ d x).trans ((turn_at _ d x).trans (vals_ld M h X 512 _ x d _))
  · refine (slot_miss _ _ 2 7 (by decide) _ _ d x).trans ?_
    refine (slot_miss _ _ 2 6 (by decide) _ _ d x).trans ?_
    refine (slot_miss _ _ 2 5 (by decide) _ _ d x).trans ?_
    refine (slot_miss _ _ 2 4 (by decide) _ _ d x).trans ?_
    refine (slot_miss _ _ 2 3 (by decide) _ _ d x).trans ?_
    exact (slot_hit _ _ 2 _ _ d x).trans ((turn_at _ d x).trans (vals_ld M h X 1024 _ x d _))
  · refine (slot_miss _ _ 3 7 (by decide) _ _ d x).trans ?_
    refine (slot_miss _ _ 3 6 (by decide) _ _ d x).trans ?_
    refine (slot_miss _ _ 3 5 (by decide) _ _ d x).trans ?_
    refine (slot_miss _ _ 3 4 (by decide) _ _ d x).trans ?_
    exact (slot_hit _ _ 3 _ _ d x).trans ((turn_at _ d x).trans (vals_ld M h X 1536 _ x d _))
  · refine (slot_miss _ _ 4 7 (by decide) _ _ d x).trans ?_
    refine (slot_miss _ _ 4 6 (by decide) _ _ d x).trans ?_
    refine (slot_miss _ _ 4 5 (by decide) _ _ d x).trans ?_
    exact (slot_hit _ _ 4 _ _ d x).trans ((turn_at _ d x).trans (vals_ld M h X 2048 _ x d _))
  · refine (slot_miss _ _ 5 7 (by decide) _ _ d x).trans ?_
    refine (slot_miss _ _ 5 6 (by decide) _ _ d x).trans ?_
    exact (slot_hit _ _ 5 _ _ d x).trans ((turn_at _ d x).trans (vals_ld M h X 2560 _ x d _))
  · refine (slot_miss _ _ 6 7 (by decide) _ _ d x).trans ?_
    exact (slot_hit _ _ 6 _ _ d x).trans ((turn_at _ d x).trans (vals_ld M h X 3072 _ x d _))
  · exact (slot_hit _ _ 7 _ _ d x).trans ((turn_at _ d x).trans (vals_ld M h X 3584 _ x d _))

/-- The cached values in their buffer after the first point of a head. -/
theorem cache_at (M : Memref sig .tc .vmem S1x256x128 .f32) (h : M.IsWhole) (X : Vec Ideal S1x256x128 .f32)
    (f : BufTy.Contents (Elt Ideal) scM0_0.view.ty) (d : Fin 128) (x : Fin 256) :
    scM0_0.view.read (Elt Ideal) (scM0_0.view.writes (Elt Ideal) f (kernelRun0_A.sl.HS0_1 c M h X)) (ix2 d x) = X (ix3 0 x d) := by
  sl_unfold_words
  rw [readAt_full M h _ _ e3]
  exact (View.read_writes_cons_unit_of_mem scM0_0.view f _ _ _ (ix2 d x) (ix2 d x) rfl (by intro a; fin_cases a <;> simp)).trans (cached_at X d x)

end held

variable (m : (ℓ : Loc nD τ sig) → Buf (Elt Ideal) ℓ)

/-- What a point writes, of its blocks and of what it finds held. -/
abbrev pointAt (c : Dev nD) (t : Fin cfg0.N) (V : Vec Ideal S128x256 .bf16) (X12 : BufTy.Contents (Elt Ideal) scM0_1.view.ty) : FVec Ideal S1x256x128 .bf16 :=
  pointOut Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      scM0_0 (Memref.isWhole_whole _) scM0_1 (Memref.isWhole_whole _) scM0_2 (Memref.isWhole_whole _) scM0_3 (Memref.isWhole_whole _) scM0_4 (Memref.isWhole_whole _)
      (iblk m c 0 t) (iblk m c 1 t) V ((hs0_3 t).unread (iblk m c 3 t)) X12 (iblk m c 5 t) (iblk m c 6 t)

theorem out_B (c : Dev nD) (t : Fin cfg0.N) (h0 : ¬ t.val % 16 = 0) :
    (outsAt0 m c t.val t.isLt).1 = pointAt m c t ((outsAt0 m c (t.val - 1) (by have := t.isLt; omega)).2.1)
      ((Memref.isWhole_whole _).unread ((outsAt0 m c (t.val - 1) (by have := t.isLt; omega)).2.2)) := by
  rw [outsAt0_B m c t h0]; dsimp only
  unfold out0_B_7
  rw [View.read_writes_eq_canon _ _ _ (cover0_B_7 c _ _ _ _ _ _ _ _ _ _ _ _ _ _ _ _ _ _ _ _ _ _ _ _ _ _ _ _ _ _ _ _ _ _ _ _ _)]
  unfold kernelRun0_B
  dsimp only
  sl_unfold_words
  rw [View.canon_cons_unit_zero (funext fun a => by fin_cases a <;> rfl)]
  rw [readAt_full (ms0_0 t) (hs0_0 t) _ _ e3, readAt_full (ms0_1 t) (hs0_1 t) _ _ e3, readAt_full (ms0_5 t) (hs0_5 t) _ _ e2,
    readAt_full (ms0_6 t) (hs0_6 t) _ _ e2, readAt_full scM0_0 (Memref.isWhole_whole _) _ _ e2]
  unfold pointAt pointOut looped tileA tileM tileL m1 m0
  rfl

/-- The held buffers after the first point of a head. -/
abbrev heldA0 (c : Dev nD) (t : Fin cfg0.N) : Vec Ideal S128x256 .bf16 :=
  scM0_0.view.readCov (kernelRun0_A.sl.HS0_1 c (ms0_2 t) (hs0_2 t) (iblk m c 2 t)) (Rect.unit (s := S128x256) ![0, 0] S128x256.size inb_S128x256_S128x256_0_0).toLoadRect
abbrev heldA1 (c : Dev nD) (t : Fin cfg0.N) : BufTy.Contents (Elt Ideal) scM0_1.view.ty :=
  scM0_1.view.writes (Elt Ideal) scM0_1.view.junk (kernelRun0_A.sl.HS1_8 c (ms0_4 t) (hs0_4 t) (iblk m c 4 t))

theorem out_A (c : Dev nD) (t : Fin cfg0.N) (h0 : t.val % 16 = 0) :
    (outsAt0 m c t.val t.isLt).1 = pointAt m c t (heldA0 m c t) (heldA1 m c t) := by
  rw [outsAt0_A m c t h0]; dsimp only
  unfold out0_A_7
  rw [View.read_writes_eq_canon _ _ _ (cover0_A_7 c _ _ _ _ _ _ _ _ _ _ _ _ _ _ _ _ _ _ _ _ _ _ _ _ _ _ _ _ _ _ _ _ _ _ _)]
  unfold kernelRun0_A heldA0 heldA1
  dsimp only
  sl_unfold_words
  rw [View.canon_cons_unit_zero (funext fun a => by fin_cases a <;> rfl)]
  rw [readAt_full (ms0_0 t) (hs0_0 t) _ _ e3, readAt_full (ms0_1 t) (hs0_1 t) _ _ e3, readAt_full (ms0_5 t) (hs0_5 t) _ _ e2,
    readAt_full (ms0_6 t) (hs0_6 t) _ _ e2]
  unfold pointAt pointOut looped tileA tileM tileL m1 m0
  rfl

theorem held0_A (c : Dev nD) (t : Fin cfg0.N) (h0 : t.val % 16 = 0) : (outsAt0 m c t.val t.isLt).2.1
    = scM0_0.view.read (Elt Ideal) (scM0_0.view.writes (Elt Ideal) scM0_0.view.junk (kernelRun0_A.sl.HS0_1 c (ms0_2 t) (hs0_2 t) (iblk m c 2 t))) := by
  rw [outsAt0_A m c t h0]; rfl
theorem held1_A (c : Dev nD) (t : Fin cfg0.N) (h0 : t.val % 16 = 0) : (outsAt0 m c t.val t.isLt).2.2
    = scM0_1.view.read (Elt Ideal) (scM0_1.view.writes (Elt Ideal) scM0_1.view.junk (kernelRun0_A.sl.HS1_8 c (ms0_4 t) (hs0_4 t) (iblk m c 4 t))) := by
  rw [outsAt0_A m c t h0]; dsimp only; unfold sout0_A_1 kernelRun0_A; dsimp only
theorem held_B (c : Dev nD) (t : Fin cfg0.N) (h0 : ¬ t.val % 16 = 0) :
    (outsAt0 m c t.val t.isLt).2 = (outsAt0 m c (t.val - 1) (by have := t.isLt; omega)).2 := by
  rw [outsAt0_B m c t h0]; rfl

/-- Every point of a head leaves the head's values held. -/
theorem held_all (c : Dev nD) : ∀ (n : ℕ) (h : n < cfg0.N),
    (∀ (d : Fin 128) (x : Fin 256), (outsAt0 m c n h).2.1 (ix2 d x) = aCV m c (bOf ⟨n, h⟩) x (hOf ⟨n, h⟩) d)
    ∧ ∀ (j : Fin 8) (d : Fin 128) (x : Fin 512), (outsAt0 m c n h).2.2 (ix3 j d x)
      = aV m c (bOf ⟨n, h⟩) ⟨j.val * 512 + x.val, by omega⟩ (lane (hOf ⟨n, h⟩) d) := by
  intro n
  induction n with
  | zero =>
    intro h
    rw [held0_A m c ⟨0, h⟩ rfl, held1_A m c ⟨0, h⟩ rfl]
    exact ⟨fun d x => (cache_at c _ _ _ _ d x).trans (blk2 m c ⟨0, h⟩ x d), fun j d x => (slots_at c _ _ _ _ j d x).trans (blk4 m c ⟨0, h⟩ _ d)⟩
  | succ n ih =>
    intro h
    by_cases h0 : (n + 1) % 16 = 0
    · rw [held0_A m c ⟨n + 1, h⟩ h0, held1_A m c ⟨n + 1, h⟩ h0]
      exact ⟨fun d x => (cache_at c _ _ _ _ d x).trans (blk2 m c ⟨n + 1, h⟩ x d), fun j d x => (slots_at c _ _ _ _ j d x).trans (blk4 m c ⟨n + 1, h⟩ _ d)⟩
    · rw [held_B m c ⟨n + 1, h⟩ h0]
      have eb : bOf ⟨n + 1, h⟩ = bOf ⟨n, by omega⟩ := Fin.ext (by show (n + 1) / 128 = n / 128; omega)
      have eh : hOf ⟨n + 1, h⟩ = hOf ⟨n, by omega⟩ := Fin.ext (by show (n + 1) / 16 % 8 = n / 16 % 8; omega)
      rw [eb, eh]
      exact ih (by omega)

end Cert.KernelIdeal.Value

end
-- ==== Proof.AttnFinal.lean ====
module

public import proofs.«01_k».proof.Proof.AttnVal
public import proofs.«01_k».proof.Proof.Gen.KernelIdeal.Value

@[expose] public section

set_option maxRecDepth 16384

noncomputable section

/-! The attention kernel's run: its output array is the attention of every row and head. -/

namespace Cert.KernelIdeal.Value

open Cert.KernelIdeal Cert.KernelIdeal.Gen Idealize.ShloMosaic Idealize.ShloMosaic.TcCoe Idealize.SL.Sem
open Cert.AttnSpec (Args lane part wrap sum_tiles)

variable (m : (ℓ : Loc nD τ sig) → Buf (Elt Ideal) ℓ) (ρ : Dev nD → PrngReg)

/-- The arguments hold these reals. -/
structure Holds (c : Dev nD) (A : Args) : Prop where
  q : ∀ b n x, aQ m c b n x = (A.Q b n x : EReal)
  ck : ∀ b p h i x, aCK m c b p h i x = (A.CK b p h i x : EReal)
  cv : ∀ b p h d, aCV m c b p h d = (A.CV b p h d : EReal)
  k : ∀ b n x, aK m c b n x = (A.K b n x : EReal)
  v : ∀ b n x, aV m c b n x = (A.V b n x : EReal)
  l : ∀ i x, aL m c i x = (A.L i x : EReal)

theorem mul_real {x y : EReal} {a b : ℝ} (hx : x = a) (hy : y = b) : x * y = ((a * b : ℝ) : EReal) := by
  rw [hx, hy, EReal.coe_mul]

theorem sum_real {n : ℕ} {x y : Fin n → EReal} {a b : Fin n → ℝ} (hx : ∀ c, x c = a c) (hy : ∀ c, y c = b c) :
    ∑ c, x c * y c = ((∑ c, a c * b c : ℝ) : EReal) := by
  rw [← Cert.AttnMath.coe_sum]
  exact Finset.sum_congr rfl fun c _ => mul_real (hx c) (hy c)

theorem lane_0 (h : Fin 8) (c : Fin 64) : lane h (lane0 c) = part h 0 c := Fin.ext (by simp [lane, part, lane0])
theorem lane_1 (h : Fin 8) (c : Fin 64) : lane h (lane1 c) = part h 1 c := Fin.ext (by simp [lane, part, lane1])

theorem wrap_eq (k : Fin k0_t1_loop.trips) (x : Fin 512) : (⟨k.val * 512 + x.val, tile_lt k x⟩ : Fin 4096) = wrap (k.val * 512 + x.val) :=
  Fin.ext (Nat.mod_eq_of_lt (tile_lt k x)).symm

/-- A point's output block, once the head's values are held. -/
theorem point_at (c : Dev nD) (t : Fin cfg0.N) (A : Args) (H : Holds m c A) (V : Vec Ideal S128x256 .bf16) (X12 : BufTy.Contents (Elt Ideal) scM0_1.view.ty)
    (hV : ∀ (d : Fin 128) (x : Fin 256), V (ix2 d x) = aCV m c (bOf t) x (hOf t) d)
    (hX : ∀ (j : Fin 8) (d : Fin 128) (x : Fin 512), scM0_1.view.read (Elt Ideal) X12 (ix3 j d x)
      = aV m c (bOf t) ⟨j.val * 512 + x.val, by omega⟩ (lane (hOf t) d)) (r : Fin 256) (d : Fin 128) :
    pointAt m c t V X12 (ix3 0 r d) = Cert.AttnSpec.out A (aG m c) (bOf t) (rowOf t r) (hOf t) d := by
  have q0 : ∀ x, (iblk m c 0 t : FVec Ideal S1x256x128 .bf16) (ix3 0 r (lane0 x)) = (A.Q (bOf t) (rowOf t r) (part (hOf t) 0 x) : EReal) := fun x => by
    rw [blk0, lane_0, H.q]
  have q1 : ∀ x, (iblk m c 0 t : FVec Ideal S1x256x128 .bf16) (ix3 0 r (lane1 x)) = (A.Q (bOf t) (rowOf t r) (part (hOf t) 1 x) : EReal) := fun x => by
    rw [blk0, lane_1, H.q]
  have k0 : ∀ (k : Fin k0_t1_loop.trips) (x : Fin 512) (y : Fin 128), keysAt (ms0_3 t) ((hs0_3 t).unread (iblk m c 3 t)) k (ix3 0 x y)
      = (A.K (bOf t) (wrap (k.val * 512 + x.val)) (lane (hOf t) y) : EReal) := fun k x y => by
    rw [keysAt_at, (hs0_3 t).read_unread, blk3, H.k, wrap_eq]
  refine (pointOut_at Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      scM0_0 (Memref.isWhole_whole _) scM0_1 (Memref.isWhole_whole _) scM0_2 (Memref.isWhole_whole _) scM0_3 (Memref.isWhole_whole _) scM0_4 (Memref.isWhole_whole _)
      (iblk m c 0 t) (iblk m c 1 t) V ((hs0_3 t).unread (iblk m c 3 t)) X12 (iblk m c 5 t) (iblk m c 6 t) r d
      (Cert.AttnSpec.sc A 0 (bOf t) (rowOf t r) (hOf t)) (Cert.AttnSpec.sc A 1 (bOf t) (rowOf t r) (hOf t))
      (fun x d => A.CV (bOf t) x (hOf t) d)
      (fun k x => Cert.AttnSpec.st A 0 (bOf t) (rowOf t r) (hOf t) (wrap (k * 512 + x.val)))
      (fun k x => Cert.AttnSpec.st A 1 (bOf t) (rowOf t r) (hOf t) (wrap (k * 512 + x.val)))
      (fun k x d => A.V (bOf t) (wrap (k * 512 + x.val)) (lane (hOf t) d))
      (Cert.AttnSpec.lam A) ?_ ?_ ?_ ?_ ?_ ?_ ?_ (fun d => (Cert.AttnSpec.o A (bOf t) (rowOf t r) (hOf t) d : EReal)) ?_).trans ?_
  · exact fun x => sum_real (fun e => (blk1_0 m c t x e).trans (H.ck _ _ _ _ _)) q0
  · exact fun x => sum_real (fun e => (blk1_1 m c t x e).trans (H.ck _ _ _ _ _)) q1
  · exact fun x d => (hV d x).trans (H.cv _ _ _ _)
  · exact fun k x => sum_real (fun e => (k0 k x (lane0 e)).trans (by rw [lane_0])) q0
  · exact fun k x => sum_real (fun e => (k0 k x (lane1 e)).trans (by rw [lane_1])) q1
  · intro k x d
    rw [valsAt_at, hX, H.v, ← wrap_eq]
  · have hl : ∀ (i : Fin 4) (x : Fin 64), (iblk m c 5 t : FVec Ideal S4x64 .f32) (ix2 i x) = (A.L i x : EReal) := fun i x => (blk5 m c t i x).trans (H.l i x)
    rw [Cert.AttnSpec.init_eq]
    refine (congrArg₂ (fun a b : EReal => Ideal.exp a - Ideal.exp b + (Cert.AttnSpec.init : EReal)) (sum_real (hl 0) (hl 1)) (sum_real (hl 2) (hl 3))).trans ?_
    rw [Ideal.exp_coe, Ideal.exp_coe, ← EReal.coe_sub, ← EReal.coe_add]
    rfl
  · intro d
    have eE : ∀ i, ∑ j ∈ Finset.range 8, ∑ x : Fin 512, Real.exp (Cert.AttnSpec.st A i (bOf t) (rowOf t r) (hOf t) (wrap (j * 512 + x.val)))
        = ∑ x, Real.exp (Cert.AttnSpec.st A i (bOf t) (rowOf t r) (hOf t) x) := fun i =>
      sum_tiles fun x => Real.exp (Cert.AttnSpec.st A i (bOf t) (rowOf t r) (hOf t) x)
    have eW : ∀ i, ∑ j ∈ Finset.range 8, ∑ x : Fin 512, A.V (bOf t) (wrap (j * 512 + x.val)) (lane (hOf t) d)
          * Real.exp (Cert.AttnSpec.st A i (bOf t) (rowOf t r) (hOf t) (wrap (j * 512 + x.val)))
        = ∑ x, A.V (bOf t) x (lane (hOf t) d) * Real.exp (Cert.AttnSpec.st A i (bOf t) (rowOf t r) (hOf t) x) := fun i =>
      sum_tiles fun x => A.V (bOf t) x (lane (hOf t) d) * Real.exp (Cert.AttnSpec.st A i (bOf t) (rowOf t r) (hOf t) x)
    rw [eE, eE, eW, eW]
    rfl
  · unfold Cert.AttnSpec.out
    rw [blk6]

theorem covV_at (v : Memref sig .tc .vmem S128x256 .bf16) (L : List (View.Piece (Elt Ideal) S128x256 .bf16)) (d : Fin 128) (x : Fin 256) :
    v.view.readCov L (Rect.unit (s := S128x256) ![0, 0] S128x256.size inb_S128x256_S128x256_0_0).toLoadRect (ix2 d x)
      = v.view.read (Elt Ideal) (v.view.writes (Elt Ideal) v.view.junk L) (ix2 d x) := by
  refine congrArg (v.view.read (Elt Ideal) _) (funext fun a => Fin.ext ?_)
  show (![0, 0] : Fin 2 → ℕ) a + 1 * _ = _
  fin_cases a <;> simp

theorem heldA0_at (c : Dev nD) (t : Fin cfg0.N) (d : Fin 128) (x : Fin 256) : heldA0 m c t (ix2 d x) = aCV m c (bOf t) x (hOf t) d :=
  (covV_at scM0_0 _ d x).trans ((cache_at c _ (hs0_2 t) (iblk m c 2 t) scM0_0.view.junk d x).trans (blk2 m c t x d))

theorem heldA1_at (c : Dev nD) (t : Fin cfg0.N) (j : Fin 8) (d : Fin 128) (x : Fin 512) :
    scM0_1.view.read (Elt Ideal) (heldA1 m c t) (ix3 j d x) = aV m c (bOf t) ⟨j.val * 512 + x.val, by omega⟩ (lane (hOf t) d) :=
  (slots_at c _ (hs0_4 t) (iblk m c 4 t) scM0_1.view.junk j d x).trans (blk4 m c t _ d)

/-- Every point's output block. -/
theorem out_at (c : Dev nD) (t : Fin cfg0.N) (A : Args) (H : Holds m c A) (r : Fin 256) (d : Fin 128) :
    (outsAt0 m c t.val t.isLt).1 (ix3 0 r d) = Cert.AttnSpec.out A (aG m c) (bOf t) (rowOf t r) (hOf t) d := by
  by_cases h0 : t.val % 16 = 0
  · rw [out_A m c t h0]
    exact point_at m c t A H (heldA0 m c t) (heldA1 m c t) (heldA0_at m c t) (heldA1_at m c t) r d
  · have hN := t.isLt
    rw [out_B m c t h0]
    obtain ⟨e0, e1⟩ := held_all m c (t.val - 1) (by omega)
    have eb : bOf ⟨t.val - 1, by omega⟩ = bOf t := Fin.ext (by show (t.val - 1) / 128 = t.val / 128; omega)
    have eh : hOf ⟨t.val - 1, by omega⟩ = hOf t := Fin.ext (by show (t.val - 1) / 16 % 8 = t.val / 16 % 8; omega)
    rw [eb, eh] at e0 e1
    refine point_at m c t A H _ _ e0 (fun j d x => ?_) r d
    rw [Memref.IsWhole.read_unread]
    exact e1 j d x

/-- The result, by its entries. -/
def result (c : Dev nD) (A : Args) : FVec Ideal S4x4096x1024 .bf16 := fun z =>
  Cert.AttnSpec.out A (aG m c) (z 0) (z 1) ⟨(z 2).val / 128, by have : (z 2).val < 1024 := (z 2).isLt; omega⟩ ⟨(z 2).val % 128, by omega⟩

theorem result_at (c : Dev nD) (A : Args) (b : Fin 4) (n : Fin 4096) (h : Fin 8) (d : Fin 128) :
    result m c A (ix3 b n (lane h d)) = Cert.AttnSpec.out A (aG m c) b n h d := by
  have e1 : (⟨(lane h d).val / 128, by omega⟩ : Fin 8) = h := Fin.ext (by show (h.val * 128 + d.val) / 128 = h.val; omega)
  have e2 : (⟨(lane h d).val % 128, by omega⟩ : Fin 128) = d := Fin.ext (by show (h.val * 128 + d.val) % 128 = d.val; omega)
  show Cert.AttnSpec.out A (aG m c) b n ⟨(lane h d).val / 128, _⟩ ⟨(lane h d).val % 128, _⟩ = _
  rw [e1, e2]

/-- The output array after the run. -/
theorem final (c : Dev nD) (A : Args) (H : Holds m c A) : (dats m 0 c).arrAt 7 cfg0.N = result m c A := by
  refine (dats m 0 c).arrAt_eq_of_covers 7 _ (by decide +kernel) fun t hf y => ?_
  blk_simp
  rw [after0_7]
  idx_vars y
  obtain rfl : y0 = 0 := Subsingleton.elim _ _
  refine (out_at m c t A H y1 y2).trans ((result_at m c A (bOf t) (rowOf t y1) (hOf t) y2).symm.trans (congrArg (result m c A) ?_))
  blk_ext [idx t] <;> rfl

/-- A run of the kernel leaves the result in its output array. -/
theorem run (A : Dev nD → Args) (H : ∀ c, Holds m c (A c)) : θ_run defs (onTc (τ := τ) (main (F := Ideal))) ⟨m, fun _ => 0, ρ⟩ fun r => ∀ c : Dev nD,
    r.2.mem ((c.tc : Thread nD τ).loc main_v7) = result m c (A c) :=
  (θ_run defs _ _).mono (fun r h c => (h c).1.trans (final m c (A c) (H c))) (run_blocks m ρ)

end Cert.KernelIdeal.Value

end
-- ==== Proof.AttnAlg.lean ====
module

public import proofs.«01_k».proof.Defs
public import proofs.«01_k».proof.Proof.Gen.Pre_finite
public import proofs.«01_k».proof.Proof.Gen.ReferenceIdeal.Run
public import proofs.«01_k».proof.Proof.AttnPre
public import proofs.«01_k».proof.Proof.AttnRefFinal
public import proofs.«01_k».proof.Proof.AttnFinal
public import Idealize.ShloMosaic.Adequacy

@[expose] public section

noncomputable section

/-! The attention claims: the reference's frame, and kernel and reference leave the same result. -/

namespace Cert.Proof

open Idealize.ShloMosaic Idealize.ShloMosaic.StableHlo Idealize.SL.Sem
open Cert.AttnSpec (Args lane)

/-- The attention's reference leaves its arguments as they were and every counter at zero. -/
theorem frame_ref : Cert.quiescent_ReferenceIdeal (hReferenceIdeal := Cert.ReferenceIdeal.Gen.facts) := fun m ρ _ =>
  (θ_run _ _ _).mono (fun _ h => ⟨fun c => (h c).2, sem_eq_zero_of_no_sems (by decide) _⟩) (Cert.ReferenceIdeal.Value.run m ρ)

/-- The arguments of a device as reals. -/
def argsOf (m : (ℓ : Loc Cert.KernelIdeal.nD Cert.KernelIdeal.τ Cert.KernelIdeal.sig) → Buf (Elt Ideal) ℓ) (c : Dev Cert.KernelIdeal.nD) : Args where
  Q b n x := (Cert.KernelIdeal.Value.aQ m c b n x).toReal
  CK b p h i x := (Cert.KernelIdeal.Value.aCK m c b p h i x).toReal
  CV b p h d := (Cert.KernelIdeal.Value.aCV m c b p h d).toReal
  K b n x := (Cert.KernelIdeal.Value.aK m c b n x).toReal
  V b n x := (Cert.KernelIdeal.Value.aV m c b n x).toReal
  L i x := (Cert.KernelIdeal.Value.aL m c i x).toReal

theorem toReal_of {x : EReal} (h : ∃ r : ℝ, x = (r : EReal)) : x = (x.toReal : EReal) := by
  obtain ⟨r, rfl⟩ := h
  rw [EReal.toReal_coe]

/-- Under the precondition they are the arguments. -/
theorem holds_of (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Cert.KernelIdeal.Value.Holds m c (argsOf m c) := by
  obtain ⟨h0, h1, h2, h3, h4, h5⟩ := Cert.AttnPre.reals _ _ _ _ _ _ _ (h c)
  exact ⟨fun b n x => toReal_of (h0 (ix3 b n x)), fun b p g i x => toReal_of (h1 (ix6 b 0 p g i x)), fun b p g d => toReal_of (h2 (ix5 b 0 p g d)),
    fun b n x => toReal_of (h3 (ix3 b n x)), fun b n x => toReal_of (h4 (ix3 b n x)), fun i x => toReal_of (h5 (ix3 0 i x))⟩

theorem lane_split (z : Fin 1024) : lane ⟨z.val / 128, by omega⟩ ⟨z.val % 128, by omega⟩ = z := Fin.ext (by simp only [lane]; omega)

/-- The reference's result is the kernel's, from equal arguments. -/
theorem ref_result (m : (ℓ : Loc Cert.KernelIdeal.nD Cert.KernelIdeal.τ Cert.KernelIdeal.sig) → Buf (Elt Ideal) ℓ) (c : Dev Cert.KernelIdeal.nD) (A : Args)
    (H : Cert.KernelIdeal.Value.Holds m c A)
    (x0 : FVec Ideal Cert.ReferenceIdeal.S4x4096x1024 .bf16) (x1 : FVec Ideal Cert.ReferenceIdeal.S4x1x256x8x2x64 .f32)
    (x2 : FVec Ideal Cert.ReferenceIdeal.S4x1x256x8x128 .f32) (x3 x4 : FVec Ideal Cert.ReferenceIdeal.S4x4096x1024 .bf16)
    (x5 : FVec Ideal Cert.ReferenceIdeal.S1x4x64 .f32) (x6 : FVec Ideal Cert.ReferenceIdeal.S1x128 .f32)
    (e0 : ∀ b n x, x0 (ix3 b n x) = Cert.KernelIdeal.Value.aQ m c b n x) (e1 : ∀ b p h i x, x1 (ix6 b 0 p h i x) = Cert.KernelIdeal.Value.aCK m c b p h i x)
    (e2 : ∀ b p h d, x2 (ix5 b 0 p h d) = Cert.KernelIdeal.Value.aCV m c b p h d) (e3 : ∀ b n x, x3 (ix3 b n x) = Cert.KernelIdeal.Value.aK m c b n x)
    (e4 : ∀ b n x, x4 (ix3 b n x) = Cert.KernelIdeal.Value.aV m c b n x) (e5 : ∀ i x, x5 (ix3 0 i x) = Cert.KernelIdeal.Value.aL m c i x)
    (e6 : ∀ d, x6 (ix2 0 d) = Cert.KernelIdeal.Value.aG m c d) :
    (Cert.ReferenceIdeal.Read.val_main_v65 (F := Ideal) x0 x1 x2 x3 x4 x5 x6 : FVec Ideal Cert.ReferenceIdeal.S4x4096x1024 .bf16)
      = Cert.KernelIdeal.Value.result m c A := by
  have HR : Cert.ReferenceIdeal.Value.Holds x0 x1 x2 x3 x4 x5 A :=
    ⟨fun b n x => (e0 b n x).trans (H.q b n x), fun b p h i x => (e1 b p h i x).trans (H.ck b p h i x), fun b p h d => (e2 b p h d).trans (H.cv b p h d),
      fun b n x => (e3 b n x).trans (H.k b n x), fun b n x => (e4 b n x).trans (H.v b n x), fun i x => (e5 i x).trans (H.l i x)⟩
  funext z
  idx_vars z
  rw [← lane_split z2]
  refine (Cert.ReferenceIdeal.Value.v65_real x6 HR z0 z1 _ _).trans (Eq.trans ?_ (Cert.KernelIdeal.Value.result_at m c A z0 z1 _ _).symm)
  rw [show (fun d => x6 (ix2 0 d)) = Cert.KernelIdeal.Value.aG m c from funext e6]

/-- From equal finite arguments the attention kernel and its reference end with equal results. -/
theorem algebraic_attn : Cert.algebraic_KernelIdeal_ReferenceIdeal_pre_finite (hKernelIdeal := Cert.KernelIdeal.Gen.facts)
    (hReferenceIdeal := Cert.ReferenceIdeal.Gen.facts) (hPre_finite := Cert.Pre_finite.Gen.facts) :=
  fun m ρ m' ρ' hp hag => ⟨fun c => Cert.KernelIdeal.Value.result m c (argsOf m c),
    (θ_run _ _ _).mono (fun _ h c => ⟨h.1 c, h.2 c⟩)
      (θ_run_and (Cert.KernelIdeal.Value.run m ρ (argsOf m) (holds_of m hp)) (Cert.KernelIdeal.Gen.unchanged m ρ)),
    (θ_run _ _ _).mono (fun _ h c => ⟨(h c).1.trans ((Cert.ReferenceIdeal.Read.val_main_v65_eq m' c).trans (by
        obtain ⟨e0, e1, e2, e3, e4, e5, e6⟩ := hag c
        exact ref_result m c (argsOf m c) (holds_of m hp c) _ _ _ _ _ _ _
          (fun b n x => congrFun e0 (ix3 b n x)) (fun b p g i x => congrFun e1 (ix6 b 0 p g i x)) (fun b p g d => congrFun e2 (ix5 b 0 p g d))
          (fun b n x => congrFun e3 (ix3 b n x)) (fun b n x => congrFun e4 (ix3 b n x)) (fun i x => congrFun e5 (ix3 0 i x))
          (fun d => congrFun e6 (ix2 0 d)))), (h c).2⟩) (Cert.ReferenceIdeal.Value.run m' ρ')⟩

end Cert.Proof

end
-- ==== Proof.QkvVal.lean ====
module

public import proofs.«01_k».proof.Proof.Gen.QkvIdeal.Value
public import Idealize.ShloMosaic.Lib.Pipeline.ValueKit
public import Idealize.ShloMosaic.Lib.Pointwise
public import Idealize.ShloMosaic.PureOps.Ideal.Laws

@[expose] public section

set_option maxRecDepth 16384

noncomputable section

/-! The query, key and value projections of the prompt tokens: their entries, and the kernel's three output arrays. -/

namespace Cert.QkvSpec

open Idealize.ShloMosaic

/-- A row modulated, scaled by one plus `sc` and shifted by `sh`, times a column. -/
def dot (x sc sh w : Fin 1024 → EReal) : EReal := ∑ k, (x k * (1 + sc k) + sh k) * w k

/-- A column of the part of the weights that starts at `o`. -/
def col (o : ℕ) (ho : o ≤ 2048) (n : Fin 1024) : Fin 3072 := ⟨o + n.val, by omega⟩

/-- An entry of the projection of a prompt token, modulated by the first row of the table. -/
def proj (X : Fin 32 → Fin 256 → Fin 1024 → EReal) (M : Fin 6 → Fin 1024 → EReal) (W : Fin 1024 → Fin 3072 → EReal)
    (r : Fin 8192) (n : Fin 3072) : EReal :=
  dot (X ⟨r.val / 256, by omega⟩ ⟨r.val % 256, by omega⟩) (M 1) (M 0) (fun k => W k n)

/-- The queries, scaled by an eighth, the keys and the values. -/
def query (X : Fin 32 → Fin 256 → Fin 1024 → EReal) (M : Fin 6 → Fin 1024 → EReal) (W : Fin 1024 → Fin 3072 → EReal)
    (r : Fin 8192) (n : Fin 1024) : EReal := proj X M W r (col 0 (by omega) n) * Ideal.ofBits .f32 0x3E000000#32
def key (X : Fin 32 → Fin 256 → Fin 1024 → EReal) (M : Fin 6 → Fin 1024 → EReal) (W : Fin 1024 → Fin 3072 → EReal)
    (r : Fin 8192) (n : Fin 1024) : EReal := proj X M W r (col 1024 (by omega) n)
def value (X : Fin 32 → Fin 256 → Fin 1024 → EReal) (M : Fin 6 → Fin 1024 → EReal) (W : Fin 1024 → Fin 3072 → EReal)
    (r : Fin 8192) (n : Fin 1024) : EReal := proj X M W r (col 2048 (by omega) n)

end Cert.QkvSpec

namespace Cert.QkvIdeal.Value

open Cert.QkvIdeal Cert.QkvIdeal.Gen Idealize.ShloMosaic Idealize.ShloMosaic.TcCoe Idealize.SL.Sem
open Cert.QkvSpec

variable (m : (ℓ : Loc nD τ sig) → Buf (Elt Ideal) ℓ) (ρ : Dev nD → PrngReg)

/-- The arguments by their entries. -/
def aX (c : Dev nD) (b : Fin 32) (p : Fin 256) (k : Fin 1024) : EReal := (m ((c : Thread nD τ).loc main_arg0) : FVec Ideal S32x256x1024 .f32) (ix3 b p k)
def aM (c : Dev nD) (j : Fin 6) (k : Fin 1024) : EReal := (m ((c : Thread nD τ).loc main_arg1) : FVec Ideal S8x6x1024 .f32) (ix3 0 j k)
def aW (c : Dev nD) (k : Fin 1024) (n : Fin 3072) : EReal := (m ((c : Thread nD τ).loc main_arg2) : FVec Ideal S1x1024x3072 .f32) (ix3 0 k n)

/-- The windows' block indices at a point. -/
theorem idx : ∀ t : Fin cfg0.N, win0_0.index t = ![t.val, 0] ∧ win0_1.index t = ![0, 0, 0] ∧ win0_2.index t = ![0, 0]
    ∧ win0_3.index t = ![t.val, 0] ∧ win0_4.index t = ![t.val, 0] ∧ win0_5.index t = ![t.val, 0] :=
  (by decide +kernel : ∀ t : Fin grid0.N, _)

theorem lt16 (t : Fin cfg0.N) : t.val < 16 := lt_of_lt_of_eq t.isLt N_0

theorem blk0 (c : Dev nD) (t : Fin cfg0.N) (p : Fin 512) (k : Fin 1024) :
    (iblk m c 0 t : FVec Ideal S512x1024 .f32) (ix2 p k)
      = aX m c ⟨(t.val * 512 + p.val) / 256, by have := lt16 t; omega⟩ ⟨(t.val * 512 + p.val) % 256, by omega⟩ k := by
  have ht := lt16 t
  unfold aX
  blk_point [iblk, V, idx t]

theorem blk1 (c : Dev nD) (t : Fin cfg0.N) (j : Fin 6) (k : Fin 1024) :
    (iblk m c 1 t : FVec Ideal S1x6x1024 .f32) (ix3 0 j k) = aM m c j k := by
  have ht := lt16 t
  unfold aM
  blk_point [iblk, V, idx t]

theorem blk2 (c : Dev nD) (t : Fin cfg0.N) (k : Fin 1024) (n : Fin 3072) :
    (iblk m c 2 t : FVec Ideal S1024x3072 .bf16) (ix2 k n) = aW m c k n := by
  have ht := lt16 t
  unfold aW
  blk_point [iblk, V, idx t]

/-- What the body stores, at an entry. -/
theorem pay3_at (x : FVec Ideal S512x1024 .f32) (sc sh : FVec Ideal S1x1x1024 .f32) (w : FVec Ideal S1024x1024 .bf16) (p : Fin 512) (n : Fin 1024) :
    (k0_pay3 x sc sh w : FVec Ideal S512x1024 .f32) (ix2 p n)
      = dot (fun k => x (ix2 p k)) (fun k => sc (ix3 0 0 k)) (fun k => sh (ix3 0 0 k)) (fun k => w (ix2 k n)) := by
  pointwise [k0_pay3, k0_pay1]
  rfl

theorem pay2_at (x : FVec Ideal S512x1024 .f32) (sc sh : FVec Ideal S1x1x1024 .f32) (w : FVec Ideal S1024x1024 .bf16) (p : Fin 512) (n : Fin 1024) :
    (k0_pay2 x sc sh w : FVec Ideal S512x1024 .bf16) (ix2 p n)
      = dot (fun k => x (ix2 p k)) (fun k => sc (ix3 0 0 k)) (fun k => sh (ix3 0 0 k)) (fun k => w (ix2 k n)) * Ideal.ofBits .f32 0x3E000000#32 := by
  pointwise [k0_pay2, k0_pay1]
  rfl

/-- A row of a point's block. -/
def rowOf (t : ℕ) (h : t < 16) (p : Fin 512) : Fin 8192 := ⟨t * 512 + p.val, by omega⟩

/-- A product of a point's rows with a column of the weights is an entry of the projection. -/
theorem point_dot (c : Dev nD) (t : Fin cfg0.N) (o : Fin 3072) (w : Fin 1024 → EReal) (p : Fin 512) (hw : w = fun k => aW m c k o) :
    dot (fun k => (iblk m c 0 t : FVec Ideal S512x1024 .f32) (ix2 p k)) (fun k => (View.ld (iblk m c 1 t) r0_1 : FVec Ideal S1x1x1024 .f32) (ix3 0 0 k))
        (fun k => (View.ld (iblk m c 1 t) r0_2 : FVec Ideal S1x1x1024 .f32) (ix3 0 0 k)) w
      = proj (aX m c) (aM m c) (aW m c) (rowOf t.val (lt16 t) p) o := by
  have e1 : (fun k => (View.ld (iblk m c 1 t) r0_1 : FVec Ideal S1x1x1024 .f32) (ix3 0 0 k)) = aM m c 1 := by
    funext k
    pointwise [r0_1]
    exact blk1 m c t 1 k
  have e2 : (fun k => (View.ld (iblk m c 1 t) r0_2 : FVec Ideal S1x1x1024 .f32) (ix3 0 0 k)) = aM m c 0 := by
    funext k
    pointwise [r0_2]
    exact blk1 m c t 0 k
  rw [e1, e2, hw, funext fun k => blk0 m c t p k]
  rfl

/-- The three results, by their entries. -/
def resQ (c : Dev nD) (z : S8192x1024.Idx) : EReal := query (aX m c) (aM m c) (aW m c) (z 0) (z 1)
def resK (c : Dev nD) (z : S8192x1024.Idx) : EReal := key (aX m c) (aM m c) (aW m c) (z 0) (z 1)
def resV (c : Dev nD) (z : S8192x1024.Idx) : EReal := value (aX m c) (aM m c) (aW m c) (z 0) (z 1)

theorem finalQ (c : Dev nD) : (dats m 0 c).arrAt 3 (cfgs 0).N = resQ m c := by
  refine (dats m 0 c).arrAt_eq_of_covers 3 _ (by decide +kernel) fun t hf y => ?_
  blk_simp
  rw [after0_3]
  frame_out
  idx_vars y
  refine (pay2_at (iblk m c 0 t) (View.ld (iblk m c 1 t) r0_1) (View.ld (iblk m c 1 t) r0_2) (View.ld (iblk m c 2 t) r0_3) y0 y1).trans ?_
  rw [point_dot m c t (col 0 (by omega) y1) _ y0 (funext fun k => by
    pointwise [r0_3]
    refine (blk2 m c t k _).trans (congrArg (aW m c k) (Fin.ext ?_))
    exact (Nat.zero_add _).symm)]
  show resQ m c (ix2 (rowOf t.val (lt16 t) y0) y1) = _
  congr 1
  blk_ext [idx t]
  rfl

theorem finalK (c : Dev nD) : (dats m 0 c).arrAt 4 (cfgs 0).N = resK m c := by
  refine (dats m 0 c).arrAt_eq_of_covers 4 _ (by decide +kernel) fun t hf y => ?_
  blk_simp
  rw [after0_4]
  frame_out
  idx_vars y
  refine (pay3_at (iblk m c 0 t) (View.ld (iblk m c 1 t) r0_1) (View.ld (iblk m c 1 t) r0_2) (View.ld (iblk m c 2 t) r0_4) y0 y1).trans ?_
  rw [point_dot m c t (col 1024 (by omega) y1) _ y0 (funext fun k => by
    pointwise [r0_4]
    exact blk2 m c t k _)]
  show resK m c (ix2 (rowOf t.val (lt16 t) y0) y1) = _
  congr 1
  blk_ext [idx t]
  rfl

theorem finalV (c : Dev nD) : (dats m 0 c).arrAt 5 (cfgs 0).N = resV m c := by
  refine (dats m 0 c).arrAt_eq_of_covers 5 _ (by decide +kernel) fun t hf y => ?_
  blk_simp
  rw [after0_5]
  frame_out
  idx_vars y
  refine (pay3_at (iblk m c 0 t) (View.ld (iblk m c 1 t) r0_1) (View.ld (iblk m c 1 t) r0_2) (View.ld (iblk m c 2 t) r0_5) y0 y1).trans ?_
  rw [point_dot m c t (col 2048 (by omega) y1) _ y0 (funext fun k => by
    pointwise [r0_5]
    exact blk2 m c t k _)]
  show resV m c (ix2 (rowOf t.val (lt16 t) y0) y1) = _
  congr 1
  blk_ext [idx t]
  rfl

/-- A run of the kernel leaves the three results in its output arrays. -/
theorem run : θ_run defs (onTc (τ := τ) (main (F := Ideal))) ⟨m, fun _ => 0, ρ⟩ fun r => ∀ c : Dev nD,
    r.2.mem ((c.tc : Thread nD τ).loc main_v3_0) = resQ m c
    ∧ r.2.mem ((c.tc : Thread nD τ).loc main_v3_1) = resK m c
    ∧ r.2.mem ((c.tc : Thread nD τ).loc main_v3_2) = resV m c :=
  (θ_run defs _ _).mono (fun r h c => ⟨((h c).1 3).trans (finalQ m c), ((h c).1 4).trans (finalK m c), ((h c).1 5).trans (finalV m c)⟩) (run_main m ρ)

end Cert.QkvIdeal.Value

end
-- ==== Proof.QkvAlg.lean ====
module

public import proofs.«01_k».proof.Defs
public import proofs.«01_k».proof.Proof.Gen.QkvRefIdeal
public import proofs.«01_k».proof.Proof.Gen.QkvRefIdeal.Run
public import proofs.«01_k».proof.Proof.Gen.QkvRefIdeal.Read
public import proofs.«01_k».proof.Proof.QkvVal
public import Idealize.ShloMosaic.Adequacy

@[expose] public section

set_option maxRecDepth 16384

noncomputable section

/-! The claims of the prompt tokens' projections: the reference's frame, and kernel and reference leave the same results. -/

namespace Cert.QkvRefIdeal.Value

open Cert.QkvRefIdeal Cert.QkvRefIdeal.Gen Cert.QkvRefIdeal.Read Idealize.ShloMosaic Idealize.ShloMosaic.TcCoe Idealize.SL.Sem
open Cert.QkvSpec

variable (x0 : FVec Ideal S32x256x1024 .f32) (x1 : FVec Ideal S8x6x1024 .f32) (x2 : FVec Ideal S1x1024x3072 .f32)

theorem v11_at (b : Fin 32) (p : Fin 256) (k : Fin 1024) :
    (val_main_v11 (F := Ideal) x0 x1 : FVec Ideal S32x256x1024 .f32) (ix3 b p k) = x0 (ix3 b p k) * (1 + x1 (ix3 0 1 k)) + x1 (ix3 0 0 k) := by
  pointwise [val_main_v11, val_main_v10, val_main_v9, val_main_v8, val_main_v7, val_main_v6, val_main_v5, val_main_v4, val_main_v3, val_main_v2, val_main_cst, val_main_v1, val_main_v0]

theorem v13_at (b : Fin 32) (p : Fin 256) (n : Fin 3072) :
    (val_main_v13 (F := Ideal) x0 x1 x2 : FVec Ideal S32x256x3072 .f32) (ix3 b p n)
      = dot (fun k => x0 (ix3 b p k)) (fun k => x1 (ix3 0 1 k)) (fun k => x1 (ix3 0 0 k)) (fun k => x2 (ix3 0 k n)) := by
  pointwise [val_main_v13, val_main_v12]
  unfold dot
  refine Finset.sum_congr rfl fun k _ => ?_
  rw [v11_at]

theorem v20_at (r : Fin 8192) (n : Fin 1024) :
    (val_main_v20 (F := Ideal) x0 x1 x2 : FVec Ideal S8192x1024 .bf16) (ix2 r n)
      = query (fun b p k => x0 (ix3 b p k)) (fun j k => x1 (ix3 0 j k)) (fun k n => x2 (ix3 0 k n)) r n := by
  pointwise [val_main_v20, val_main_v19, val_main_v18, val_main_v17, val_main_cst_0, val_main_v14]
  simp only [v13_at]
  unfold query proj col
  simp only [Nat.zero_add]

theorem v21_at (r : Fin 8192) (n : Fin 1024) :
    (val_main_v21 (F := Ideal) x0 x1 x2 : FVec Ideal S8192x1024 .f32) (ix2 r n)
      = key (fun b p k => x0 (ix3 b p k)) (fun j k => x1 (ix3 0 j k)) (fun k n => x2 (ix3 0 k n)) r n := by
  pointwise [val_main_v21, val_main_v15]
  simp only [v13_at]
  rfl

theorem v22_at (r : Fin 8192) (n : Fin 1024) :
    (val_main_v22 (F := Ideal) x0 x1 x2 : FVec Ideal S8192x1024 .f32) (ix2 r n)
      = value (fun b p k => x0 (ix3 b p k)) (fun j k => x1 (ix3 0 j k)) (fun k n => x2 (ix3 0 k n)) r n := by
  pointwise [val_main_v22, val_main_v16]
  simp only [v13_at]
  rfl

end Cert.QkvRefIdeal.Value

namespace Cert.Proof

open Idealize.ShloMosaic Idealize.ShloMosaic.StableHlo Idealize.SL.Sem
open Cert.QkvSpec

/-- The projections' reference leaves its arguments as they were and every counter at zero. -/
theorem frame_qkvRef : Cert.quiescent_QkvRefIdeal (hQkvRefIdeal := Cert.QkvRefIdeal.Gen.facts) := fun m ρ _ =>
  (θ_run _ _ _).mono (fun _ h => ⟨fun c => (h c).2.2.2, sem_eq_zero_of_no_sems (by decide) _⟩) (Cert.QkvRefIdeal.Value.run m ρ)

/-- From equal arguments the projections' kernel and its reference end with equal results. -/
theorem algebraic_qkv : Cert.algebraic_QkvIdeal_QkvRefIdeal (hQkvIdeal := Cert.QkvIdeal.Gen.facts) (hQkvRefIdeal := Cert.QkvRefIdeal.Gen.facts) :=
  fun m ρ m' ρ' _ hag => ⟨fun c => Cert.QkvIdeal.Value.resQ m c, fun c => Cert.QkvIdeal.Value.resK m c, fun c => Cert.QkvIdeal.Value.resV m c,
    (θ_run _ _ _).mono (fun _ h c => ⟨(h.1 c).1, (h.1 c).2.1, (h.1 c).2.2, h.2 c⟩) (θ_run_and (Cert.QkvIdeal.Value.run m ρ) (Cert.QkvIdeal.Gen.unchanged m ρ)),
    (θ_run _ _ _).mono (fun _ h c => by
      obtain ⟨e0, e1, e2⟩ := hag c
      have f0 : (fun b p k => (m' ((c.tc : Thread Cert.QkvRefIdeal.nD Cert.QkvRefIdeal.τ).loc Cert.QkvRefIdeal.main_arg0) : FVec Ideal Cert.QkvRefIdeal.S32x256x1024 .f32) (ix3 b p k))
          = Cert.QkvIdeal.Value.aX m c := funext fun b => funext fun p => funext fun k => congrFun e0 (ix3 b p k)
      have f1 : (fun j k => (m' ((c.tc : Thread Cert.QkvRefIdeal.nD Cert.QkvRefIdeal.τ).loc Cert.QkvRefIdeal.main_arg1) : FVec Ideal Cert.QkvRefIdeal.S8x6x1024 .f32) (ix3 0 j k))
          = Cert.QkvIdeal.Value.aM m c := funext fun j => funext fun k => congrFun e1 (ix3 0 j k)
      have f2 : (fun k n => (m' ((c.tc : Thread Cert.QkvRefIdeal.nD Cert.QkvRefIdeal.τ).loc Cert.QkvRefIdeal.main_arg2) : FVec Ideal Cert.QkvRefIdeal.S1x1024x3072 .f32) (ix3 0 k n))
          = Cert.QkvIdeal.Value.aW m c := funext fun k => funext fun n => congrFun e2 (ix3 0 k n)
      refine ⟨(h c).1.trans ((Cert.QkvRefIdeal.Read.val_main_v20_eq _ _ _).trans ?_), (h c).2.1.trans ((Cert.QkvRefIdeal.Read.val_main_v21_eq _ _ _).trans ?_),
        (h c).2.2.1.trans ((Cert.QkvRefIdeal.Read.val_main_v22_eq _ _ _).trans ?_), (h c).2.2.2⟩
      all_goals
        funext z
        idx_vars z
      · refine (Cert.QkvRefIdeal.Value.v20_at _ _ _ z0 z1).trans ?_
        rw [f0, f1, f2]
        rfl
      · refine (Cert.QkvRefIdeal.Value.v21_at _ _ _ z0 z1).trans ?_
        rw [f0, f1, f2]
        rfl
      · refine (Cert.QkvRefIdeal.Value.v22_at _ _ _ z0 z1).trans ?_
        rw [f0, f1, f2]
        rfl) (Cert.QkvRefIdeal.Value.run m' ρ')⟩

end Cert.Proof

end
-- ==== Proof.OutVal.lean ====
module

public import proofs.«01_k».proof.Proof.Gen.OutIdeal.Value
public import proofs.«01_k».proof.Proof.FfnSpec
public import Idealize.ShloMosaic.Lib.Pipeline.ValueKit

@[expose] public section

set_option maxRecDepth 16384

noncomputable section

/-! The output projection of the attention, added to the residual and normed: its entries, and the kernel's output array. -/

namespace Cert.OutSpec

open Idealize.ShloMosaic Cert.FfnSpec

/-- A row projected, gated, added to `√2` times the row `X`. -/
def res (A : Fin 16384 → Fin 1024 → EReal) (W : Fin 1024 → Fin 1024 → EReal) (X : Fin 16384 → Fin 1024 → EReal)
    (M : Fin 8 → Fin 6 → Fin 1024 → EReal) (r : Fin 16384) (k : Fin 1024) : EReal :=
  Ideal.ofBits .f32 0x3FB504F3#32 * X r k + M (seqOf r.val r.isLt) 2 k * ∑ l, A r l * W l k

/-- The same, normed. -/
def out (A : Fin 16384 → Fin 1024 → EReal) (W : Fin 1024 → Fin 1024 → EReal) (X : Fin 16384 → Fin 1024 → EReal)
    (M : Fin 8 → Fin 6 → Fin 1024 → EReal) (G B : Fin 1024 → EReal) (r : Fin 16384) : Fin 1024 → EReal := norm (res A W X M r) G B

end Cert.OutSpec

namespace Cert.OutIdeal.Value

open Cert.OutIdeal Cert.OutIdeal.Gen Idealize.ShloMosaic Idealize.ShloMosaic.TcCoe Idealize.SL.Sem
open Cert.FfnSpec (seqOf norm)
open Cert.OutSpec

variable (m : (ℓ : Loc nD τ sig) → Buf (Elt Ideal) ℓ) (ρ : Dev nD → PrngReg)

/-- The arguments by their entries, the first by its rows. -/
def aA (c : Dev nD) (r : Fin 16384) (k : Fin 1024) : EReal :=
  (m ((c : Thread nD τ).loc main_arg0) : FVec Ideal S4x4096x1024 .bf16) (ix3 ⟨r.val / 4096, by omega⟩ ⟨r.val % 4096, by omega⟩ k)
def aW (c : Dev nD) (l : Fin 1024) (k : Fin 1024) : EReal := (m ((c : Thread nD τ).loc main_arg1) : FVec Ideal S1x1024x1024 .f32) (ix3 0 l k)
def aX (c : Dev nD) (r : Fin 16384) (k : Fin 1024) : EReal := (m ((c : Thread nD τ).loc main_arg2) : FVec Ideal S16384x1024 .f32) (ix2 r k)
def aM (c : Dev nD) (s : Fin 8) (j : Fin 6) (k : Fin 1024) : EReal := (m ((c : Thread nD τ).loc main_arg3) : FVec Ideal S8x6x1024 .f32) (ix3 s j k)
def aG (c : Dev nD) (k : Fin 1024) : EReal := (m ((c : Thread nD τ).loc main_arg4) : FVec Ideal S1024 .f32) (ix1 k)
def aB (c : Dev nD) (k : Fin 1024) : EReal := (m ((c : Thread nD τ).loc main_arg5) : FVec Ideal S1024 .f32) (ix1 k)

/-- The windows' block indices at a point. -/
theorem idx : ∀ t : Fin cfg0.N, win0_0.index t = ![t.val, 0] ∧ win0_1.index t = ![0, 0] ∧ win0_2.index t = ![t.val, 0]
    ∧ win0_3.index t = ![t.val / 8 + 1, 0, 0] ∧ win0_4.index t = ![0, 0] ∧ win0_5.index t = ![0, 0] ∧ win0_6.index t = ![t.val, 0] :=
  (by decide +kernel : ∀ t : Fin grid0.N, _)

theorem lt32 (t : Fin cfg0.N) : t.val < 32 := lt_of_lt_of_eq t.isLt N_0

/-- A row of a point's block. -/
def rowOf (t : ℕ) (h : t < 32) (p : Fin 512) : Fin 16384 := ⟨t * 512 + p.val, by omega⟩

theorem blk0 (c : Dev nD) (t : Fin cfg0.N) (p : Fin 512) (k : Fin 1024) :
    (iblk m c 0 t : FVec Ideal S512x1024 .bf16) (ix2 p k) = aA m c (rowOf t.val (lt32 t) p) k := by
  have ht := lt32 t
  unfold aA rowOf
  blk_point [iblk, V, idx t]

theorem blk1 (c : Dev nD) (t : Fin cfg0.N) (l : Fin 1024) (k : Fin 1024) :
    (iblk m c 1 t : FVec Ideal S1024x1024 .bf16) (ix2 l k) = aW m c l k := by
  have ht := lt32 t
  unfold aW
  blk_point [iblk, V, idx t]

theorem blk2 (c : Dev nD) (t : Fin cfg0.N) (p : Fin 512) (k : Fin 1024) :
    (iblk m c 2 t : FVec Ideal S512x1024 .f32) (ix2 p k) = aX m c (rowOf t.val (lt32 t) p) k := by
  have ht := lt32 t
  unfold aX rowOf
  blk_point [iblk, V, idx t]

theorem blk3 (c : Dev nD) (t : Fin cfg0.N) (j : Fin 6) (k : Fin 1024) :
    (iblk m c 3 t : FVec Ideal S1x6x1024 .f32) (ix3 0 j k) = aM m c ⟨1 + t.val / 8, by have := lt32 t; omega⟩ j k := by
  have ht := lt32 t
  unfold aM
  blk_point [iblk, V, idx t]

theorem blk4 (c : Dev nD) (t : Fin cfg0.N) (k : Fin 1024) : (iblk m c 4 t : FVec Ideal S1x1024 .f32) (ix2 0 k) = aG m c k := by
  have ht := lt32 t
  unfold aG
  blk_point [iblk, V, idx t]

theorem blk5 (c : Dev nD) (t : Fin cfg0.N) (k : Fin 1024) : (iblk m c 5 t : FVec Ideal S1x1024 .f32) (ix2 0 k) = aB m c k := by
  have ht := lt32 t
  unfold aB
  blk_point [iblk, V, idx t]

/-- What the body stores, at an entry. -/
theorem pay1_at (a : FVec Ideal S512x1024 .bf16) (w : FVec Ideal S1024x1024 .bf16) (x : FVec Ideal S512x1024 .f32) (g2 : FVec Ideal S1x1x1024 .f32)
    (g b : FVec Ideal S1x1024 .f32) (y : Fin 512) (d : Fin 1024) :
    (k0_pay1 a w x g2 g b : FVec Ideal S512x1024 .f32) (ix2 y d)
      = norm (fun k => Ideal.ofBits .f32 0x3FB504F3#32 * x (ix2 y k) + g2 (ix3 0 0 k) * ∑ l, a (ix2 y l) * w (ix2 l k)) (fun k => g (ix2 0 k)) (fun k => b (ix2 0 k)) d := by
  pointwise [k0_pay1]
  rfl

/-- The result, by its entries. -/
def result (c : Dev nD) (z : S16384x1024.Idx) : EReal := out (aA m c) (aW m c) (aX m c) (aM m c) (aG m c) (aB m c) (z 0) (z 1)

/-- The output array after the run. -/
theorem final (c : Dev nD) : (dats m 0 c).arrAt 6 (cfgs 0).N = result m c := by
  refine (dats m 0 c).arrAt_eq_of_covers 6 _ (by decide +kernel) fun t hf y => ?_
  have ht := lt32 t
  blk_simp
  rw [after0_6]
  frame_out
  idx_vars y
  refine (pay1_at (iblk m c 0 t) (iblk m c 1 t) (iblk m c 2 t) (View.ld (iblk m c 3 t) r0_2) (iblk m c 4 t) (iblk m c 5 t) y0 y1).trans ?_
  have e3 : ∀ k, (View.ld (iblk m c 3 t) r0_2 : FVec Ideal S1x1x1024 .f32) (ix3 0 0 k)
      = aM m c (seqOf (rowOf t.val ht y0).val (rowOf t.val ht y0).isLt) 2 k := by
    intro k
    pointwise [r0_2]
    rw [blk3]
    congr 1
    apply Fin.ext
    show 1 + t.val / 8 = 1 + (t.val * 512 + y0.val) / 4096
    omega
  simp only [e3, blk0, blk1, blk2, blk4, blk5]
  show result m c (ix2 (rowOf t.val ht y0) y1) = _
  congr 1
  blk_ext [idx t]
  rfl

/-- A run of the kernel leaves the result in its output array. -/
theorem run : θ_run defs (onTc (τ := τ) (main (F := Ideal))) ⟨m, fun _ => 0, ρ⟩ fun r => ∀ c : Dev nD,
    r.2.mem ((c.tc : Thread nD τ).loc main_v5) = result m c :=
  (θ_run defs _ _).mono (fun r h c => ((h c).1 6).trans (final m c)) (run_main m ρ)

end Cert.OutIdeal.Value

end
-- ==== Proof.OutAlg.lean ====
module

public import proofs.«01_k».proof.Defs
public import proofs.«01_k».proof.Proof.Gen.OutRefIdeal
public import proofs.«01_k».proof.Proof.Gen.OutRefIdeal.Run
public import proofs.«01_k».proof.Proof.Gen.OutRefIdeal.Read
public import proofs.«01_k».proof.Proof.OutVal
public import Idealize.ShloMosaic.Adequacy

@[expose] public section

set_option maxRecDepth 16384

noncomputable section

/-! The claims of the attention's output projection: the reference's frame, and kernel and reference leave the same result. -/

namespace Cert.OutRefIdeal.Value

open Cert.OutRefIdeal Cert.OutRefIdeal.Gen Cert.OutRefIdeal.Read Idealize.ShloMosaic Idealize.ShloMosaic.TcCoe Idealize.SL.Sem
open Cert.FfnSpec (seqOf norm mean)
open Cert.OutSpec

variable (x0 : FVec Ideal S4x4096x1024 .bf16) (x1 : FVec Ideal S1x1024x1024 .f32) (x2 : FVec Ideal S16384x1024 .f32)
  (x3 : FVec Ideal S8x6x1024 .f32) (x4 x5 : FVec Ideal S1024 .f32)

/-- The arguments by their entries, the first by its rows. -/
def rowsA (r : Fin 16384) (k : Fin 1024) : EReal := x0 (ix3 ⟨r.val / 4096, by omega⟩ ⟨r.val % 4096, by omega⟩ k)
def entW (l k : Fin 1024) : EReal := x1 (ix3 0 l k)
def entX (r : Fin 16384) (k : Fin 1024) : EReal := x2 (ix2 r k)
def entM (s : Fin 8) (j : Fin 6) (k : Fin 1024) : EReal := x3 (ix3 s j k)
def entG (k : Fin 1024) : EReal := x4 (ix1 k)

/-- The row of the tokens that a sequence and a place in it give. -/
def row (b : Fin 4) (l : Fin 4096) : Fin 16384 := ⟨b.val * 4096 + l.val, by omega⟩

/-- The residual sum before the norm. -/
theorem v11_at (b : Fin 4) (l : Fin 4096) (k : Fin 1024) :
    (val_main_v11 (F := Ideal) x0 x1 x2 x3 : FVec Ideal S4x4096x1024 .f32) (ix3 b l k)
      = res (rowsA x0) (entW x1) (entX x2) (entM x3) (row b l) k := by
  pointwise [val_main_v11, val_main_v10, val_main_v9, val_main_v8, val_main_v7, val_main_cst, val_main_v6, val_main_v5, val_main_v4, val_main_v3, val_main_v2, val_main_v1, val_main_v0]
  have e : seqOf (row b l).val (row b l).isLt = ⟨1 + b.val, by omega⟩ := by
    apply Fin.ext
    show 1 + (b.val * 4096 + l.val) / 4096 = 1 + b.val
    omega
  have e0 : ∀ n, rowsA x0 (row b l) n = x0 (ix3 b l n) := by
    intro n
    unfold rowsA
    have h1 : (⟨(row b l).val / 4096, by omega⟩ : Fin 4) = b := Fin.ext (by show (b.val * 4096 + l.val) / 4096 = b.val; omega)
    have h2 : (⟨(row b l).val % 4096, by omega⟩ : Fin 4096) = l := Fin.ext (by show (b.val * 4096 + l.val) % 4096 = l.val; omega)
    rw [h1, h2]
  unfold res
  simp only [e, e0]
  rfl

/-- The mean of a row. -/
theorem v15_at (b : Fin 4) (l : Fin 4096) (z : Fin 1) :
    (val_main_v15 (F := Ideal) x0 x1 x2 x3 : FVec Ideal S4x4096x1 .f32) (ix3 b l z)
      = mean fun k => (val_main_v11 (F := Ideal) x0 x1 x2 x3 : FVec Ideal S4x4096x1024 .f32) (ix3 b l k) := by
  pointwise [val_main_v15, val_main_v14, val_main_cst_1, val_main_v13, val_main_v12, val_main_cst_0]
  rfl

/-- The reference's result. -/
theorem v36_at (r : Fin 16384) (k : Fin 1024) :
    (val_main_v36 (F := Ideal) x0 x1 x2 x3 x4 x5 : FVec Ideal S16384x1024 .f32) (ix2 r k)
      = out (rowsA x0) (entW x1) (entX x2) (entM x3) (entG x4) (entG x5) r k := by
  pointwise [val_main_v36, val_main_v35, val_main_v34, val_main_v33, val_main_v32, val_main_v31, val_main_v30, val_main_v29, val_main_v28, val_main_v27, val_main_v26, val_main_v25, val_main_cst_4, val_main_v24, val_main_v23, val_main_v22, val_main_v21, val_main_cst_3, val_main_v20, val_main_v19, val_main_cst_2, val_main_v18, val_main_v17, val_main_v16]
  simp only [v15_at, v11_at]
  have e : row ⟨r.val / 4096, by omega⟩ ⟨r.val % 4096, by omega⟩ = r := Fin.ext (by show r.val / 4096 * 4096 + r.val % 4096 = r.val; omega)
  simp only [e]
  rfl

end Cert.OutRefIdeal.Value

namespace Cert.Proof

open Idealize.ShloMosaic Idealize.ShloMosaic.StableHlo Idealize.SL.Sem

/-- The output projection's reference leaves its arguments as they were and every counter at zero. -/
theorem frame_outRef : Cert.quiescent_OutRefIdeal (hOutRefIdeal := Cert.OutRefIdeal.Gen.facts) := fun m ρ _ =>
  (θ_run _ _ _).mono (fun _ h => ⟨fun c => (h c).2, sem_eq_zero_of_no_sems (by decide) _⟩) (Cert.OutRefIdeal.Value.run m ρ)

/-- From equal arguments the output projection's kernel and its reference end with equal results. -/
theorem algebraic_out : Cert.algebraic_OutIdeal_OutRefIdeal (hOutIdeal := Cert.OutIdeal.Gen.facts) (hOutRefIdeal := Cert.OutRefIdeal.Gen.facts) :=
  fun m ρ m' ρ' _ hag => ⟨fun c => Cert.OutIdeal.Value.result m c,
    (θ_run _ _ _).mono (fun _ h c => ⟨h.1 c, h.2 c⟩) (θ_run_and (Cert.OutIdeal.Value.run m ρ) (Cert.OutIdeal.Gen.unchanged m ρ)),
    (θ_run _ _ _).mono (fun _ h c => ⟨(h c).1.trans ((Cert.OutRefIdeal.Read.val_main_v36_eq m' c).trans (by
        obtain ⟨e0, e1, e2, e3, e4, e5⟩ := hag c
        rw [e0, e1, e2, e3, e4, e5]
        funext z
        idx_vars z
        exact Cert.OutRefIdeal.Value.v36_at _ _ _ _ _ _ z0 z1)), (h c).2⟩) (Cert.OutRefIdeal.Value.run m' ρ')⟩

end Cert.Proof

end
-- ==== Proof.MlOutVal.lean ====
module

public import proofs.«01_k».proof.Proof.Gen.MlOutIdeal.Frame
public import proofs.«01_k».proof.Proof.OutVal

@[expose] public section

set_option maxRecDepth 16384

noncomputable section

/-! The output of the matrix memory: the sum of both directions normed head by head, gated, projected, added to the
    residual and normed. Its entries, and the kernel's output array. -/

namespace Cert.MlOutSpec

open Idealize.ShloMosaic

/-- The mean of a head's 256 entries. -/
def mean (h : Fin 256 → EReal) : EReal := Ideal.div (∑ x, h x) (Ideal.ofBits .f32 0x43800000#32)

/-- A head normed to mean zero and variance one. -/
def normed (h : Fin 256 → EReal) (x : Fin 256) : EReal :=
  (h x - mean h) * Ideal.rsqrt (mean (fun l => (h l - mean h) * (h l - mean h)) + Ideal.ofBits .f32 0x3727C5AC#32)

/-- A head of the sum of two rows. -/
def head (f b : Fin 1024 → EReal) (g : Fin 4) (x : Fin 256) : EReal :=
  f ⟨g.val * 256 + x.val, by omega⟩ + b ⟨g.val * 256 + x.val, by omega⟩

/-- The rows that are projected: the gate times the normed heads, scaled. -/
def gated (O HF HB : Fin 16384 → Fin 1024 → EReal) (N : Fin 1024 → EReal) (r : Fin 16384) (k : Fin 1024) : EReal :=
  O r k * (normed (head (HF r) (HB r) ⟨k.val / 256, by omega⟩) ⟨k.val % 256, by omega⟩ * N k)

end Cert.MlOutSpec

namespace Cert.MlOutIdeal.Value

open Cert.MlOutIdeal Cert.MlOutIdeal.Gen Idealize.ShloMosaic Idealize.ShloMosaic.TcCoe Idealize.SL.Sem
open Cert.FfnSpec (seqOf norm)
open Cert.OutSpec (out)
open Cert.MlOutSpec

variable (m : (ℓ : Loc nD τ sig) → Buf (Elt Ideal) ℓ) (ρ : Dev nD → PrngReg)

/-- The arguments by their entries, the norm's scale by its lanes. -/
def aF (c : Dev nD) (r : Fin 16384) (k : Fin 1024) : EReal := (m ((c : Thread nD τ).loc main_arg0) : FVec Ideal S16384x1024 .f32) (ix2 r k)
def aR (c : Dev nD) (r : Fin 16384) (k : Fin 1024) : EReal := (m ((c : Thread nD τ).loc main_arg1) : FVec Ideal S16384x1024 .f32) (ix2 r k)
def aO (c : Dev nD) (r : Fin 16384) (k : Fin 1024) : EReal := (m ((c : Thread nD τ).loc main_arg2) : FVec Ideal S16384x1024 .bf16) (ix2 r k)
def aN (c : Dev nD) (k : Fin 1024) : EReal :=
  (m ((c : Thread nD τ).loc main_arg3) : FVec Ideal S1x4x256 .f32) (ix3 0 ⟨k.val / 256, by omega⟩ ⟨k.val % 256, by omega⟩)
def aW (c : Dev nD) (l : Fin 1024) (k : Fin 1024) : EReal := (m ((c : Thread nD τ).loc main_arg4) : FVec Ideal S1x1024x1024 .f32) (ix3 0 l k)
def aX (c : Dev nD) (r : Fin 16384) (k : Fin 1024) : EReal := (m ((c : Thread nD τ).loc main_arg5) : FVec Ideal S16384x1024 .f32) (ix2 r k)
def aM (c : Dev nD) (s : Fin 8) (j : Fin 6) (k : Fin 1024) : EReal := (m ((c : Thread nD τ).loc main_arg6) : FVec Ideal S8x6x1024 .f32) (ix3 s j k)
def aG (c : Dev nD) (k : Fin 1024) : EReal := (m ((c : Thread nD τ).loc main_arg7) : FVec Ideal S1024 .f32) (ix1 k)
def aB (c : Dev nD) (k : Fin 1024) : EReal := (m ((c : Thread nD τ).loc main_arg8) : FVec Ideal S1024 .f32) (ix1 k)

/-- The windows' block indices at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val / 8 + 1, 0, 0]
    ∧ win0_7.index t = ![0, 0] ∧ win0_8.index t = ![0, 0] ∧ win0_9.index t = ![t.val, 0] :=
  (by decide +kernel : ∀ t : Fin grid0.N, _)

theorem lt32 (t : Fin cfg0.N) : t.val < 32 := lt_of_lt_of_eq t.isLt N_0

/-- A row of a point's block. -/
def rowOf (t : ℕ) (h : t < 32) (p : Fin 512) : Fin 16384 := ⟨t * 512 + p.val, by omega⟩

theorem blk0 (c : Dev nD) (t : Fin cfg0.N) (p : Fin 512) (k : Fin 1024) :
    (iblk m c 0 t : FVec Ideal S512x1024 .f32) (ix2 p k) = aF m c (rowOf t.val (lt32 t) p) k := by
  have ht := lt32 t
  unfold aF rowOf
  blk_point [iblk, V, idx t]

theorem blk1 (c : Dev nD) (t : Fin cfg0.N) (p : Fin 512) (k : Fin 1024) :
    (iblk m c 1 t : FVec Ideal S512x1024 .f32) (ix2 p k) = aR m c (rowOf t.val (lt32 t) p) k := by
  have ht := lt32 t
  unfold aR rowOf
  blk_point [iblk, V, idx t]

theorem blk2 (c : Dev nD) (t : Fin cfg0.N) (p : Fin 512) (k : Fin 1024) :
    (iblk m c 2 t : FVec Ideal S512x1024 .bf16) (ix2 p k) = aO m c (rowOf t.val (lt32 t) p) k := by
  have ht := lt32 t
  unfold aO rowOf
  blk_point [iblk, V, idx t]

theorem blk3 (c : Dev nD) (t : Fin cfg0.N) (k : Fin 1024) : (iblk m c 3 t : FVec Ideal S1x1024 .f32) (ix2 0 k) = aN m c k := by
  have ht := lt32 t
  unfold aN
  blk_point [iblk, V, idx t]

theorem blk4 (c : Dev nD) (t : Fin cfg0.N) (l : Fin 1024) (k : Fin 1024) :
    (iblk m c 4 t : FVec Ideal S1024x1024 .bf16) (ix2 l k) = aW m c l k := by
  have ht := lt32 t
  unfold aW
  blk_point [iblk, V, idx t]

theorem blk5 (c : Dev nD) (t : Fin cfg0.N) (p : Fin 512) (k : Fin 1024) :
    (iblk m c 5 t : FVec Ideal S512x1024 .f32) (ix2 p k) = aX m c (rowOf t.val (lt32 t) p) k := by
  have ht := lt32 t
  unfold aX rowOf
  blk_point [iblk, V, idx t]

theorem blk6 (c : Dev nD) (t : Fin cfg0.N) (j : Fin 6) (k : Fin 1024) :
    (iblk m c 6 t : FVec Ideal S1x6x1024 .f32) (ix3 0 j k) = aM m c ⟨1 + t.val / 8, by have := lt32 t; omega⟩ j k := by
  have ht := lt32 t
  unfold aM
  blk_point [iblk, V, idx t]

theorem blk7 (c : Dev nD) (t : Fin cfg0.N) (k : Fin 1024) : (iblk m c 7 t : FVec Ideal S1x1024 .f32) (ix2 0 k) = aG m c k := by
  have ht := lt32 t
  unfold aG
  blk_point [iblk, V, idx t]

theorem blk8 (c : Dev nD) (t : Fin cfg0.N) (k : Fin 1024) : (iblk m c 8 t : FVec Ideal S1x1024 .f32) (ix2 0 k) = aB m c k := by
  have ht := lt32 t
  unfold aB
  blk_point [iblk, V, idx t]

/-- The four heads of a row, as the body norms them. -/
theorem pay3_at (f b : FVec Ideal S512x1024 .f32) (y : Fin 512) (x : Fin 256) :
    (k0_pay3 f b : FVec Ideal S512x256 .f32) (ix2 y x) = normed (fun x => f (ix2 y ⟨x.val, by omega⟩) + b (ix2 y ⟨x.val, by omega⟩)) x := by
  pointwise [k0_pay3, k0_pay2]
  rfl

theorem pay4_at (f b : FVec Ideal S512x1024 .f32) (y : Fin 512) (x : Fin 256) :
    (k0_pay4 f b : FVec Ideal S512x256 .f32) (ix2 y x) = normed (fun x => f (ix2 y ⟨256 + x.val, by omega⟩) + b (ix2 y ⟨256 + x.val, by omega⟩)) x := by
  pointwise [k0_pay4, k0_pay2]
  rfl

theorem pay5_at (f b : FVec Ideal S512x1024 .f32) (y : Fin 512) (x : Fin 256) :
    (k0_pay5 f b : FVec Ideal S512x256 .f32) (ix2 y x) = f (ix2 y ⟨512 + x.val, by omega⟩) + b (ix2 y ⟨512 + x.val, by omega⟩) := by
  pointwise [k0_pay5, k0_pay2]

theorem pay6_at (f b : FVec Ideal S512x1024 .f32) (y : Fin 512) (x : Fin 256) :
    (k0_pay6 f b : FVec Ideal S512x256 .f32) (ix2 y x)
      = MlOutSpec.mean fun x => (f (ix2 y ⟨512 + x.val, by omega⟩) + b (ix2 y ⟨512 + x.val, by omega⟩) : EReal) := by
  pointwise [k0_pay6, k0_pay5, k0_pay2]
  rfl

/-- The projection of a row, from its four heads. -/
theorem pay7_at (s : FVec Ideal S512x1024 .f32) (h0 h1 h2 m2 : FVec Ideal S512x256 .f32) (n : FVec Ideal S1x1024 .f32) (o : FVec Ideal S512x1024 .bf16)
    (w : FVec Ideal S1024x1024 .bf16) (y : Fin 512) (d : Fin 1024) :
    (k0_pay7 s h0 h1 h2 m2 n o w : FVec Ideal S512x1024 .f32) (ix2 y d)
      = ∑ l : Fin 1024, o (ix2 y l) * ((if h : l.val < 256 then (h0 (ix2 y ⟨l.val, h⟩) : EReal)
          else if h : l.val - 256 < 256 then h1 (ix2 y ⟨l.val - 256, h⟩)
          else if h : l.val - 256 - 256 < 256 then
            (h2 (ix2 y ⟨l.val - 256 - 256, h⟩) - m2 (ix2 y ⟨l.val - 256 - 256, h⟩))
              * Ideal.rsqrt (MlOutSpec.mean (fun x => (h2 (ix2 y x) - m2 (ix2 y x)) * (h2 (ix2 y x) - m2 (ix2 y x))) + Ideal.ofBits .f32 0x3727C5AC#32)
          else normed (fun x => s (ix2 y ⟨768 + x.val, by omega⟩)) ⟨l.val - 256 - 256 - 256, by omega⟩) * n (ix2 0 l)) * w (ix2 l d) := by
  pointwise [k0_pay7]
  rfl

/-- What the body stores, at an entry, from the projection `q`. -/
theorem pay1_at (q x : FVec Ideal S512x1024 .f32) (g2 : FVec Ideal S1x1x1024 .f32) (g b : FVec Ideal S1x1024 .f32) (y : Fin 512) (d : Fin 1024) :
    (k0_pay1 q x k0_pay8 g2 g b : FVec Ideal S512x1024 .f32) (ix2 y d)
      = norm (fun k => Ideal.ofBits .f32 0x3FB504F3#32 * x (ix2 y k) + g2 (ix3 0 0 k) * q (ix2 y k)) (fun k => g (ix2 0 k)) (fun k => b (ix2 0 k)) d := by
  pointwise [k0_pay1, k0_pay8]
  rfl

/-- A head by its number and a place in it. -/
theorem head_at (f b : Fin 1024 → EReal) (k : Fin 1024) (o : ℕ) (x : Fin 256) (g : Fin 256 → EReal) (hk : k.val = o * 256 + x.val) (ho : o < 4)
    (hg : ∀ y, g y = head f b ⟨o, ho⟩ y) : normed g x = normed (head f b ⟨k.val / 256, by omega⟩) ⟨k.val % 256, by omega⟩ := by
  have hx := x.isLt
  have e1 : (⟨k.val / 256, by omega⟩ : Fin 4) = ⟨o, ho⟩ := Fin.ext (by dsimp only; omega)
  have e2 : (⟨k.val % 256, by omega⟩ : Fin 256) = x := Fin.ext (by dsimp only; omega)
  rw [e1, e2, funext hg]

/-- The projection of a row of a point's blocks. -/
theorem proj_at (f b : FVec Ideal S512x1024 .f32) (n : FVec Ideal S1x1024 .f32) (o : FVec Ideal S512x1024 .bf16) (w : FVec Ideal S1024x1024 .bf16)
    (y : Fin 512) (d : Fin 1024) :
    (k0_pay7 (k0_pay2 f b) (k0_pay3 f b) (k0_pay4 f b) (k0_pay5 f b) (k0_pay6 f b) n o w : FVec Ideal S512x1024 .f32) (ix2 y d)
      = ∑ l : Fin 1024, o (ix2 y l) * (normed (head (fun k => f (ix2 y k)) (fun k => b (ix2 y k)) ⟨l.val / 256, by omega⟩) ⟨l.val % 256, by omega⟩ * n (ix2 0 l)) * w (ix2 l d) := by
  rw [pay7_at]
  refine Finset.sum_congr rfl fun l _ => ?_
  have key : ∀ (a n c : EReal) (p q : EReal), p = q → a * (p * n) * c = a * (q * n) * c := by
    rintro a n c p _ rfl
    rfl
  refine key _ _ _ _ _ ?_
  have hl := l.isLt
  by_cases h0 : l.val < 256
  · rw [dif_pos h0, pay3_at]
    refine head_at _ _ l 0 ⟨l.val, h0⟩ _ (by dsimp only; omega) (by omega) fun y => ?_
    unfold head
    simp only [Nat.zero_mul, Nat.zero_add]
  · rw [dif_neg h0]
    by_cases h1 : l.val - 256 < 256
    · rw [dif_pos h1, pay4_at]
      exact head_at _ _ l 1 ⟨l.val - 256, h1⟩ _ (by dsimp only; omega) (by omega) fun y => rfl
    · rw [dif_neg h1]
      by_cases h2 : l.val - 256 - 256 < 256
      · rw [dif_pos h2]
        simp only [pay5_at, pay6_at]
        change normed (head (fun k => f (ix2 y k)) (fun k => b (ix2 y k)) ⟨2, by omega⟩) ⟨l.val - 256 - 256, h2⟩ = _
        exact head_at _ _ l 2 ⟨l.val - 256 - 256, h2⟩ _ (by dsimp only; omega) (by omega) fun y => rfl
      · rw [dif_neg h2]
        refine head_at _ _ l 3 ⟨l.val - 256 - 256 - 256, by omega⟩ _ (by dsimp only; omega) (by omega) fun y => ?_
        pointwise [k0_pay2]
        rfl

/-- The result, by its entries. -/
def result (c : Dev nD) (z : S16384x1024.Idx) : EReal :=
  out (gated (aO m c) (aF m c) (aR m c) (aN m c)) (aW m c) (aX m c) (aM m c) (aG m c) (aB m c) (z 0) (z 1)

/-- The output array after the run. -/
theorem final (c : Dev nD) : (dats m 0 c).arrAt 9 (cfgs 0).N = result m c := by
  refine (dats m 0 c).arrAt_eq_of_covers 9 _ (by decide +kernel) fun t hf y => ?_
  have ht := lt32 t
  blk_simp
  rw [after0_9]
  frame_out
  idx_vars y
  refine (pay1_at (k0_pay7 (k0_pay2 (iblk m c 0 t) (iblk m c 1 t)) (k0_pay3 (iblk m c 0 t) (iblk m c 1 t)) (k0_pay4 (iblk m c 0 t) (iblk m c 1 t))
    (k0_pay5 (iblk m c 0 t) (iblk m c 1 t)) (k0_pay6 (iblk m c 0 t) (iblk m c 1 t)) (iblk m c 3 t) (iblk m c 2 t) (iblk m c 4 t))
    (iblk m c 5 t) (View.ld (iblk m c 6 t) r0_3) (iblk m c 7 t) (iblk m c 8 t) y0 y1).trans ?_
  have e3 : ∀ k, (View.ld (iblk m c 6 t) r0_3 : FVec Ideal S1x1x1024 .f32) (ix3 0 0 k)
      = aM m c (seqOf (rowOf t.val ht y0).val (rowOf t.val ht y0).isLt) 2 k := by
    intro k
    pointwise [r0_3]
    rw [blk6]
    congr 1
    apply Fin.ext
    show 1 + t.val / 8 = 1 + (t.val * 512 + y0.val) / 4096
    omega
  simp only [proj_at, e3, blk0, blk1, blk2, blk3, blk4, blk5, blk7, blk8]
  show result m c (ix2 (rowOf t.val ht y0) y1) = _
  congr 1
  blk_ext [idx t]
  rfl

/-- A run of the kernel leaves the result in its output array. -/
theorem run : θ_run defs (onTc (τ := τ) (main (F := Ideal))) ⟨m, fun _ => 0, ρ⟩ fun r => ∀ c : Dev nD,
    r.2.mem ((c.tc : Thread nD τ).loc main_v6) = result m c :=
  (θ_run defs _ _).mono (fun r h c => ((h c).1 9).trans (final m c)) (run_main m ρ)

end Cert.MlOutIdeal.Value

end
-- ==== Proof.MlOutAlg.lean ====
module

public import proofs.«01_k».proof.Defs
public import proofs.«01_k».proof.Proof.Gen.MlOutRefIdeal
public import proofs.«01_k».proof.Proof.Gen.MlOutRefIdeal.Run
public import proofs.«01_k».proof.Proof.Gen.MlOutRefIdeal.Read
public import proofs.«01_k».proof.Proof.MlOutVal
public import Idealize.ShloMosaic.Adequacy

@[expose] public section

set_option maxRecDepth 16384

noncomputable section

/-! The claims of the matrix memory's output: the reference's frame, and kernel and reference leave the same result. -/

namespace Cert.MlOutRefIdeal.Value

open Cert.MlOutRefIdeal Cert.MlOutRefIdeal.Gen Cert.MlOutRefIdeal.Read Idealize.ShloMosaic Idealize.ShloMosaic.TcCoe Idealize.SL.Sem
open Cert.FfnSpec (seqOf norm)
open Cert.OutSpec
open Cert.MlOutSpec (normed head gated)

variable (x0 x1 : FVec Ideal S16384x1024 .f32) (x2 : FVec Ideal S16384x1024 .bf16) (x3 : FVec Ideal S1x4x256 .f32)
  (x4 : FVec Ideal S1x1024x1024 .f32) (x5 : FVec Ideal S16384x1024 .f32) (x6 : FVec Ideal S8x6x1024 .f32) (x7 x8 : FVec Ideal S1024 .f32)

/-- The arguments by their entries, the norm's scale by its lanes. -/
def entX (r : Fin 16384) (k : Fin 1024) : EReal := x0 (ix2 r k)
def entO (r : Fin 16384) (k : Fin 1024) : EReal := x2 (ix2 r k)
def lanesN (k : Fin 1024) : EReal := x3 (ix3 0 ⟨k.val / 256, by omega⟩ ⟨k.val % 256, by omega⟩)
def entW (l k : Fin 1024) : EReal := x4 (ix3 0 l k)
def entM (s : Fin 8) (j : Fin 6) (k : Fin 1024) : EReal := x6 (ix3 s j k)
def entG (k : Fin 1024) : EReal := x7 (ix1 k)

/-- The row of the tokens that a sequence and a place in it give. -/
def row (b : Fin 4) (l : Fin 4096) : Fin 16384 := ⟨b.val * 4096 + l.val, by omega⟩

/-- The sum of both directions, head by head. -/
theorem v1_at (b : Fin 4) (l : Fin 4096) (g : Fin 4) (x : Fin 256) :
    (val_main_v1 (F := Ideal) x0 x1 : FVec Ideal S4x4096x4x256 .f32) (ix4 b l g x) = head (entX x0 (row b l)) (entX x1 (row b l)) g x := by
  pointwise [val_main_v1, val_main_v0]
  rfl

/-- A head's mean. -/
theorem v5_at (b : Fin 4) (l : Fin 4096) (g : Fin 4) (z : Fin 1) :
    (val_main_v5 (F := Ideal) x0 x1 : FVec Ideal S4x4096x4x1 .f32) (ix4 b l g z) = MlOutSpec.mean (head (entX x0 (row b l)) (entX x1 (row b l)) g) := by
  pointwise [val_main_v5, val_main_v4, val_main_cst_0, val_main_v3, val_main_v2, val_main_cst]
  simp only [v1_at]
  rfl

/-- A head normed. -/
theorem v19_at (b : Fin 4) (l : Fin 4096) (g : Fin 4) (x : Fin 256) :
    (val_main_v19 (F := Ideal) x0 x1 : FVec Ideal S4x4096x4x256 .f32) (ix4 b l g x) = normed (head (entX x0 (row b l)) (entX x1 (row b l)) g) x := by
  pointwise [val_main_v19, val_main_v18, val_main_v17, val_main_v16, val_main_v15, val_main_cst_3, val_main_v14, val_main_v13, val_main_v12, val_main_v11, val_main_cst_2, val_main_v10, val_main_v9, val_main_cst_1, val_main_v8, val_main_v7, val_main_v6]
  simp only [v5_at, v1_at]
  rfl

/-- The residual sum before the norm. -/
theorem v38_at (b : Fin 4) (l : Fin 4096) (k : Fin 1024) :
    (val_main_v38 (F := Ideal) x0 x1 x2 x3 x4 x5 x6 : FVec Ideal S4x4096x1024 .f32) (ix3 b l k)
      = res (gated (entO x2) (entX x0) (entX x1) (lanesN x3)) (entW x4) (entX x5) (entM x6) (row b l) k := by
  pointwise [val_main_v38, val_main_v37, val_main_v36, val_main_v35, val_main_v34, val_main_cst_4, val_main_v33, val_main_v32, val_main_v31, val_main_v30, val_main_v29, val_main_v28, val_main_v27, val_main_v26, val_main_v25, val_main_v24, val_main_v23, val_main_v22, val_main_v21, val_main_v20]
  simp only [v19_at]
  have e : seqOf (row b l).val (row b l).isLt = ⟨1 + b.val, by omega⟩ := by
    apply Fin.ext
    show 1 + (b.val * 4096 + l.val) / 4096 = 1 + b.val
    omega
  unfold res
  simp only [e]
  rfl

/-- The mean of a row. -/
theorem v42_at (b : Fin 4) (l : Fin 4096) (z : Fin 1) :
    (val_main_v42 (F := Ideal) x0 x1 x2 x3 x4 x5 x6 : FVec Ideal S4x4096x1 .f32) (ix3 b l z)
      = FfnSpec.mean fun k => (val_main_v38 (F := Ideal) x0 x1 x2 x3 x4 x5 x6 : FVec Ideal S4x4096x1024 .f32) (ix3 b l k) := by
  pointwise [val_main_v42, val_main_v41, val_main_cst_6, val_main_v40, val_main_v39, val_main_cst_5]
  rfl

/-- The reference's result. -/
theorem v63_at (r : Fin 16384) (k : Fin 1024) :
    (val_main_v63 (F := Ideal) x0 x1 x2 x3 x4 x5 x6 x7 x8 : FVec Ideal S16384x1024 .f32) (ix2 r k)
      = out (gated (entO x2) (entX x0) (entX x1) (lanesN x3)) (entW x4) (entX x5) (entM x6) (entG x7) (entG x8) r k := by
  pointwise [val_main_v63, val_main_v62, val_main_v61, val_main_v60, val_main_v59, val_main_v58, val_main_v57, val_main_v56, val_main_v55, val_main_v54, val_main_v53, val_main_v52, val_main_cst_9, val_main_v51, val_main_v50, val_main_v49, val_main_v48, val_main_cst_8, val_main_v47, val_main_v46, val_main_cst_7, val_main_v45, val_main_v44, val_main_v43]
  simp only [v42_at, v38_at]
  have e : row ⟨r.val / 4096, by omega⟩ ⟨r.val % 4096, by omega⟩ = r := Fin.ext (by show r.val / 4096 * 4096 + r.val % 4096 = r.val; omega)
  simp only [e]
  rfl

end Cert.MlOutRefIdeal.Value

namespace Cert.Proof

open Idealize.ShloMosaic Idealize.ShloMosaic.StableHlo Idealize.SL.Sem

/-- The reference of the matrix memory's output leaves its arguments as they were and every counter at zero. -/
theorem frame_mloutRef : Cert.quiescent_MlOutRefIdeal (hMlOutRefIdeal := Cert.MlOutRefIdeal.Gen.facts) := fun m ρ _ =>
  (θ_run _ _ _).mono (fun _ h => ⟨fun c => (h c).2, sem_eq_zero_of_no_sems (by decide) _⟩) (Cert.MlOutRefIdeal.Value.run m ρ)

/-- From equal arguments the kernel of the matrix memory's output and its reference end with equal results. -/
theorem algebraic_mlout : Cert.algebraic_MlOutIdeal_MlOutRefIdeal (hMlOutIdeal := Cert.MlOutIdeal.Gen.facts) (hMlOutRefIdeal := Cert.MlOutRefIdeal.Gen.facts) :=
  fun m ρ m' ρ' _ hag => ⟨fun c => Cert.MlOutIdeal.Value.result m c,
    (θ_run _ _ _).mono (fun _ h c => ⟨h.1 c, h.2 c⟩) (θ_run_and (Cert.MlOutIdeal.Value.run m ρ) (Cert.MlOutIdeal.Gen.unchanged m ρ)),
    (θ_run _ _ _).mono (fun _ h c => ⟨(h c).1.trans ((Cert.MlOutRefIdeal.Read.val_main_v63_eq m' c).trans (by
        obtain ⟨e0, e1, e2, e3, e4, e5, e6, e7, e8⟩ := hag c
        rw [e0, e1, e2, e3, e4, e5, e6, e7, e8]
        funext z
        idx_vars z
        exact Cert.MlOutRefIdeal.Value.v63_at _ _ _ _ _ _ _ _ _ z0 z1)), (h c).2⟩) (Cert.MlOutRefIdeal.Value.run m' ρ')⟩

end Cert.Proof

end
-- ==== Proof.MlProjKer.lean ====
module

public import proofs.«01_k».proof.Proof.Gen.MlProjIdeal.Skeleton
public import proofs.«01_k».proof.Proof.FfnKer

@[expose] public section

set_option maxRecDepth 16384

noncomputable section

/-! The matrix memory's projection as functions of the entries of its arguments: `X` the rows of the four latent
    sequences, `M` the modulation table, `W` the weights, `CW` and `CB` the taps and the bias of the convolution,
    `BG` the gates' bias. -/

namespace Cert.MlProjSpec

open Idealize.ShloMosaic
open Cert.FfnSpec (seqOf)

/-- An entry modulated: scaled by one plus the scale, and shifted. -/
def modul (X : Fin 16384 → Fin 1024 → EReal) (M : Fin 8 → Fin 6 → Fin 1024 → EReal) (r : Fin 16384) (k : Fin 1024) : EReal :=
  X r k * (1 + M (seqOf r.val r.isLt) 1 k) + M (seqOf r.val r.isLt) 0 k

/-- A modulated row times a column of the weights. -/
def proj (X : Fin 16384 → Fin 1024 → EReal) (M : Fin 8 → Fin 6 → Fin 1024 → EReal) (w : Fin 1024 → EReal) (r : Fin 16384) : EReal :=
  ∑ k, modul X M r k * w k

/-- The entry of the row before, or zero at the first row of a sequence. -/
def prior (u : Fin 16384 → EReal) (r : Fin 16384) : EReal :=
  if h : r.val % 4096 = 0 then 0 else u ⟨r.val - 1, by have := r.isLt; omega⟩

/-- The entry of the row after, or zero at the last row of a sequence. -/
def next (u : Fin 16384 → EReal) (r : Fin 16384) : EReal :=
  if h : r.val % 4096 = 4095 then 0 else u ⟨r.val + 1, by have := r.isLt; omega⟩

/-- The three taps of the convolution along a sequence, and its bias. -/
def conv (u : Fin 16384 → EReal) (cw : Fin 3 → EReal) (cb : EReal) (r : Fin 16384) : EReal :=
  prior u r * cw 0 + u r * cw 1 + next u r * cw 2 + cb

/-- One over one plus the exponential of minus a number. -/
def logistic (x : EReal) : EReal := Ideal.div 1 (1 + Ideal.exp (-x))

/-- The queries and keys before the keys' scale: the convolution times its logistic. -/
def qk (X : Fin 16384 → Fin 1024 → EReal) (M : Fin 8 → Fin 6 → Fin 1024 → EReal) (W : Fin 1024 → Fin 3088 → EReal)
    (CW : Fin 3 → Fin 1024 → EReal) (CB : Fin 1024 → EReal) (r : Fin 16384) (n : Fin 1024) : EReal :=
  conv (proj X M fun k => W k ⟨n.val, by omega⟩) (fun a => CW a n) (CB n) r * logistic (conv (proj X M fun k => W k ⟨n.val, by omega⟩) (fun a => CW a n) (CB n) r)

/-- A column of the thousand that start at `o`. -/
def part (o : ℕ) (ho : o ≤ 2048) (n : Fin 1024) : Fin 3088 := ⟨o + n.val, by omega⟩

/-- A gate: its projection and its bias. -/
def gate (X : Fin 16384 → Fin 1024 → EReal) (M : Fin 8 → Fin 6 → Fin 1024 → EReal) (W : Fin 1024 → Fin 3088 → EReal)
    (BG : Fin 16 → EReal) (r : Fin 16384) (g : Fin 16) : EReal :=
  proj X M (fun k => W k ⟨3072 + g.val, by omega⟩) r + BG g

/-- A product in three parts, each factor split in itself and what it lacks of itself, is the product. -/
theorem split_dot (h w : Fin 1024 → EReal) (hh : ∀ k, ∃ x : ℝ, h k = (x : EReal)) (hw : ∀ k, ∃ x : ℝ, w k = (x : EReal)) :
    ∑ k, h k * w k + ∑ k, (h k - h k) * w k + ∑ k, h k * (w k - w k) = ∑ k, h k * w k := by
  have e : ∀ x : EReal, (∃ y : ℝ, x = (y : EReal)) → x - x = 0 := by
    rintro x ⟨y, rfl⟩
    rw [← EReal.coe_sub, sub_self, EReal.coe_zero]
  simp only [e _ (hh _), e _ (hw _), zero_mul, mul_zero, Finset.sum_const_zero, add_zero]

end Cert.MlProjSpec

/-! What the body of the projection kernel computes, read at an index. -/

namespace Cert.MlProjIdeal.Value

open Cert.MlProjIdeal Cert.MlProjIdeal.Gen Idealize.ShloMosaic Idealize.ShloMosaic.TcCoe Idealize.SL.Sem
open Cert.MlProjSpec

/-- The place of a row in its sequence, as the kernel computes it. -/
def posn (i : grid0.Coords) (y : Fin 512) : BitVec 32 :=
  Scalar.select (IntOp.andi (IntOp.xori (k0_pay8 i (ix2 y 0)) (Scalar.cmpi CmpIPredicate.slt 4096#32 0#32)) (k0_pay7 i (ix2 y 0)))
    (IntOp.addi (k0_pay6 i (ix2 y 0)) 4096#32) (k0_pay6 i (ix2 y 0))

theorem posn_eq (i : grid0.Coords) (y : Fin 512) : posn i y = BitVec.ofNat 32 (((i 0).val * 512 + y.val) % 4096) := by
  unfold posn
  pointwise [k0_pay8, k0_pay7, k0_pay6]
  have hi : (i 0).val < 32 := (i 0).isLt
  rw [FfnIdeal.Value.num_eq ⟨(i 0).val, hi⟩ y]
  exact FfnIdeal.Value.pos_eq 4096 (by omega) rfl rfl ⟨(i 0).val * 512 + y.val, by omega⟩

theorem pay9_at (i : grid0.Coords) (a b c : FVec Ideal S512x1024 .f32) (w0 w1 w2 bb : FVec Ideal S1x1024 .f32) (y : Fin 512) (n : Fin 1024) :
    (k0_pay9 4096#32 (k0_pay6 i) (k0_pay7 i) (k0_pay8 i) 0#32 a b c w0 w1 w2 bb : FVec Ideal S512x1024 .f32) (ix2 y n)
      = Scalar.select (IntOp.cmpi CmpIPredicate.ne (posn i y) 0#32) (a (ix2 y n) * w0 (ix2 0 n)) 0 + b (ix2 y n) * w1 (ix2 0 n)
        + Scalar.select (IntOp.cmpi CmpIPredicate.ne (posn i y) 4095#32) (c (ix2 y n) * w2 (ix2 0 n)) 0 + bb (ix2 0 n) := by
  pointwise [k0_pay9]
  rfl

/-- The convolution of a column of held values: held value `p` is the column's row `512 i + p - 16`, as far as that row lies
    in the sequence of the rows `512 i …`. -/
theorem conv_at (i : grid0.Coords) (a b c : FVec Ideal S512x1024 .f32) (w0 w1 w2 bb : FVec Ideal S1x1024 .f32) (y : Fin 512) (n : Fin 1024)
    (u : Fin 16384 → EReal) (U : Fin 544 → EReal)
    (hU : ∀ (p : Fin 544) (q : Fin 16384), q.val + 16 = (i 0).val * 512 + p.val → q.val / 4096 = (i 0).val / 8 → U p = u q)
    (ha : a (ix2 y n) = U ⟨15 + y.val, by omega⟩) (hb : b (ix2 y n) = U ⟨16 + y.val, by omega⟩) (hc : c (ix2 y n) = U ⟨17 + y.val, by omega⟩)
    (cw : Fin 3 → EReal) (h0 : w0 (ix2 0 n) = cw 0) (h1 : w1 (ix2 0 n) = cw 1) (h2 : w2 (ix2 0 n) = cw 2) (cb : EReal) (h3 : bb (ix2 0 n) = cb)
    (r : Fin 16384) (hr : r.val = (i 0).val * 512 + y.val) :
    (k0_pay9 4096#32 (k0_pay6 i) (k0_pay7 i) (k0_pay8 i) 0#32 a b c w0 w1 w2 bb : FVec Ideal S512x1024 .f32) (ix2 y n) = conv u cw cb r := by
  have hi : (i 0).val < 32 := (i 0).isLt
  have hy := y.isLt
  rw [pay9_at, posn_eq, FfnIdeal.Value.ne_eq _ 0 (by omega) (by omega), FfnIdeal.Value.ne_eq _ 4095 (by omega) (by omega), ha, hb, hc, h0, h1, h2, h3]
  have e0 : Scalar.select (if ((i 0).val * 512 + y.val) % 4096 = 0 then 0#1 else 1#1) (U ⟨15 + y.val, by omega⟩ * cw 0) 0 = prior u r * cw 0 := by
    unfold prior
    by_cases hz : ((i 0).val * 512 + y.val) % 4096 = 0
    · rw [if_pos hz, dif_pos (by rw [hr]; exact hz), zero_mul]
      rfl
    · rw [if_neg hz, dif_neg (by rw [hr]; exact hz), hU _ ⟨r.val - 1, by omega⟩ (by dsimp only; omega) (by dsimp only; omega)]
      rfl
  have e1 : U ⟨16 + y.val, by omega⟩ = u r := hU _ r (by dsimp only; omega) (by omega)
  have e2 : Scalar.select (if ((i 0).val * 512 + y.val) % 4096 = 4095 then 0#1 else 1#1) (U ⟨17 + y.val, by omega⟩ * cw 2) 0 = next u r * cw 2 := by
    unfold next
    by_cases hz : ((i 0).val * 512 + y.val) % 4096 = 4095
    · rw [if_pos hz, dif_pos (by rw [hr]; exact hz), zero_mul]
      rfl
    · rw [if_neg hz, dif_neg (by rw [hr]; exact hz), hU _ ⟨r.val + 1, by omega⟩ (by dsimp only; omega) (by dsimp only; omega)]
      rfl
  rw [e0, e1, e2]
  rfl

theorem pay4_at (sh sc : FVec Ideal S1x1x1024 .f32) (x0 : FVec Ideal S16x1024 .f32) (x1 : FVec Ideal S512x1024 .f32)
    (x2 : FVec Ideal S16x1024 .f32) (p : Fin 544) (k : Fin 1024) :
    (k0_pay4 sh sc x0 x1 x2 : FVec Ideal S544x1024 .bf16) (ix2 p k)
      = (if h : p.val < 16 then x0 (ix2 ⟨p.val, h⟩ k)
        else if h : p.val - 16 < 512 then x1 (ix2 ⟨p.val - 16, h⟩ k) else x2 (ix2 ⟨p.val - 16 - 512, by omega⟩ k))
          * (1 + sc (ix3 0 0 k)) + sh (ix3 0 0 k) := by
  pointwise [k0_pay4, k0_pay3, k0_pay2]

theorem pay5_at (sh sc : FVec Ideal S1x1x1024 .f32) (x0 : FVec Ideal S16x1024 .f32) (x1 : FVec Ideal S512x1024 .f32)
    (x2 : FVec Ideal S16x1024 .f32) (w : FVec Ideal S1024x1024 .bf16) (p : Fin 544) (n : Fin 1024) :
    (k0_pay5 sh sc x0 x1 x2 w : FVec Ideal S544x1024 .f32) (ix2 p n)
      = ∑ k : Fin 1024, (k0_pay4 sh sc x0 x1 x2 : FVec Ideal S544x1024 .bf16) (ix2 p k) * w (ix2 k n) := by
  pointwise [k0_pay5]

theorem pay11_at (f : FVec Ideal S512x1024 .f32) (y : Fin 512) (n : Fin 512) :
    (k0_pay11 f (FloatOps.ofBits FTy.f32 0#32) : FVec Ideal S512x512 .bf16) (ix2 y n)
      = f (ix2 y ⟨n.val, by omega⟩) * logistic (f (ix2 y ⟨n.val, by omega⟩)) := by
  pointwise [k0_pay11, k0_pay10]
  rw [zero_sub]
  rfl

theorem pay12_at (f : FVec Ideal S512x1024 .f32) (y : Fin 512) (n : Fin 512) :
    (k0_pay12 f (FloatOps.ofBits FTy.f32 0#32) : FVec Ideal S512x512 .bf16) (ix2 y n)
      = f (ix2 y ⟨512 + n.val, by omega⟩) * logistic (f (ix2 y ⟨512 + n.val, by omega⟩)) * Ideal.ofBits .f32 0x3DB504F3#32 := by
  pointwise [k0_pay12, k0_pay10]
  rw [zero_sub]
  rfl

theorem pay14_at (h : FVec Ideal S544x1024 .bf16) (w : FVec Ideal S1024x1024 .bf16) (y : Fin 512) (n : Fin 1024) :
    (k0_pay14 h w : FVec Ideal S512x1024 .bf16) (ix2 y n) = ∑ k : Fin 1024, h (ix2 ⟨16 + y.val, by omega⟩ k) * w (ix2 k n) := by
  pointwise [k0_pay14, k0_pay13]

theorem pay15_at (h : FVec Ideal S544x1024 .bf16) (w : FVec Ideal S1024x1024 .bf16) (y : Fin 512) (n : Fin 1024) :
    (k0_pay15 h w : FVec Ideal S512x1024 .bf16) (ix2 y n) = logistic (∑ k : Fin 1024, h (ix2 ⟨16 + y.val, by omega⟩ k) * w (ix2 k n)) := by
  pointwise [k0_pay15, k0_pay13]
  rw [zero_sub]
  rfl

theorem pay16_at (sh sc : FVec Ideal S1x1x1024 .f32) (x : FVec Ideal S512x1024 .f32) (y : Fin 512) (k : Fin 1024) :
    (k0_pay16 (k0_pay2 sh) (k0_pay3 sc) x : FVec Ideal S512x1024 .f32) (ix2 y k) = x (ix2 y k) * (1 + sc (ix3 0 0 k)) + sh (ix3 0 0 k) := by
  pointwise [k0_pay16, k0_pay3, k0_pay2]

theorem pay17_at (sh sc : FVec Ideal S1x1x1024 .f32) (x : FVec Ideal S512x1024 .f32) (w : FVec Ideal S1024x16 .f32) (b : FVec Ideal S1x16 .f32)
    (h : Fin 512 → Fin 1024 → EReal) (v : Fin 1024 → Fin 16 → EReal)
    (eh : ∀ y k, x (ix2 y k) * (1 + sc (ix3 0 0 k)) + sh (ix3 0 0 k) = h y k) (ev : ∀ k g, w (ix2 k g) = v k g)
    (fh : ∀ y k, ∃ a : ℝ, h y k = (a : EReal)) (fv : ∀ k g, ∃ a : ℝ, v k g = (a : EReal)) (y : Fin 512) (g : Fin 16) :
    (k0_pay17 (k0_pay2 sh) (k0_pay3 sc) x w b : FVec Ideal S512x16 .f32) (ix2 y g) = ∑ k, h y k * v k g + b (ix2 0 g) := by
  pointwise [k0_pay17]
  simp only [pay16_at, eh, ev]
  exact congrArg (· + b (ix2 0 g)) (split_dot (h y) (fun k => v k g) (fh y) fun k => fv k g)

theorem pay1_at (sh sc : FVec Ideal S1x1x1024 .f32) (x : FVec Ideal S512x1024 .f32) (w : FVec Ideal S16x1024 .f32) (b : FVec Ideal S16x1 .f32)
    (h : Fin 512 → Fin 1024 → EReal) (v : Fin 1024 → Fin 16 → EReal)
    (eh : ∀ y k, x (ix2 y k) * (1 + sc (ix3 0 0 k)) + sh (ix3 0 0 k) = h y k) (ev : ∀ k g, w (ix2 g k) = v k g)
    (fh : ∀ y k, ∃ a : ℝ, h y k = (a : EReal)) (fv : ∀ k g, ∃ a : ℝ, v k g = (a : EReal)) (g : Fin 16) (y : Fin 512) :
    (k0_pay1 (k0_pay18 (k0_pay2 sh) (k0_pay3 sc) x w) b : FVec Ideal S16x512 .f32) (ix2 g y) = ∑ k, h y k * v k g + b (ix2 g 0) := by
  pointwise [k0_pay1, k0_pay18]
  simp only [pay16_at, eh, ev]
  rw [Finset.sum_congr rfl fun k _ => mul_comm (h y k) (v k g)]
  exact congrArg (· + b (ix2 g 0)) (split_dot (fun k => v k g) (h y) (fun k => fv k g) (fh y))

end Cert.MlProjIdeal.Value

end
-- ==== Proof.MlProjRef.lean ====
module

public import proofs.«01_k».proof.Proof.Gen.MlProjRefIdeal.Read
public import proofs.«01_k».proof.Proof.MlProjKer

@[expose] public section

set_option maxRecDepth 16384

noncomputable section

/-! The reference of the matrix memory's projection, its arrays read at an index. -/

namespace Cert.MlProjRefIdeal.Value

open Cert.MlProjRefIdeal Cert.MlProjRefIdeal.Gen Cert.MlProjRefIdeal.Read Idealize.ShloMosaic Idealize.ShloMosaic.TcCoe Idealize.SL.Sem
open Cert.MlProjSpec
open Cert.FfnSpec (seqOf)

variable (x0 : FVec Ideal S16384x1024 .f32) (x1 : FVec Ideal S8x6x1024 .f32) (x2 : FVec Ideal S1x1024x3088 .f32)
  (x3 : FVec Ideal S1x3x1024 .f32) (x4 : FVec Ideal S1x1024 .f32) (x5 : FVec Ideal S1x16 .f32)

/-- The arguments by their entries. -/
def eX (r : Fin 16384) (k : Fin 1024) : EReal := x0 (ix2 r k)
def eM (s : Fin 8) (j : Fin 6) (k : Fin 1024) : EReal := x1 (ix3 s j k)
def eW (k : Fin 1024) (n : Fin 3088) : EReal := x2 (ix3 0 k n)
def eCW (j : Fin 3) (n : Fin 1024) : EReal := x3 (ix3 0 j n)
def eCB (n : Fin 1024) : EReal := x4 (ix2 0 n)
def eBG (g : Fin 16) : EReal := x5 (ix2 0 g)

/-- A row of a sequence among all rows. -/
def rowOf (b : Fin 4) (l : Fin 4096) : Fin 16384 := ⟨b.val * 4096 + l.val, by omega⟩

theorem seq_row (b : Fin 4) (l : Fin 4096) : seqOf (rowOf b l).val (rowOf b l).isLt = ⟨1 + b.val, by omega⟩ := by
  apply Fin.ext
  show 1 + (b.val * 4096 + l.val) / 4096 = 1 + b.val
  omega

theorem row_split (r : Fin 16384) : rowOf ⟨r.val / 4096, by omega⟩ ⟨r.val % 4096, by omega⟩ = r := Fin.ext (by simp only [rowOf]; omega)

theorem v12_at (b : Fin 4) (l : Fin 4096) (k : Fin 1024) :
    (val_main_v12 (F := Ideal) x0 x1 : FVec Ideal S4x4096x1024 .f32) (ix3 b l k) = modul (eX x0) (eM x1) (rowOf b l) k := by
  pointwise [val_main_v12, val_main_v11, val_main_v10, val_main_v9, val_main_v8, val_main_v7, val_main_v6, val_main_v5, val_main_v4, val_main_v3, val_main_v2, val_main_v1, val_main_v0, val_main_cst]
  unfold modul
  rw [seq_row]
  rfl

theorem v14_at (b : Fin 4) (l : Fin 4096) (n : Fin 3088) :
    (val_main_v14 (F := Ideal) x0 x1 x2 : FVec Ideal S4x4096x3088 .f32) (ix3 b l n) = proj (eX x0) (eM x1) (fun k => eW x2 k n) (rowOf b l) := by
  pointwise [val_main_v14, val_main_v13]
  unfold proj
  refine Finset.sum_congr rfl fun k _ => ?_
  rw [v12_at]
  rfl

/-- The padded projection: a zero row, the rows of the sequence, a zero row. -/
theorem v21_at (b : Fin 4) (p : Fin 4098) (n : Fin 1024) :
    (val_main_v21 (F := Ideal) x0 x1 x2 : FVec Ideal S4x4098x1024 .f32) (ix3 b p n)
      = if h : 1 ≤ p.val ∧ p.val - 1 < 4096 then proj (eX x0) (eM x1) (fun k => eW x2 k ⟨n.val, by omega⟩) (rowOf b ⟨p.val - 1, h.2⟩) else 0 := by
  pointwise [val_main_v21, val_main_call0_v0, val_main_c, val_main_v15]
  by_cases h : 1 ≤ p.val ∧ p.val - 1 < 4096
  · rw [dif_pos h, dif_pos h, v14_at]
  · rw [dif_neg h, dif_neg h]
    exact show ((((0#32 : BitVec 32).toInt : ℤ) : ℝ) : EReal) = 0 by simp

/-- The convolution of the projection. -/
theorem v44_at (b : Fin 4) (l : Fin 4096) (n : Fin 1024) :
    (val_main_v44 (F := Ideal) x0 x1 x2 x3 x4 : FVec Ideal S4x4096x1024 .f32) (ix3 b l n)
      = conv (proj (eX x0) (eM x1) fun k => eW x2 k ⟨n.val, by omega⟩) (fun a => eCW x3 a n) (eCB x4 n) (rowOf b l) := by
  have hb := b.isLt
  have hl := l.isLt
  have e0 : (val_main_v21 (F := Ideal) x0 x1 x2 : FVec Ideal S4x4098x1024 .f32) (ix3 b ⟨l.val, by omega⟩ n)
      = prior (proj (eX x0) (eM x1) fun k => eW x2 k ⟨n.val, by omega⟩) (rowOf b l) := by
    rw [v21_at]
    unfold prior rowOf
    by_cases h : l.val = 0
    · rw [dif_neg (by dsimp only; omega), dif_pos (by dsimp only; omega)]
    · rw [dif_pos (by dsimp only; omega), dif_neg (by dsimp only; omega)]
      congr 1
      apply Fin.ext
      dsimp only
      omega
  have e1 : (val_main_v21 (F := Ideal) x0 x1 x2 : FVec Ideal S4x4098x1024 .f32) (ix3 b ⟨1 + l.val, by omega⟩ n)
      = proj (eX x0) (eM x1) (fun k => eW x2 k ⟨n.val, by omega⟩) (rowOf b l) := by
    rw [v21_at, dif_pos (by dsimp only; omega)]
    unfold rowOf
    congr 1
    apply Fin.ext
    dsimp only
    omega
  have e2 : (val_main_v21 (F := Ideal) x0 x1 x2 : FVec Ideal S4x4098x1024 .f32) (ix3 b ⟨2 + l.val, by omega⟩ n)
      = next (proj (eX x0) (eM x1) fun k => eW x2 k ⟨n.val, by omega⟩) (rowOf b l) := by
    rw [v21_at]
    unfold next rowOf
    by_cases h : l.val = 4095
    · rw [dif_neg (by dsimp only; omega), dif_pos (by dsimp only; omega)]
    · rw [dif_pos (by dsimp only; omega), dif_neg (by dsimp only; omega)]
      congr 1
      apply Fin.ext
      dsimp only
      omega
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v19, val_main_v20]
  rw [e0, e1, e2]
  rfl

/-- The queries and keys before the keys' scale. -/
theorem v45_at (b : Fin 4) (l : Fin 4096) (n : Fin 1024) :
    (val_main_v45 (F := Ideal) x0 x1 x2 x3 x4 : FVec Ideal S4x4096x1024 .f32) (ix3 b l n)
      = qk (eX x0) (eM x1) (eW x2) (eCW x3) (eCB x4) (rowOf b l) n := by
  pointwise [val_main_v45, val_main_call1_v5, val_main_call1_v4, val_main_call1_cst_0, val_main_call1_v3, val_main_call1_v2, val_main_call1_cst, val_main_call1_v1, val_main_call1_v0]
  simp only [v44_at]
  rfl

theorem v54_at (r : Fin 16384) (n : Fin 512) :
    (val_main_v54 (F := Ideal) x0 x1 x2 x3 x4 : FVec Ideal S16384x512 .bf16) (ix2 r n)
      = qk (eX x0) (eM x1) (eW x2) (eCW x3) (eCB x4) r ⟨n.val, by omega⟩ := by
  pointwise [val_main_v54, val_main_v53, val_main_v46]
  rw [v45_at, row_split]

theorem v58_at (r : Fin 16384) (n : Fin 512) :
    (val_main_v58 (F := Ideal) x0 x1 x2 x3 x4 : FVec Ideal S16384x512 .bf16) (ix2 r n)
      = qk (eX x0) (eM x1) (eW x2) (eCW x3) (eCB x4) r ⟨512 + n.val, by omega⟩ * Ideal.ofBits .f32 0x3DB504F3#32 := by
  pointwise [val_main_v58, val_main_v57, val_main_v56, val_main_v55, val_main_cst_0, val_main_v47]
  rw [v45_at, row_split]

theorem v60_at (r : Fin 16384) (n : Fin 1024) :
    (val_main_v60 (F := Ideal) x0 x1 x2 : FVec Ideal S16384x1024 .bf16) (ix2 r n)
      = proj (eX x0) (eM x1) (fun k => eW x2 k (part 1024 (by omega) n)) r := by
  pointwise [val_main_v60, val_main_v59, val_main_v16]
  rw [v14_at, row_split]
  rfl

theorem v68_at (r : Fin 16384) (n : Fin 1024) :
    (val_main_v68 (F := Ideal) x0 x1 x2 : FVec Ideal S16384x1024 .bf16) (ix2 r n)
      = logistic (proj (eX x0) (eM x1) (fun k => eW x2 k (part 2048 (by omega) n)) r) := by
  pointwise [val_main_v68, val_main_v67, val_main_v66, val_main_v65, val_main_cst_2, val_main_v64, val_main_v63, val_main_cst_1, val_main_v62, val_main_v61, val_main_v17]
  rw [v14_at, row_split]
  rfl

theorem v52_at (r : Fin 16384) (g : Fin 16) :
    (val_main_v52 (F := Ideal) x0 x1 x2 x5 : FVec Ideal S16384x16 .f32) (ix2 r g) = gate (eX x0) (eM x1) (eW x2) (eBG x5) r g := by
  pointwise [val_main_v52, val_main_v51, val_main_v50, val_main_v49, val_main_v48, val_main_v18]
  rw [v14_at, row_split]
  rfl

theorem v69_at (g : Fin 16) (r : Fin 16384) :
    (val_main_v69 (F := Ideal) x0 x1 x2 x5 : FVec Ideal S16x16384 .f32) (ix2 g r) = gate (eX x0) (eM x1) (eW x2) (eBG x5) r g := by
  pointwise [val_main_v69]
  exact v52_at x0 x1 x2 x5 r g

end Cert.MlProjRefIdeal.Value

end
-- ==== Proof.MlProjVal.lean ====
module

public import proofs.«01_k».proof.Proof.Gen.MlProjIdeal.Frame
public import proofs.«01_k».proof.Proof.MlProjKer
public import Idealize.ShloMosaic.Lib.Pipeline.ReadBack
public import Idealize.ShloMosaic.Lib.Pipeline.ValueKit
public import Idealize.ShloMosaic.Lib.Claim

@[expose] public section

set_option maxRecDepth 16384

noncomputable section

/-! The six output arrays of the matrix memory's projection kernel. -/

namespace Cert.MlProjIdeal.Value

open Cert.MlProjIdeal Cert.MlProjIdeal.Gen Idealize.ShloMosaic Idealize.ShloMosaic.TcCoe Idealize.SL.Sem
open Cert.MlProjSpec
open Cert.FfnSpec (seqOf)

variable (m : (ℓ : Loc nD τ sig) → Buf (Elt Ideal) ℓ) (ρ : Dev nD → PrngReg)

/-- The arguments by their entries. -/
def aX (c : Dev nD) (r : Fin 16384) (k : Fin 1024) : EReal := (m ((c : Thread nD τ).loc main_arg0) : FVec Ideal S16384x1024 .f32) (ix2 r k)
def aM (c : Dev nD) (s : Fin 8) (j : Fin 6) (k : Fin 1024) : EReal := (m ((c : Thread nD τ).loc main_arg1) : FVec Ideal S8x6x1024 .f32) (ix3 s j k)
def aW (c : Dev nD) (k : Fin 1024) (n : Fin 3088) : EReal := (m ((c : Thread nD τ).loc main_arg2) : FVec Ideal S1x1024x3088 .f32) (ix3 0 k n)
def aCW (c : Dev nD) (j : Fin 3) (n : Fin 1024) : EReal := (m ((c : Thread nD τ).loc main_arg3) : FVec Ideal S1x3x1024 .f32) (ix3 0 j n)
def aCB (c : Dev nD) (n : Fin 1024) : EReal := (m ((c : Thread nD τ).loc main_arg4) : FVec Ideal S1x1024 .f32) (ix2 0 n)
def aBG (c : Dev nD) (g : Fin 16) : EReal := (m ((c : Thread nD τ).loc main_arg5) : FVec Ideal S1x16 .f32) (ix2 0 g)

/-- The windows' block indices at a point, and its grid coordinate. -/
theorem idx : ∀ t : Fin cfg0.N, win0_0.index t = ![32 * t.val - 1, 0] ∧ win0_1.index t = ![t.val, 0]
    ∧ win0_2.index t = ![min (32 * t.val + 32) 1023, 0] ∧ win0_3.index t = ![t.val / 8 + 1, 0, 0]
    ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![0, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![0, t.val] ∧ (grid0.coords t 0).val = t.val :=
  (by decide +kernel : ∀ t : Fin grid0.N, _)

theorem lt32 (t : Fin cfg0.N) : t.val < 32 := lt_of_lt_of_eq t.isLt N_0

theorem coord (t : Fin cfg0.N) : (grid0.coords t 0).val = t.val := (idx t).2.2.2.2.2.2.2.2.2.2.2.2.2.2.2.2.2

/-! The blocks of a point. -/

theorem blk0 (c : Dev nD) (t : Fin cfg0.N) (p : Fin 16) (k : Fin 1024) :
    (iblk m c 0 t : FVec Ideal S16x1024 .f32) (ix2 p k) = aX m c ⟨(32 * t.val - 1) * 16 + p.val, by have := lt32 t; omega⟩ k := by
  have ht := lt32 t
  unfold aX
  blk_point [iblk, V, idx t]

theorem blk1 (c : Dev nD) (t : Fin cfg0.N) (p : Fin 512) (k : Fin 1024) :
    (iblk m c 1 t : FVec Ideal S512x1024 .f32) (ix2 p k) = aX m c ⟨t.val * 512 + p.val, by have := lt32 t; omega⟩ k := by
  have ht := lt32 t
  unfold aX
  blk_point [iblk, V, idx t]

theorem blk2 (c : Dev nD) (t : Fin cfg0.N) (p : Fin 16) (k : Fin 1024) :
    (iblk m c 2 t : FVec Ideal S16x1024 .f32) (ix2 p k) = aX m c ⟨min (32 * t.val + 32) 1023 * 16 + p.val, by have := lt32 t; omega⟩ k := by
  have ht := lt32 t
  unfold aX
  blk_point [iblk, V, idx t]

theorem blk3 (c : Dev nD) (t : Fin cfg0.N) (j : Fin 6) (k : Fin 1024) :
    (iblk m c 3 t : FVec Ideal S1x6x1024 .f32) (ix3 0 j k) = aM m c ⟨1 + t.val / 8, by have := lt32 t; omega⟩ j k := by
  have ht := lt32 t
  unfold aM
  blk_point [iblk, V, idx t]

theorem blk4 (c : Dev nD) (t : Fin cfg0.N) (k : Fin 1024) (n : Fin 3072) :
    (iblk m c 4 t : FVec Ideal S1024x3072 .bf16) (ix2 k n) = aW m c k ⟨n.val, by omega⟩ := by
  have ht := lt32 t
  unfold aW
  blk_point [iblk, V, idx t]

theorem blk5 (c : Dev nD) (t : Fin cfg0.N) (k : Fin 1024) (g : Fin 16) :
    (iblk m c 5 t : FVec Ideal S1024x16 .f32) (ix2 k g) = aW m c k ⟨3072 + g.val, by omega⟩ := by
  have ht := lt32 t
  unfold aW
  blk_point [iblk, V, idx t]

theorem blk6 (c : Dev nD) (t : Fin cfg0.N) (g : Fin 16) (k : Fin 1024) :
    (iblk m c 6 t : FVec Ideal S16x1024 .f32) (ix2 g k) = aW m c k ⟨3072 + g.val, by omega⟩ := by
  have ht := lt32 t
  unfold aW
  blk_point [iblk, V, idx t]

theorem blk7 (c : Dev nD) (t : Fin cfg0.N) (a : Fin 3) (n : Fin 1024) :
    (iblk m c 7 t : FVec Ideal S3x1024 .f32) (ix2 a n) = aCW m c a n := by
  have ht := lt32 t
  unfold aCW
  blk_point [iblk, V, idx t]

theorem blk8 (c : Dev nD) (t : Fin cfg0.N) (n : Fin 1024) :
    (iblk m c 8 t : FVec Ideal S1x1024 .f32) (ix2 0 n) = aCB m c n := by
  have ht := lt32 t
  unfold aCB
  blk_point [iblk, V, idx t]

theorem blk9 (c : Dev nD) (t : Fin cfg0.N) (g : Fin 16) :
    (iblk m c 9 t : FVec Ideal S1x16 .f32) (ix2 0 g) = aBG m c g := by
  have ht := lt32 t
  unfold aBG
  blk_point [iblk, V, idx t]

theorem blk10 (c : Dev nD) (t : Fin cfg0.N) (g : Fin 16) :
    (iblk m c 10 t : FVec Ideal S16x1 .f32) (ix2 g 0) = aBG m c g := by
  have ht := lt32 t
  unfold aBG
  blk_point [iblk, V, idx t]

/-- A row of a point's output block. -/
def rowOf (t : ℕ) (h : t < 32) (y : Fin 512) : Fin 16384 := ⟨t * 512 + y.val, by omega⟩

/-- The shift and the scale a point reads. -/
def sh (c : Dev nD) (t : Fin cfg0.N) : FVec Ideal S1x1x1024 .f32 :=
  View.ld (iblk m c 3 t) (Rect.unit ![0, 0, 0] ![1, 1, 1024] inb_S1x6x1024_S1x1x1024_0_0_0)
def sc (c : Dev nD) (t : Fin cfg0.N) : FVec Ideal S1x1x1024 .f32 :=
  View.ld (iblk m c 3 t) (Rect.unit ![0, 1, 0] ![1, 1, 1024] inb_S1x6x1024_S1x1x1024_0_1_0)

theorem sh_at (c : Dev nD) (t : Fin cfg0.N) (k : Fin 1024) (r : Fin 16384) (h : r.val / 4096 = t.val / 8) :
    sh m c t (ix3 0 0 k) = aM m c (seqOf r.val r.isLt) 0 k := by
  unfold sh
  pointwise
  rw [blk3]
  congr 1
  apply Fin.ext
  show 1 + t.val / 8 = 1 + r.val / 4096
  omega

theorem sc_at (c : Dev nD) (t : Fin cfg0.N) (k : Fin 1024) (r : Fin 16384) (h : r.val / 4096 = t.val / 8) :
    sc m c t (ix3 0 0 k) = aM m c (seqOf r.val r.isLt) 1 k := by
  unfold sc
  pointwise
  rw [blk3]
  congr 1
  apply Fin.ext
  show 1 + t.val / 8 = 1 + r.val / 4096
  omega

/-- The modulated rows of a point: its own and sixteen on each side. -/
def held (c : Dev nD) (t : Fin cfg0.N) : FVec Ideal S544x1024 .bf16 := k0_pay4 (F := Ideal) (sh m c t) (sc m c t) (iblk m c 0 t) (iblk m c 1 t) (iblk m c 2 t)

theorem held_at (c : Dev nD) (t : Fin cfg0.N) (p : Fin 544) (r : Fin 16384) (k : Fin 1024) (hr : r.val + 16 = t.val * 512 + p.val)
    (hs : r.val / 4096 = t.val / 8) : held m c t (ix2 p k) = modul (aX m c) (aM m c) r k := by
  have ht := lt32 t
  have hp := p.isLt
  unfold held
  rw [pay4_at, sh_at m c t k r hs, sc_at m c t k r hs]
  unfold modul
  congr 2
  by_cases h1 : p.val < 16
  · rw [dif_pos h1, blk0]
    congr 1
    apply Fin.ext
    dsimp only
    omega
  · rw [dif_neg h1]
    by_cases h2 : p.val - 16 < 512
    · rw [dif_pos h2, blk1]
      congr 1
      apply Fin.ext
      dsimp only
      omega
    · rw [dif_neg h2, blk2]
      congr 1
      apply Fin.ext
      dsimp only
      omega

/-- A held row times a column of a part of the weights. -/
theorem held_dot (c : Dev nD) (t : Fin cfg0.N) (p : Fin 544) (r : Fin 16384) (hr : r.val + 16 = t.val * 512 + p.val)
    (hs : r.val / 4096 = t.val / 8) (w : FVec Ideal S1024x1024 .bf16) (n : Fin 1024) (o : Fin 3088) (hw : ∀ k, w (ix2 k n) = aW m c k o) :
    ∑ k : Fin 1024, held m c t (ix2 p k) * w (ix2 k n) = proj (aX m c) (aM m c) (fun k => aW m c k o) r := by
  unfold proj
  refine Finset.sum_congr rfl fun k _ => ?_
  rw [held_at m c t p r k hr hs, hw k]

/-- The three parts of the weights that a point reads. -/
def wqk (c : Dev nD) (t : Fin cfg0.N) : FVec Ideal S1024x1024 .bf16 := View.ld (iblk m c 4 t) (Rect.unit ![0, 0] ![1024, 1024] inb_S1024x3072_S1024x1024_0_0)
def wv (c : Dev nD) (t : Fin cfg0.N) : FVec Ideal S1024x1024 .bf16 := View.ld (iblk m c 4 t) (Rect.unit ![0, 1024] ![1024, 1024] inb_S1024x3072_S1024x1024_0_1024)
def wo (c : Dev nD) (t : Fin cfg0.N) : FVec Ideal S1024x1024 .bf16 := View.ld (iblk m c 4 t) (Rect.unit ![0, 2048] ![1024, 1024] inb_S1024x3072_S1024x1024_0_2048)

theorem wqk_at (c : Dev nD) (t : Fin cfg0.N) (k n : Fin 1024) : wqk m c t (ix2 k n) = aW m c k ⟨n.val, by omega⟩ := by
  unfold wqk
  pointwise
  refine (blk4 m c t k _).trans (congrArg (aW m c k) (Fin.ext ?_))
  rfl

theorem wv_at (c : Dev nD) (t : Fin cfg0.N) (k n : Fin 1024) : wv m c t (ix2 k n) = aW m c k ⟨1024 + n.val, by omega⟩ := by
  unfold wv
  pointwise
  exact blk4 m c t k _

theorem wo_at (c : Dev nD) (t : Fin cfg0.N) (k n : Fin 1024) : wo m c t (ix2 k n) = aW m c k ⟨2048 + n.val, by omega⟩ := by
  unfold wo
  pointwise
  exact blk4 m c t k _

/-- The projection of a point's held rows, and the convolution of it. -/
def upV (c : Dev nD) (t : Fin cfg0.N) : FVec Ideal S544x1024 .f32 :=
  k0_pay5 (F := Ideal) (sh m c t) (sc m c t) (iblk m c 0 t) (iblk m c 1 t) (iblk m c 2 t) (wqk m c t)

/-- The rows from an offset of the projection, and a row of the taps. -/
def rows (c : Dev nD) (t : Fin cfg0.N) (o : Fin 2 → ℕ) (h : ∀ a, o a + S512x1024.size a ≤ S544x1024.size a) : FVec Ideal S512x1024 .f32 :=
  View.ld (Val := Elt Ideal) (e' := EltTy.f32) (upV m c t) (Rect.unit (s := S544x1024) o S512x1024.size h)
def tap (c : Dev nD) (t : Fin cfg0.N) (o : Fin 2 → ℕ) (h : ∀ a, o a + S1x1024.size a ≤ S3x1024.size a) : FVec Ideal S1x1024 .f32 :=
  View.ld (Val := Elt Ideal) (e' := EltTy.f32) (iblk m c 7 t) (Rect.unit (s := S3x1024) o S1x1024.size h)

def convV (c : Dev nD) (t : Fin cfg0.N) : FVec Ideal S512x1024 .f32 :=
  k0_pay9 (F := Ideal) 4096#32 (k0_pay6 (grid0.coords t)) (k0_pay7 (grid0.coords t)) (k0_pay8 (grid0.coords t)) 0#32
    (rows m c t ![15, 0] inb_S544x1024_S512x1024_15_0)
    (rows m c t ![16, 0] inb_S544x1024_S512x1024_16_0)
    (rows m c t ![17, 0] inb_S544x1024_S512x1024_17_0)
    (tap m c t ![0, 0] inb_S3x1024_S1x1024_0_0)
    (tap m c t ![1, 0] inb_S3x1024_S1x1024_1_0)
    (tap m c t ![2, 0] inb_S3x1024_S1x1024_2_0) (iblk m c 8 t)

theorem upV_at (c : Dev nD) (t : Fin cfg0.N) (n : Fin 1024) (p : Fin 544) (q : Fin 16384) (hq : q.val + 16 = t.val * 512 + p.val)
    (hs : q.val / 4096 = t.val / 8) : upV m c t (ix2 p n) = proj (aX m c) (aM m c) (fun k => aW m c k ⟨n.val, by omega⟩) q := by
  unfold upV
  rw [pay5_at]
  exact held_dot m c t p q hq hs (wqk m c t) n ⟨n.val, by omega⟩ fun k => wqk_at m c t k n

theorem convV_at (c : Dev nD) (t : Fin cfg0.N) (y : Fin 512) (n : Fin 1024) :
    convV m c t (ix2 y n) = conv (proj (aX m c) (aM m c) fun k => aW m c k ⟨n.val, by omega⟩) (fun a => aCW m c a n) (aCB m c n) (rowOf t.val (lt32 t) y) := by
  unfold convV
  refine conv_at (grid0.coords t) _ _ _ _ _ _ _ y n _ (fun p => upV m c t (ix2 p n)) (fun p q h1 h2 => upV_at m c t n p q ?_ ?_) ?_ ?_ ?_
    (fun a => aCW m c a n) ?_ ?_ ?_ _ (blk8 m c t n) _ ?_
  · rw [coord] at h1; exact h1
  · rw [coord] at h2; exact h2
  · pointwise [rows]
  · pointwise [rows]
  · pointwise [rows]
  · pointwise [tap]
    exact blk7 m c t 0 n
  · pointwise [tap]
    exact blk7 m c t 1 n
  · pointwise [tap]
    exact blk7 m c t 2 n
  · rw [coord]; rfl

/-- The six results, by their entries. -/
def resQ (c : Dev nD) (z : S16384x512.Idx) : EReal :=
  qk (aX m c) (aM m c) (aW m c) (aCW m c) (aCB m c) (z 0) ⟨(z 1).val, lt_of_lt_of_le (z 1).isLt (by decide)⟩
def resK (c : Dev nD) (z : S16384x512.Idx) : EReal :=
  qk (aX m c) (aM m c) (aW m c) (aCW m c) (aCB m c) (z 0) ⟨512 + (z 1).val, Nat.add_lt_add_left (show (z 1).val < 512 from (z 1).isLt) 512⟩ * Ideal.ofBits .f32 0x3DB504F3#32
def resV (c : Dev nD) (z : S16384x1024.Idx) : EReal :=
  proj (aX m c) (aM m c) (fun k => aW m c k (part 1024 (by omega) (z 1))) (z 0)
def resO (c : Dev nD) (z : S16384x1024.Idx) : EReal :=
  logistic (proj (aX m c) (aM m c) (fun k => aW m c k (part 2048 (by omega) (z 1))) (z 0))
def resG (c : Dev nD) (z : S16384x16.Idx) : EReal := gate (aX m c) (aM m c) (aW m c) (aBG m c) (z 0) (z 1)
def resT (c : Dev nD) (z : S16x16384.Idx) : EReal := gate (aX m c) (aM m c) (aW m c) (aBG m c) (z 1) (z 0)

theorem finalQ (c : Dev nD) : (dats m 0 c).arrAt 11 (cfgs 0).N = resQ m c := by
  refine (dats m 0 c).arrAt_eq_of_covers 11 _ (by decide +kernel) fun t hf y => ?_
  blk_simp
  rw [after0_11]
  unfold outsAt0
  frame_out
  simp (disch := decide) only [↓ View.readCov_skip, ↓ View.readCov_cons_toLoadRect, ↓ View.readCov_fill]
  idx_vars y
  refine (pay11_at (convV m c t) y0 y1).trans ?_
  rw [convV_at]
  show resQ m c (ix2 (rowOf t.val (lt32 t) y0) y1) = _
  congr 1
  blk_ext [idx t]
  rfl

theorem finalK (c : Dev nD) : (dats m 0 c).arrAt 12 (cfgs 0).N = resK m c := by
  refine (dats m 0 c).arrAt_eq_of_covers 12 _ (by decide +kernel) fun t hf y => ?_
  blk_simp
  rw [after0_12]
  unfold outsAt0
  frame_out
  simp (disch := decide) only [↓ View.readCov_skip, ↓ View.readCov_cons_toLoadRect, ↓ View.readCov_fill]
  idx_vars y
  refine (pay12_at (convV m c t) y0 y1).trans ?_
  rw [convV_at]
  show resK m c (ix2 (rowOf t.val (lt32 t) y0) y1) = _
  congr 1
  blk_ext [idx t]
  rfl

theorem finalV (c : Dev nD) : (dats m 0 c).arrAt 13 (cfgs 0).N = resV m c := by
  refine (dats m 0 c).arrAt_eq_of_covers 13 _ (by decide +kernel) fun t hf y => ?_
  have ht := lt32 t
  blk_simp
  rw [after0_13]
  unfold outsAt0
  frame_out
  idx_vars y
  refine (pay14_at (held m c t) (wv m c t) y0 y1).trans ?_
  rw [held_dot m c t ⟨16 + y0.val, by omega⟩ (rowOf t.val (lt32 t) y0) (show t.val * 512 + y0.val + 16 = t.val * 512 + (16 + y0.val) by omega)
    (show (t.val * 512 + y0.val) / 4096 = t.val / 8 by omega) (wv m c t) y1 ⟨1024 + y1.val, by omega⟩ fun k => wv_at m c t k y1]
  show resV m c (ix2 (rowOf t.val (lt32 t) y0) y1) = _
  congr 1
  blk_ext [idx t]
  rfl

theorem finalO (c : Dev nD) : (dats m 0 c).arrAt 14 (cfgs 0).N = resO m c := by
  refine (dats m 0 c).arrAt_eq_of_covers 14 _ (by decide +kernel) fun t hf y => ?_
  have ht := lt32 t
  blk_simp
  rw [after0_14]
  unfold outsAt0
  frame_out
  idx_vars y
  refine (pay15_at (held m c t) (wo m c t) y0 y1).trans ?_
  rw [held_dot m c t ⟨16 + y0.val, by omega⟩ (rowOf t.val (lt32 t) y0) (show t.val * 512 + y0.val + 16 = t.val * 512 + (16 + y0.val) by omega)
    (show (t.val * 512 + y0.val) / 4096 = t.val / 8 by omega) (wo m c t) y1 ⟨2048 + y1.val, by omega⟩ fun k => wo_at m c t k y1]
  show resO m c (ix2 (rowOf t.val (lt32 t) y0) y1) = _
  congr 1
  blk_ext [idx t]
  rfl

/-! The gates: finite factors are needed, so that what a factor lacks of itself is zero. -/

/-- The entries that the gates read of the modulated rows and of the weights are finite. -/
def Finite (c : Dev nD) : Prop :=
  (∀ r k, ∃ a : ℝ, modul (aX m c) (aM m c) r k = (a : EReal)) ∧ ∀ k (g : Fin 16), ∃ a : ℝ, aW m c k ⟨3072 + g.val, by omega⟩ = (a : EReal)

/-- A point's own rows. -/
def own (c : Dev nD) (t : Fin cfg0.N) : FVec Ideal S512x1024 .f32 := iblk m c 1 t

theorem own_row (c : Dev nD) (t : Fin cfg0.N) (y : Fin 512) (k : Fin 1024) :
    own m c t (ix2 y k) * (1 + sc m c t (ix3 0 0 k)) + sh m c t (ix3 0 0 k)
      = modul (aX m c) (aM m c) (rowOf t.val (lt32 t) y) k := by
  have ht := lt32 t
  have hs : (rowOf t.val (lt32 t) y).val / 4096 = t.val / 8 := show (t.val * 512 + y.val) / 4096 = t.val / 8 by omega
  rw [sh_at m c t k _ hs, sc_at m c t k _ hs]
  unfold own
  rw [blk1]
  rfl

theorem finalG (c : Dev nD) (hfin : Finite m c) : (dats m 0 c).arrAt 15 (cfgs 0).N = resG m c := by
  refine (dats m 0 c).arrAt_eq_of_covers 15 _ (by decide +kernel) fun t hf y => ?_
  blk_simp
  rw [after0_15]
  unfold outsAt0
  frame_out
  idx_vars y
  refine (pay17_at (sh m c t) (sc m c t) (own m c t) (iblk m c 5 t) (iblk m c 9 t) (fun y k => modul (aX m c) (aM m c) (rowOf t.val (lt32 t) y) k)
    (fun k g => aW m c k ⟨3072 + g.val, by omega⟩) (own_row m c t) (blk5 m c t) (fun y k => hfin.1 _ k) hfin.2 y0 y1).trans ?_
  rw [blk9]
  show resG m c (ix2 (rowOf t.val (lt32 t) y0) y1) = _
  congr 1
  blk_ext [idx t]
  rfl

theorem finalT (c : Dev nD) (hfin : Finite m c) : (dats m 0 c).arrAt 16 (cfgs 0).N = resT m c := by
  refine (dats m 0 c).arrAt_eq_of_covers 16 _ (by decide +kernel) fun t hf y => ?_
  blk_simp
  rw [after0_16]
  unfold outsAt0
  frame_out
  idx_vars y
  refine (pay1_at (sh m c t) (sc m c t) (own m c t) (iblk m c 6 t) (iblk m c 10 t) (fun y k => modul (aX m c) (aM m c) (rowOf t.val (lt32 t) y) k)
    (fun k g => aW m c k ⟨3072 + g.val, by omega⟩) (own_row m c t) (fun k g => blk6 m c t g k) (fun y k => hfin.1 _ k) hfin.2 y0 y1).trans ?_
  rw [blk10]
  show resT m c (ix2 y0 (rowOf t.val (lt32 t) y1)) = _
  congr 1
  blk_ext [idx t]
  rfl

/-- A run of the kernel leaves the six results in its output arrays. -/
theorem run (hfin : ∀ c, Finite m c) : θ_run defs (onTc (τ := τ) (main (F := Ideal))) ⟨m, fun _ => 0, ρ⟩ fun r => ∀ c : Dev nD,
    r.2.mem ((c.tc : Thread nD τ).loc main_v12_0) = resQ m c
    ∧ r.2.mem ((c.tc : Thread nD τ).loc main_v12_1) = resK m c
    ∧ r.2.mem ((c.tc : Thread nD τ).loc main_v12_2) = resV m c
    ∧ r.2.mem ((c.tc : Thread nD τ).loc main_v12_3) = resO m c
    ∧ r.2.mem ((c.tc : Thread nD τ).loc main_v12_4) = resG m c
    ∧ r.2.mem ((c.tc : Thread nD τ).loc main_v12_5) = resT m c :=
  (θ_run defs _ _).mono (fun r h c => ⟨((h c).1 11).trans (finalQ m c), ((h c).1 12).trans (finalK m c), ((h c).1 13).trans (finalV m c),
    ((h c).1 14).trans (finalO m c), ((h c).1 15).trans (finalG m c (hfin c)), ((h c).1 16).trans (finalT m c (hfin c))⟩) (run_main m ρ)

end Cert.MlProjIdeal.Value

end
-- ==== Proof.MlProjAlg.lean ====
module

public import proofs.«01_k».proof.Defs
public import proofs.«01_k».proof.Proof.Gen.Pre_finite_proj
public import proofs.«01_k».proof.Proof.Gen.MlProjRefIdeal
public import proofs.«01_k».proof.Proof.Gen.MlProjRefIdeal.Run
public import proofs.«01_k».proof.Proof.AttnPre
public import proofs.«01_k».proof.Proof.MlProjRef
public import proofs.«01_k».proof.Proof.MlProjVal
public import Idealize.ShloMosaic.Adequacy

@[expose] public section

set_option maxRecDepth 16384

noncomputable section

/-! The claims of the matrix memory's projection: the reference's frame, and kernel and reference leave the same results. -/

namespace Cert.MlProjPre

open Idealize.ShloMosaic Cert.Pre_finite_proj

variable [Facts]

/-- Under the precondition the rows, the table's shifts and scales of the four sequences, and the gates' weights are reals. -/
theorem reals (x0 : FVec Ideal S16384x1024 .f32) (x1 : FVec Ideal S8x6x1024 .f32) (x2 : FVec Ideal S1x1024x3088 .f32)
    (x3 : FVec Ideal S1x3x1024 .f32) (x4 : FVec Ideal S1x1024 .f32) (x5 : FVec Ideal S1x16 .f32)
    (h : fn (F := Ideal) x0 x1 x2 x3 x4 x5 = fun _ => 1#1) :
    (∀ z, ∃ r : ℝ, x0 z = (r : EReal)) ∧ (∀ (s : Fin 4) (j : Fin 2) (k : Fin 1024), ∃ r : ℝ, x1 (ix3 ⟨1 + s.val, by omega⟩ ⟨j.val, by omega⟩ k) = (r : EReal))
      ∧ ∀ (k : Fin 1024) (g : Fin 16), ∃ r : ℝ, x2 (ix3 0 k ⟨3072 + g.val, by omega⟩) = (r : EReal) := by
  have h := congrFun h (fun a => a.elim0)
  dsimp only [fn, andi] at h
  simp only [Cert.AttnPre.andi_one] at h
  obtain ⟨⟨h0, h1⟩, h2⟩ := h
  have g1 := Cert.AttnPre.reals_of _ _ _ _ _ h1
  have g2 := Cert.AttnPre.reals_of _ _ _ _ _ h2
  refine ⟨Cert.AttnPre.reals_of x0 _ _ _ _ h0, fun s j k => ?_, fun k g => ?_⟩
  · obtain ⟨r, e⟩ := g1 (ix3 s j k)
    refine ⟨r, Eq.trans ?_ e⟩
    pointwise
  · obtain ⟨r, e⟩ := g2 (ix2 k g)
    refine ⟨r, Eq.trans ?_ e⟩
    pointwise

end Cert.MlProjPre

namespace Cert.Proof

open Idealize.ShloMosaic Idealize.ShloMosaic.StableHlo Idealize.SL.Sem
open Cert.MlProjSpec
open Cert.FfnSpec (seqOf)

/-- The projection's reference leaves its arguments as they were and every counter at zero. -/
theorem frame_mlprojRef : Cert.quiescent_MlProjRefIdeal (hMlProjRefIdeal := Cert.MlProjRefIdeal.Gen.facts) := fun m ρ _ =>
  (θ_run _ _ _).mono (fun _ h => ⟨fun c => (h c).2.2.2.2.2.2, sem_eq_zero_of_no_sems (by decide) _⟩) (Cert.MlProjRefIdeal.Value.run m ρ)

/-- What the gates read is finite under the precondition. -/
theorem finite_of (m : (ℓ : Loc Cert.MlProjIdeal.nD Cert.MlProjIdeal.τ Cert.MlProjIdeal.sig) → Buf (Elt Ideal) ℓ)
    (h : Cert.Pre_MlProjIdeal_finite_proj (hPre_finite_proj := Cert.Pre_finite_proj.Gen.facts) m) (c : Dev Cert.MlProjIdeal.nD) :
    Cert.MlProjIdeal.Value.Finite m c := by
  obtain ⟨h0, h1, h2⟩ := Cert.MlProjPre.reals _ _ _ _ _ _ (h c)
  refine ⟨fun r k => ?_, fun k g => h2 k g⟩
  have hr := r.isLt
  obtain ⟨x, ex⟩ := h0 (ix2 r k)
  obtain ⟨s, es⟩ := h1 ⟨r.val / 4096, by omega⟩ 1 k
  obtain ⟨t, et⟩ := h1 ⟨r.val / 4096, by omega⟩ 0 k
  refine ⟨x * (1 + s) + t, ?_⟩
  unfold modul
  have e0 : Cert.MlProjIdeal.Value.aX m c r k = (x : EReal) := ex
  have e1 : Cert.MlProjIdeal.Value.aM m c (seqOf r.val r.isLt) 1 k = (s : EReal) := es
  have e2 : Cert.MlProjIdeal.Value.aM m c (seqOf r.val r.isLt) 0 k = (t : EReal) := et
  rw [e0, e1, e2]
  push_cast
  rfl

/-- From equal arguments, finite where the gates read them, the projection's kernel and its reference end with equal results. -/
theorem algebraic_mlproj : Cert.algebraic_MlProjIdeal_MlProjRefIdeal_pre_finite_proj (hMlProjIdeal := Cert.MlProjIdeal.Gen.facts)
    (hMlProjRefIdeal := Cert.MlProjRefIdeal.Gen.facts) (hPre_finite_proj := Cert.Pre_finite_proj.Gen.facts) :=
  fun m ρ m' ρ' hp hag => ⟨fun c => Cert.MlProjIdeal.Value.resQ m c, fun c => Cert.MlProjIdeal.Value.resK m c, fun c => Cert.MlProjIdeal.Value.resV m c,
    fun c => Cert.MlProjIdeal.Value.resO m c, fun c => Cert.MlProjIdeal.Value.resG m c, fun c => Cert.MlProjIdeal.Value.resT m c,
    (θ_run _ _ _).mono (fun _ h c => ⟨(h.1 c).1, (h.1 c).2.1, (h.1 c).2.2.1, (h.1 c).2.2.2.1, (h.1 c).2.2.2.2.1, (h.1 c).2.2.2.2.2, h.2 c⟩)
      (θ_run_and (Cert.MlProjIdeal.Value.run m ρ (finite_of m hp)) (Cert.MlProjIdeal.Gen.unchanged m ρ)),
    (θ_run _ _ _).mono (fun _ h c => by
      obtain ⟨e0, e1, e2, e3, e4, e5⟩ := hag c
      have f0 : Cert.MlProjRefIdeal.Value.eX (m' ((c.tc : Thread Cert.MlProjRefIdeal.nD Cert.MlProjRefIdeal.τ).loc Cert.MlProjRefIdeal.main_arg0))
          = Cert.MlProjIdeal.Value.aX m c := funext fun r => funext fun k => congrFun e0 (ix2 r k)
      have f1 : Cert.MlProjRefIdeal.Value.eM (m' ((c.tc : Thread Cert.MlProjRefIdeal.nD Cert.MlProjRefIdeal.τ).loc Cert.MlProjRefIdeal.main_arg1))
          = Cert.MlProjIdeal.Value.aM m c := funext fun s => funext fun j => funext fun k => congrFun e1 (ix3 s j k)
      have f2 : Cert.MlProjRefIdeal.Value.eW (m' ((c.tc : Thread Cert.MlProjRefIdeal.nD Cert.MlProjRefIdeal.τ).loc Cert.MlProjRefIdeal.main_arg2))
          = Cert.MlProjIdeal.Value.aW m c := funext fun k => funext fun n => congrFun e2 (ix3 0 k n)
      have f3 : Cert.MlProjRefIdeal.Value.eCW (m' ((c.tc : Thread Cert.MlProjRefIdeal.nD Cert.MlProjRefIdeal.τ).loc Cert.MlProjRefIdeal.main_arg3))
          = Cert.MlProjIdeal.Value.aCW m c := funext fun j => funext fun n => congrFun e3 (ix3 0 j n)
      have f4 : Cert.MlProjRefIdeal.Value.eCB (m' ((c.tc : Thread Cert.MlProjRefIdeal.nD Cert.MlProjRefIdeal.τ).loc Cert.MlProjRefIdeal.main_arg4))
          = Cert.MlProjIdeal.Value.aCB m c := funext fun n => congrFun e4 (ix2 0 n)
      have f5 : Cert.MlProjRefIdeal.Value.eBG (m' ((c.tc : Thread Cert.MlProjRefIdeal.nD Cert.MlProjRefIdeal.τ).loc Cert.MlProjRefIdeal.main_arg5))
          = Cert.MlProjIdeal.Value.aBG m c := funext fun g => congrFun e5 (ix2 0 g)
      refine ⟨(h c).1.trans ((Cert.MlProjRefIdeal.Read.val_main_v54_eq m' c).trans ?_), (h c).2.1.trans ((Cert.MlProjRefIdeal.Read.val_main_v58_eq m' c).trans ?_),
        (h c).2.2.1.trans ((Cert.MlProjRefIdeal.Read.val_main_v60_eq _ _ _).trans ?_), (h c).2.2.2.1.trans ((Cert.MlProjRefIdeal.Read.val_main_v68_eq _ _ _).trans ?_),
        (h c).2.2.2.2.1.trans ((Cert.MlProjRefIdeal.Read.val_main_v52_eq _ _ _ _).trans ?_),
        (h c).2.2.2.2.2.1.trans ((Cert.MlProjRefIdeal.Read.val_main_v69_eq _ _ _ _).trans ?_), (h c).2.2.2.2.2.2⟩
      all_goals
        funext z
        idx_vars z
      · refine (Cert.MlProjRefIdeal.Value.v54_at _ _ _ _ _ z0 z1).trans ?_
        rw [f0, f1, f2, f3, f4]
        rfl
      · refine (Cert.MlProjRefIdeal.Value.v58_at _ _ _ _ _ z0 z1).trans ?_
        rw [f0, f1, f2, f3, f4]
        rfl
      · refine (Cert.MlProjRefIdeal.Value.v60_at _ _ _ z0 z1).trans ?_
        rw [f0, f1, f2]
        rfl
      · refine (Cert.MlProjRefIdeal.Value.v68_at _ _ _ z0 z1).trans ?_
        rw [f0, f1, f2]
        rfl
      · refine (Cert.MlProjRefIdeal.Value.v52_at _ _ _ _ z0 z1).trans ?_
        rw [f0, f1, f2, f5]
        rfl
      · refine (Cert.MlProjRefIdeal.Value.v69_at _ _ _ _ z0 z1).trans ?_
        rw [f0, f1, f2, f5]
        rfl) (Cert.MlProjRefIdeal.Value.run m' ρ')⟩

end Cert.Proof

end
-- ==== Proof.PFfnVal.lean ====
module

public import proofs.«01_k».proof.Proof.Gen.PFfnIdeal.Frame
public import proofs.«01_k».proof.Proof.FfnKer
public import Idealize.ShloMosaic.Lib.Pipeline.ReadBack
public import Idealize.ShloMosaic.Lib.Claim

@[expose] public section

set_option maxRecDepth 16384

noncomputable section

/-! The feed-forward kernel's output array on the context tokens: 32 sequences of 256 rows under one modulation. What a
    point's body computes is read in FfnKer; here are the masks, the blocks and the run. -/

namespace Cert.PFfnIdeal.Value

open Cert.PFfnIdeal Cert.PFfnIdeal.Gen Idealize.ShloMosaic Idealize.ShloMosaic.TcCoe Idealize.SL.Sem
open Cert.FfnSpec
open Cert.FfnIdeal.Value (tile tile_at Held part sum_part pos_eq num_eq ne_eq pay1_at pay2_at pay3_at)

/-- The place of a row in its sequence, as a point computes it. -/
theorem place_at (i : grid0.Coords) (y : Fin 512) :
    k0_pay4 i (ix2 y 0) = BitVec.ofNat 32 (((i 0).val * 512 + y.val) % 256) := by
  pointwise [k0_pay4]
  have hi : (i 0).val < 16 := (i 0).isLt
  rw [num_eq ⟨(i 0).val, by omega⟩ y]
  exact pos_eq 256 (by omega) rfl rfl ⟨(i 0).val * 512 + y.val, by omega⟩

theorem mask5_at (i : grid0.Coords) (y : Fin 512) :
    k0_pay5 i (ix2 y 0) = if ((i 0).val * 512 + y.val) % 256 = 0 then 0#1 else 1#1 := by
  pointwise [k0_pay5]
  rw [place_at]
  exact ne_eq _ 0 (by omega) (by omega)

theorem mask6_at (i : grid0.Coords) (y : Fin 512) :
    k0_pay6 i (ix2 y 0) = if ((i 0).val * 512 + y.val) % 256 = 255 then 0#1 else 1#1 := by
  pointwise [k0_pay6]
  rw [place_at]
  exact ne_eq _ 255 (by omega) (by omega)

variable (m : (ℓ : Loc nD τ sig) → Buf (Elt Ideal) ℓ) (ρ : Dev nD → PrngReg)

/-- The arguments by their entries. -/
def aX (c : Dev nD) (r : Fin 8192) (k : Fin 1024) : EReal := (m ((c : Thread nD τ).loc main_arg0) : FVec Ideal S8192x1024 .f32) (ix2 r k)
def aM (c : Dev nD) (s : Fin 8) (j : Fin 6) (k : Fin 1024) : EReal := (m ((c : Thread nD τ).loc main_arg1) : FVec Ideal S8x6x1024 .f32) (ix3 s j k)
def aU (c : Dev nD) (k : Fin 1024) (n : Fin 5632) : EReal := (m ((c : Thread nD τ).loc main_arg2) : FVec Ideal S1024x5632 .f32) (ix2 k n)
def aCW (c : Dev nD) (j : Fin 3) (n : Fin 5632) : EReal := (m ((c : Thread nD τ).loc main_arg3) : FVec Ideal S3x5632 .f32) (ix2 j n)
def aCB (c : Dev nD) (n : Fin 5632) : EReal := (m ((c : Thread nD τ).loc main_arg4) : FVec Ideal S5632 .f32) (ix1 n)
def aD (c : Dev nD) (n : Fin 2816) (k : Fin 1024) : EReal := (m ((c : Thread nD τ).loc main_arg5) : FVec Ideal S2816x1024 .f32) (ix2 n k)
def aG (c : Dev nD) (k : Fin 1024) : EReal := (m ((c : Thread nD τ).loc main_arg6) : FVec Ideal S1024 .f32) (ix1 k)
def aB (c : Dev nD) (k : Fin 1024) : EReal := (m ((c : Thread nD τ).loc main_arg7) : FVec Ideal S1024 .f32) (ix1 k)

/-- The modulation of a row: the table's first, whatever the row. -/
def rM (c : Dev nD) (r : Fin 8192) : Fin 6 → Fin 1024 → EReal := aM m c 0

/-- The rows are 32 sequences of 256 rows. -/
theorem seqs : Seqs 8192 256 := ⟨fun r h1 h2 => by omega, fun r h => by omega, fun r h => by omega⟩

/-- The windows' block indices at a point, and its first grid coordinate. -/
theorem idx : ∀ t : Fin cfg0.N, win0_0.index t = ![32 * (t.val / 11) - 1, 0] ∧ win0_1.index t = ![t.val / 11, 0]
    ∧ win0_2.index t = ![min (32 * (t.val / 11) + 32) 511, 0] ∧ win0_3.index t = ![0, 0, 0]
    ∧ win0_4.index t = ![0, t.val % 11] ∧ win0_5.index t = ![0, 11 + t.val % 11] ∧ win0_6.index t = ![0, t.val % 11]
    ∧ win0_7.index t = ![0, 11 + t.val % 11] ∧ win0_8.index t = ![0, t.val % 11] ∧ win0_9.index t = ![0, 11 + t.val % 11]
    ∧ win0_10.index t = ![t.val % 11, 0] ∧ win0_11.index t = ![0, 0] ∧ win0_12.index t = ![0, 0]
    ∧ win0_13.index t = ![t.val / 11, 0] ∧ (grid0.coords t 0).val = t.val / 11 :=
  (by decide +kernel : ∀ t : Fin grid0.N, _)

theorem ltN (t : Fin cfg0.N) : t.val < 176 := lt_of_lt_of_eq t.isLt N_0

/-! The blocks of a point. -/

theorem blk0 (c : Dev nD) (t : Fin cfg0.N) (p : Fin 16) (k : Fin 1024) :
    (iblk m c 0 t : FVec Ideal S16x1024 .f32) (ix2 p k) = aX m c ⟨(32 * (t.val / 11) - 1) * 16 + p.val, by have := ltN t; omega⟩ k := by
  have ht := ltN t
  unfold aX
  blk_point [iblk, V, idx t]

theorem blk1 (c : Dev nD) (t : Fin cfg0.N) (p : Fin 512) (k : Fin 1024) :
    (iblk m c 1 t : FVec Ideal S512x1024 .f32) (ix2 p k) = aX m c ⟨t.val / 11 * 512 + p.val, by have := ltN t; omega⟩ k := by
  have ht := ltN t
  unfold aX
  blk_point [iblk, V, idx t]

theorem blk2 (c : Dev nD) (t : Fin cfg0.N) (p : Fin 16) (k : Fin 1024) :
    (iblk m c 2 t : FVec Ideal S16x1024 .f32) (ix2 p k) = aX m c ⟨min (32 * (t.val / 11) + 32) 511 * 16 + p.val, by have := ltN t; omega⟩ k := by
  have ht := ltN t
  unfold aX
  blk_point [iblk, V, idx t]

theorem blk3 (c : Dev nD) (t : Fin cfg0.N) (j : Fin 6) (k : Fin 1024) :
    (iblk m c 3 t : FVec Ideal S1x6x1024 .f32) (ix3 0 j k) = aM m c 0 j k := by
  have ht := ltN t
  unfold aM
  blk_point [iblk, V, idx t]

theorem blk4 (c : Dev nD) (t : Fin cfg0.N) (k : Fin 1024) (x : Fin 256) :
    (iblk m c 4 t : FVec Ideal S1024x256 .bf16) (ix2 k x) = aU m c k ⟨t.val % 11 * 256 + x.val, by omega⟩ := by
  have ht := ltN t
  unfold aU
  blk_point [iblk, V, idx t]

theorem blk5 (c : Dev nD) (t : Fin cfg0.N) (k : Fin 1024) (x : Fin 256) :
    (iblk m c 5 t : FVec Ideal S1024x256 .bf16) (ix2 k x) = aU m c k ⟨2816 + (t.val % 11 * 256 + x.val), by omega⟩ := by
  have ht := ltN t
  unfold aU
  blk_point [iblk, V, idx t]

theorem blk6 (c : Dev nD) (t : Fin cfg0.N) (a : Fin 3) (x : Fin 256) :
    (iblk m c 6 t : FVec Ideal S3x256 .f32) (ix2 a x) = aCW m c a ⟨t.val % 11 * 256 + x.val, by omega⟩ := by
  have ht := ltN t
  unfold aCW
  blk_point [iblk, V, idx t]

theorem blk7 (c : Dev nD) (t : Fin cfg0.N) (a : Fin 3) (x : Fin 256) :
    (iblk m c 7 t : FVec Ideal S3x256 .f32) (ix2 a x) = aCW m c a ⟨2816 + (t.val % 11 * 256 + x.val), by omega⟩ := by
  have ht := ltN t
  unfold aCW
  blk_point [iblk, V, idx t]

theorem blk8 (c : Dev nD) (t : Fin cfg0.N) (x : Fin 256) :
    (iblk m c 8 t : FVec Ideal S1x256 .f32) (ix2 0 x) = aCB m c ⟨t.val % 11 * 256 + x.val, by omega⟩ := by
  have ht := ltN t
  unfold aCB
  blk_point [iblk, V, idx t]

theorem blk9 (c : Dev nD) (t : Fin cfg0.N) (x : Fin 256) :
    (iblk m c 9 t : FVec Ideal S1x256 .f32) (ix2 0 x) = aCB m c ⟨2816 + (t.val % 11 * 256 + x.val), by omega⟩ := by
  have ht := ltN t
  unfold aCB
  blk_point [iblk, V, idx t]

theorem blk10 (c : Dev nD) (t : Fin cfg0.N) (x : Fin 256) (d : Fin 1024) :
    (iblk m c 10 t : FVec Ideal S256x1024 .bf16) (ix2 x d) = aD m c ⟨t.val % 11 * 256 + x.val, by omega⟩ d := by
  have ht := ltN t
  unfold aD
  blk_point [iblk, V, idx t]

theorem blk11 (c : Dev nD) (t : Fin cfg0.N) (d : Fin 1024) :
    (iblk m c 11 t : FVec Ideal S1x1024 .f32) (ix2 0 d) = aG m c d := by
  have ht := ltN t
  unfold aG
  blk_point [iblk, V, idx t]

theorem blk12 (c : Dev nD) (t : Fin cfg0.N) (d : Fin 1024) :
    (iblk m c 12 t : FVec Ideal S1x1024 .f32) (ix2 0 d) = aB m c d := by
  have ht := ltN t
  unfold aB
  blk_point [iblk, V, idx t]

/-- The rows held at a point, as its first stores build them. -/
def heldV (c : Dev nD) (t : Fin cfg0.N) : FVec Ideal S544x1024 .bf16 :=
  k0_pay2 (F := Ideal) (View.ld (iblk m c 3 t) (Rect.unit ![0, 3, 0] ![1, 1, 1024] inb_S1x6x1024_S1x1x1024_0_3_0))
    (View.ld (iblk m c 3 t) (Rect.unit ![0, 4, 0] ![1, 1, 1024] inb_S1x6x1024_S1x1x1024_0_4_0)) (iblk m c 0 t) (iblk m c 1 t) (iblk m c 2 t)

theorem heldV_held (c : Dev nD) (t : Fin cfg0.N) : Held 256 (aX m c) (rM m c) (grid0.coords t 0).val (heldV m c t) := by
  rintro p r k hr ⟨u, hu, hs⟩
  have ht := ltN t
  have hi : (grid0.coords t 0).val = t.val / 11 := (idx t).2.2.2.2.2.2.2.2.2.2.2.2.2.2
  rw [hi] at hr hs
  have hp := p.isLt
  unfold heldV
  refine (pay2_at _ _ (iblk m c 0 t) (iblk m c 1 t) (iblk m c 2 t) p k).trans ?_
  have e3 : (View.ld (Val := Elt Ideal) (iblk m c 3 t) (Rect.unit ![0, 3, 0] ![1, 1, 1024] inb_S1x6x1024_S1x1x1024_0_3_0) : FVec Ideal S1x1x1024 .f32) (ix3 0 0 k)
      = rM m c r 3 k := by
    pointwise
    rw [blk3]
    rfl
  have e4 : (View.ld (Val := Elt Ideal) (iblk m c 3 t) (Rect.unit ![0, 4, 0] ![1, 1, 1024] inb_S1x6x1024_S1x1x1024_0_4_0) : FVec Ideal S1x1x1024 .f32) (ix3 0 0 k)
      = rM m c r 4 k := by
    pointwise
    rw [blk3]
    rfl
  rw [e3, e4]
  unfold modul
  congr 2
  by_cases h1 : p.val < 16
  · rw [dif_pos h1, blk0]
    congr 1
    apply Fin.ext
    dsimp only
    omega
  · rw [dif_neg h1]
    by_cases h2 : p.val - 16 < 512
    · rw [dif_pos h2, blk1]
      congr 1
      apply Fin.ext
      dsimp only
      omega
    · rw [dif_neg h2, blk2]
      congr 1
      apply Fin.ext
      dsimp only
      omega

/-- A row of a point's output block. -/
def rowOf (t : ℕ) (y : Fin 512) (h : t < 176) : Fin 8192 := ⟨t / 11 * 512 + y.val, by omega⟩

/-- A point adds its column tile's part to the accumulator. -/
theorem tile_pt (c : Dev nD) (t : Fin cfg0.N) (h : FVec Ideal S544x1024 .bf16) (hh : Held 256 (aX m c) (rM m c) (grid0.coords t 0).val h)
    (acc : FVec Ideal S512x1024 .f32) (y : Fin 512) (d : Fin 1024) :
    tile (k0_pay5 (grid0.coords t)) (k0_pay6 (grid0.coords t)) h (iblk m c 4 t) (iblk m c 5 t) (iblk m c 6 t) (iblk m c 7 t) (iblk m c 8 t) (iblk m c 9 t) acc
        (iblk m c 10 t) (ix2 y d)
      = acc (ix2 y d) + part 256 (aX m c) (rM m c) (aU m c) (aCW m c) (aCB m c) (aD m c) (rowOf t.val y (ltN t)) ⟨t.val % 11, by omega⟩ d :=
  tile_at seqs (aX m c) (rM m c) (aU m c) (aCW m c) (aCB m c) (aD m c) (grid0.coords t 0).val h (iblk m c 4 t) (iblk m c 5 t) (iblk m c 6 t)
    (iblk m c 7 t) (iblk m c 8 t) (iblk m c 9 t) acc (iblk m c 10 t) hh ⟨t.val % 11, by omega⟩
    (blk4 m c t) (blk5 m c t) (blk6 m c t) (blk7 m c t) (blk8 m c t) (blk9 m c t) (blk10 m c t) _ y
    (by rw [(idx t).2.2.2.2.2.2.2.2.2.2.2.2.2.2]; rfl) _ _ (mask5_at _ y) (mask6_at _ y) d

/-- At the first point of a row tile the held rows are the ones just built. -/
theorem held_A (c : Dev nD) (t : Fin cfg0.N) (h0 : t.val % 11 = 0) (h1 : ¬ t.val % 11 = 10) :
    (outsAt0 m c t.val t.isLt).2.1 = heldV m c t := by
  rw [outsAt0_A m c t h0 h1]; frame_out
  rfl

theorem held_B (c : Dev nD) (t : Fin cfg0.N) (h0 : ¬ t.val % 11 = 0) :
    (outsAt0 m c t.val t.isLt).2.1 = (outsAt0 m c (t.val - 1) (by have := t.isLt; omega)).2.1 := by
  by_cases h1 : t.val % 11 = 10
  · rw [outsAt0_C m c t h0 h1]; frame_out
    rfl
  · rw [outsAt0_B m c t h0 h1]; frame_out
    rfl

theorem held_all (c : Dev nD) : ∀ (n : ℕ) (h : n < cfg0.N),
    Held 256 (aX m c) (rM m c) (grid0.coords ⟨n, h⟩ 0).val (outsAt0 m c n h).2.1 := by
  intro n
  induction n with
  | zero =>
    intro h
    rw [held_A m c ⟨0, h⟩ rfl (by show ¬ 0 % 11 = 10; omega)]
    exact heldV_held m c ⟨0, h⟩
  | succ n ih =>
    intro h
    by_cases h0 : (n + 1) % 11 = 0
    · rw [held_A m c ⟨n + 1, h⟩ h0 (by show ¬ (n + 1) % 11 = 10; omega)]
      exact heldV_held m c ⟨n + 1, h⟩
    · rw [held_B m c ⟨n + 1, h⟩ h0]
      have e : ∀ t : Fin cfg0.N, (grid0.coords t 0).val = t.val / 11 := fun t => (idx t).2.2.2.2.2.2.2.2.2.2.2.2.2.2
      have e1 := e ⟨n + 1, h⟩
      have e2 := e ⟨n, by omega⟩
      dsimp only at e1 e2
      rw [e1, show (n + 1) / 11 = n / 11 by omega, ← e2]
      exact ih (by omega)

/-- What a point adds to the accumulator. -/
def term (c : Dev nD) (t : Fin cfg0.N) (z : S512x1024.Idx) : EReal :=
  part 256 (aX m c) (rM m c) (aU m c) (aCW m c) (aCB m c) (aD m c) (rowOf t.val (z 0) (ltN t)) ⟨t.val % 11, by omega⟩ (z 1)

theorem acc_A (c : Dev nD) (t : Fin cfg0.N) (h0 : t.val % 11 = 0) (z : S512x1024.Idx) :
    (outsAt0 m c t.val t.isLt).2.2 z = (0 : EReal) + term m c t z := by
  rw [outsAt0_A m c t h0 (by omega)]; frame_out
  simp (disch := decide) only [↓ View.readCov_skip, ↓ View.readCov_cons_toLoadRect, ↓ View.readCov_fill]
  idx_vars z
  refine (tile_pt m c t (heldV m c t) (heldV_held m c t) (k0_pay3 (F := Ideal)) _ _).trans ?_
  exact congrArg (· + _) (pay3_at z0 z1)

theorem acc_B (c : Dev nD) (t : Fin cfg0.N) (h0 : ¬ t.val % 11 = 0) (z : S512x1024.Idx) :
    (outsAt0 m c t.val t.isLt).2.2 z = (outsAt0 m c (t.val - 1) (by have := t.isLt; omega)).2.2 z + term m c t z := by
  have hN := t.isLt
  have hh : Held 256 (aX m c) (rM m c) (grid0.coords t 0).val (outsAt0 m c (t.val - 1) (by omega)).2.1 := by
    rw [← held_B m c t h0]
    exact held_all m c t.val t.isLt
  by_cases h1 : t.val % 11 = 10
  · rw [outsAt0_C m c t h0 h1]; frame_out
    simp (disch := decide) only [↓ View.readCov_skip, ↓ View.readCov_cons_toLoadRect, ↓ View.readCov_fill, read_unread_whole]
    idx_vars z
    exact tile_pt m c t _ hh _ _ _
  · rw [outsAt0_B m c t h0 h1]; frame_out
    simp (disch := decide) only [↓ View.readCov_skip, ↓ View.readCov_cons_toLoadRect, ↓ View.readCov_fill, read_unread_whole]
    idx_vars z
    exact tile_pt m c t _ hh _ _ _

/-- The accumulator at a row tile's last point. -/
theorem acc_last (c : Dev nD) (t : Fin cfg0.N) (hf : t.val % 11 = 10) (z : S512x1024.Idx) :
    (outsAt0 m c t.val t.isLt).2.2 z = ∑ n, hidden 256 (aX m c) (rM m c) (aU m c) (aCW m c) (aCB m c) (rowOf t.val (z 0) (ltN t)) n * aD m c n (z 1) := by
  have e := Pipeline.eq_sum_fin_of_reset_step_apply_of_flush (fun n h => (outsAt0 m c n h).2.2) 11 (fun _ => (0 : EReal)) (fun t z => term m c t z)
    (fun t h z => acc_A m c t h z) (fun t h z => acc_B m c t h z) t hf z
  refine e.trans ?_
  refine Eq.trans ?_ (sum_part 256 (aX m c) (rM m c) (aU m c) (aCW m c) (aCB m c) (aD m c) (rowOf t.val (z 0) (ltN t)) (z 1))
  rw [zero_add]
  have ht := ltN t
  refine Finset.sum_congr rfl fun s _ => ?_
  have hs := s.isLt
  unfold term
  have e1 : rowOf (11 * (t.val / 11) + s.val) (z 0) (by omega) = rowOf t.val (z 0) ht := by
    apply Fin.ext
    show (11 * (t.val / 11) + s.val) / 11 * 512 + (z 0).val = t.val / 11 * 512 + (z 0).val
    omega
  have e2 : (⟨(11 * (t.val / 11) + s.val) % 11, by omega⟩ : Fin 11) = s := Fin.ext (by dsimp only; omega)
  exact congr_arg₂ (fun r j => part 256 (aX m c) (rM m c) (aU m c) (aCW m c) (aCB m c) (aD m c) r j (z 1)) e1 e2

theorem out_last (c : Dev nD) (t : Fin cfg0.N) (h1 : t.val % 11 = 10) :
    (outsAt0 m c t.val t.isLt).1 = k0_pay1 (F := Ideal) (iblk m c 1 t)
      (View.ld (iblk m c 3 t) (Rect.unit ![0, 5, 0] ![1, 1, 1024] inb_S1x6x1024_S1x1x1024_0_5_0)) (outsAt0 m c t.val t.isLt).2.2
      (iblk m c 11 t) (iblk m c 12 t) := by
  rw [outsAt0_C m c t (by omega) h1]; frame_out
  rfl

/-- The result, by its entries. -/
def result (c : Dev nD) (z : S8192x1024.Idx) : EReal :=
  out 256 (aX m c) (rM m c) (aU m c) (aCW m c) (aCB m c) (aD m c) (aG m c) (aB m c) (z 0) (z 1)

/-- What the last point of a row tile writes back is that row tile of the result. -/
theorem out_at (c : Dev nD) (t : Fin cfg0.N) (h1 : t.val % 11 = 10) (y : Fin 512) (d : Fin 1024) :
    (outsAt0 m c t.val t.isLt).1 (ix2 y d) = result m c (ix2 (rowOf t.val y (ltN t)) d) := by
  rw [out_last m c t h1]
  refine (pay1_at (iblk m c 1 t) _ (outsAt0 m c t.val t.isLt).2.2 (iblk m c 11 t) (iblk m c 12 t) y d).trans ?_
  have key : ∀ f f' g g' b b' : Fin 1024 → EReal, f = f' → g = g' → b = b' → norm f g b d = norm f' g' b' d := by
    rintro _ _ _ _ _ _ rfl rfl rfl
    rfl
  refine key _ (res (aX m c) (rM m c) (hidden 256 (aX m c) (rM m c) (aU m c) (aCW m c) (aCB m c)) (aD m c) (rowOf t.val y (ltN t)))
    _ (aG m c) _ (aB m c) (funext fun k => ?_) (funext fun k => blk11 m c t k) (funext fun k => blk12 m c t k)
  rw [acc_last m c t h1, blk1]
  have e3 : (View.ld (Val := Elt Ideal) (iblk m c 3 t) (Rect.unit ![0, 5, 0] ![1, 1, 1024] inb_S1x6x1024_S1x1x1024_0_5_0) : FVec Ideal S1x1x1024 .f32) (ix3 0 0 k)
      = rM m c (rowOf t.val y (ltN t)) 5 k := by
    pointwise
    rw [blk3]
    rfl
  rw [e3]
  rfl

/-- The output array after the run. -/
theorem final (c : Dev nD) : (dats m 0 c).arrAt 13 (cfgs 0).N = result m c := by
  refine (dats m 0 c).arrAt_eq_of_covers 13 _ (by decide +kernel) fun t hf y => ?_
  blk_simp
  rw [after0_13]
  idx_vars y
  refine (out_at m c t ((flush0_13 t).mp hf) y0 y1).trans ?_
  congr 1
  blk_ext [idx t]
  rfl

/-- A run of the kernel leaves the result in its output array. -/
theorem run : θ_run defs (onTc (τ := τ) (main (F := Ideal))) ⟨m, fun _ => 0, ρ⟩ fun r => ∀ c : Dev nD,
    r.2.mem ((c.tc : Thread nD τ).loc main_v5) = result m c :=
  (θ_run defs _ _).mono (fun r h c => ((h c).1 13).trans (final m c)) (run_main m ρ)

end Cert.PFfnIdeal.Value

end
-- ==== Proof.PFfnAlg.lean ====
module

public import proofs.«01_k».proof.Defs
public import proofs.«01_k».proof.Proof.Gen.PFfnRefIdeal
public import proofs.«01_k».proof.Proof.Gen.PFfnRefIdeal.Run
public import proofs.«01_k».proof.Proof.Gen.PFfnRefIdeal.Read
public import proofs.«01_k».proof.Proof.PFfnVal
public import Idealize.ShloMosaic.Adequacy

@[expose] public section

set_option maxRecDepth 16384

noncomputable section

/-! The claims of the context tokens' feed-forward: the reference's frame, and kernel and reference leave the same result. -/

namespace Cert.PFfnRefIdeal.Value

open Cert.PFfnRefIdeal Cert.PFfnRefIdeal.Gen Cert.PFfnRefIdeal.Read Idealize.ShloMosaic Idealize.ShloMosaic.TcCoe Idealize.SL.Sem
open Cert.FfnSpec

variable (x0 : FVec Ideal S8192x1024 .f32) (x1 : FVec Ideal S8x6x1024 .f32) (x2 : FVec Ideal S1024x5632 .f32) (x3 : FVec Ideal S3x5632 .f32)
  (x4 : FVec Ideal S5632 .f32) (x5 : FVec Ideal S2816x1024 .f32) (x6 x7 : FVec Ideal S1024 .f32)

/-- The arguments by their entries; every row's modulation is the table's first. -/
def entX (r : Fin 8192) (k : Fin 1024) : EReal := x0 (ix2 r k)
def entM (r : Fin 8192) (j : Fin 6) (k : Fin 1024) : EReal := x1 (ix3 0 j k)
def entU (k : Fin 1024) (n : Fin 5632) : EReal := x2 (ix2 k n)
def entW (j : Fin 3) (n : Fin 5632) : EReal := x3 (ix2 j n)
def entC (n : Fin 5632) : EReal := x4 (ix1 n)
def entD (n : Fin 2816) (k : Fin 1024) : EReal := x5 (ix2 n k)
def entG (k : Fin 1024) : EReal := x6 (ix1 k)

/-- The row that a sequence and a place in it give. -/
def row (b : Fin 32) (l : Fin 256) : Fin 8192 := ⟨b.val * 256 + l.val, by omega⟩

/-- The up-projection of all rows. -/
def upV : Fin 8192 → Fin 5632 → EReal := up (entX x0) (entM x1) (entU x2)

/-- The padded up-projection: a zero row, the rows of the sequence, a zero row. -/
theorem v16_at (b : Fin 32) (p : Fin 258) (n : Fin 5632) :
    (val_main_v16 (F := Ideal) x0 x1 x2 : FVec Ideal S32x258x5632 .f32) (ix3 b p n)
      = if h : 1 ≤ p.val ∧ p.val - 1 < 256 then upV x0 x1 x2 (row b ⟨p.val - 1, h.2⟩) n else 0 := by
  pointwise [val_main_v16, val_main_call0_v0, val_main_c, val_main_v15, val_main_v14, val_main_v13, val_main_v12, val_main_v11, val_main_v10, val_main_v9, val_main_v8, val_main_v7, val_main_cst, val_main_v4, val_main_v3, val_main_v2, val_main_v1, val_main_v0]
  by_cases h : 1 ≤ p.val ∧ p.val - 1 < 256
  · rw [dif_pos h, dif_pos h]
    rfl
  · rw [dif_neg h, dif_neg h]
    exact show ((((0#32 : BitVec 32).toInt : ℤ) : ℝ) : EReal) = 0 by simp

/-- The convolution of the up-projection. -/
theorem v39_at (b : Fin 32) (l : Fin 256) (n : Fin 5632) :
    (val_main_v39 (F := Ideal) x0 x1 x2 x3 x4 : FVec Ideal S32x256x5632 .f32) (ix3 b l n)
      = conv 256 (upV x0 x1 x2) (entW x3) (entC x4) (row b l) n := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17]
  have hb := b.isLt
  have hl := l.isLt
  have e0 : (val_main_v16 (F := Ideal) x0 x1 x2 : FVec Ideal S32x258x5632 .f32) (ix3 b ⟨l.val, by omega⟩ n)
      = FfnSpec.before 256 (upV x0 x1 x2) (row b l) n := by
    rw [v16_at]
    unfold FfnSpec.before row
    by_cases h : l.val = 0
    · rw [dif_neg (by dsimp only; omega), dif_pos (by dsimp only; omega)]
    · rw [dif_pos (by dsimp only; omega), dif_neg (by dsimp only; omega)]
      congr 1
      apply Fin.ext
      dsimp only
      omega
  have e1 : (val_main_v16 (F := Ideal) x0 x1 x2 : FVec Ideal S32x258x5632 .f32) (ix3 b ⟨1 + l.val, by omega⟩ n)
      = upV x0 x1 x2 (row b l) n := by
    rw [v16_at, dif_pos (by dsimp only; omega)]
    congr 2
    apply Fin.ext
    dsimp only
    omega
  have e2 : (val_main_v16 (F := Ideal) x0 x1 x2 : FVec Ideal S32x258x5632 .f32) (ix3 b ⟨2 + l.val, by omega⟩ n)
      = FfnSpec.after 256 (upV x0 x1 x2) (row b l) n := by
    rw [v16_at]
    unfold FfnSpec.after row
    by_cases h : l.val = 255
    · rw [dif_neg (by dsimp only; omega), dif_pos (by dsimp only; omega)]
    · rw [dif_pos (by dsimp only; omega), dif_neg (by dsimp only; omega)]
      congr 1
      apply Fin.ext
      dsimp only
      omega
  rw [e0, e1, e2]
  rfl

/-- The residual sum before the norm. -/
theorem v50_at (b : Fin 32) (l : Fin 256) (k : Fin 1024) :
    (val_main_v50 (F := Ideal) x0 x1 x2 x3 x4 x5 : FVec Ideal S32x256x1024 .f32) (ix3 b l k)
      = res (entX x0) (entM x1) (hidden 256 (entX x0) (entM x1) (entU x2) (entW x3) (entC x4)) (entD x5) (row b l) k := by
  pointwise [val_main_v50, val_main_v49, val_main_v48, val_main_v47, val_main_v46, val_main_v45, val_main_v44, val_main_v43, val_main_v42, val_main_v41, val_main_v40, val_main_cst_0, val_main_call1_v5, val_main_call1_v4, val_main_call1_v3, val_main_call1_v2, val_main_call1_v1, val_main_call1_v0, val_main_call1_cst_0, val_main_call1_cst, val_main_v6, val_main_v5, val_main_v0]
  simp only [v39_at]
  rfl

/-- The mean of a row. -/
theorem v54_at (b : Fin 32) (l : Fin 256) (z : Fin 1) :
    (val_main_v54 (F := Ideal) x0 x1 x2 x3 x4 x5 : FVec Ideal S32x256x1 .f32) (ix3 b l z)
      = mean fun k => (val_main_v50 (F := Ideal) x0 x1 x2 x3 x4 x5 : FVec Ideal S32x256x1024 .f32) (ix3 b l k) := by
  pointwise [val_main_v54, val_main_v53, val_main_cst_2, val_main_v52, val_main_v51, val_main_cst_1]
  rfl

/-- The reference's result. -/
theorem v75_at (r : Fin 8192) (k : Fin 1024) :
    (val_main_v75 (F := Ideal) x0 x1 x2 x3 x4 x5 x6 x7 : FVec Ideal S8192x1024 .f32) (ix2 r k)
      = out 256 (entX x0) (entM x1) (entU x2) (entW x3) (entC x4) (entD x5) (entG x6) (entG x7) r k := by
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_cst_5, val_main_cst_4, val_main_cst_3]
  simp only [v54_at, v50_at]
  have e : row ⟨r.val / 256, by omega⟩ ⟨r.val % 256, by omega⟩ = r := Fin.ext (by show r.val / 256 * 256 + r.val % 256 = r.val; omega)
  simp only [e]
  rfl

end Cert.PFfnRefIdeal.Value

namespace Cert.Proof

open Idealize.ShloMosaic Idealize.ShloMosaic.StableHlo Idealize.SL.Sem

/-- The reference of the context tokens' feed-forward leaves its arguments as they were and every counter at zero. -/
theorem frame_pffnRef : Cert.quiescent_PFfnRefIdeal (hPFfnRefIdeal := Cert.PFfnRefIdeal.Gen.facts) := fun m ρ _ =>
  (θ_run _ _ _).mono (fun _ h => ⟨fun c => (h c).2, sem_eq_zero_of_no_sems (by decide) _⟩) (Cert.PFfnRefIdeal.Value.run m ρ)

/-- From equal arguments the feed-forward kernel of the context tokens and its reference end with equal results. -/
theorem algebraic_pffn : Cert.algebraic_PFfnIdeal_PFfnRefIdeal (hPFfnIdeal := Cert.PFfnIdeal.Gen.facts) (hPFfnRefIdeal := Cert.PFfnRefIdeal.Gen.facts) :=
  fun m ρ m' ρ' _ hag => ⟨fun c => Cert.PFfnIdeal.Value.result m c,
    (θ_run _ _ _).mono (fun _ h c => ⟨h.1 c, h.2 c⟩) (θ_run_and (Cert.PFfnIdeal.Value.run m ρ) (Cert.PFfnIdeal.Gen.unchanged m ρ)),
    (θ_run _ _ _).mono (fun _ h c => ⟨(h c).1.trans ((Cert.PFfnRefIdeal.Read.val_main_v75_eq m' c).trans (by
        obtain ⟨e0, e1, e2, e3, e4, e5, e6, e7⟩ := hag c
        rw [e0, e1, e2, e3, e4, e5, e6, e7]
        funext z
        idx_vars z
        exact Cert.PFfnRefIdeal.Value.v75_at _ _ _ _ _ _ _ _ z0 z1)), (h c).2⟩) (Cert.PFfnRefIdeal.Value.run m' ρ')⟩

end Cert.Proof

end
-- ==== Proof.ModVal.lean ====
module

public import proofs.«01_k».proof.Proof.Gen.ModIdeal.Value
public import proofs.«01_k».proof.Proof.MlProjKer
public import Idealize.ShloMosaic.Lib.Pipeline.ValueKit

@[expose] public section

set_option maxRecDepth 16384

noncomputable section

/-! The modulation table of both layers: its entries, and the kernel's output array. -/

namespace Cert.ModSpec

open Idealize.ShloMosaic

/-- `x / (1 + exp (-x))`. -/
def silu (x : EReal) : EReal := x * Ideal.div 1 (1 + Ideal.exp (-x))

/-- An entry of the table: the activated conditioning vector times a column of the layer's weights, and its bias. -/
def table (C : Fin 8 → Fin 1024 → EReal) (W : Fin 2 → Fin 1024 → Fin 6144 → EReal) (B : Fin 2 → Fin 6144 → EReal)
    (i : Fin 2) (s : Fin 8) (n : Fin 6144) : EReal := ∑ k, silu (C s k) * W i k n + B i n

/-- The activation of a real is a real. -/
theorem silu_real (x : EReal) (h : ∃ r : ℝ, x = (r : EReal)) : ∃ r : ℝ, silu x = (r : EReal) := by
  obtain ⟨r, rfl⟩ := h
  refine ⟨r * (1 / (1 + Real.exp (-r))), ?_⟩
  have hp : (1 + Real.exp (-r)) ≠ 0 := by positivity
  have e : (1 : EReal) + Ideal.exp (-(r : EReal)) = ((1 + Real.exp (-r) : ℝ) : EReal) := by
    rw [← EReal.coe_neg, Ideal.exp_coe]
    push_cast
    rfl
  unfold silu
  rw [e, Ideal.div_coe hp, one_mul, ← EReal.coe_mul]

end Cert.ModSpec

namespace Cert.ModIdeal.Value

open Cert.ModIdeal Cert.ModIdeal.Gen Idealize.ShloMosaic Idealize.ShloMosaic.TcCoe Idealize.SL.Sem
open Cert.ModSpec

variable (m : (ℓ : Loc nD τ sig) → Buf (Elt Ideal) ℓ) (ρ : Dev nD → PrngReg)

/-- The arguments by their entries. -/
def aC (c : Dev nD) (s : Fin 8) (k : Fin 1024) : EReal := (m ((c : Thread nD τ).loc main_arg0) : FVec Ideal S8x1024 .f32) (ix2 s k)
def aW (c : Dev nD) (i : Fin 2) (k : Fin 1024) (n : Fin 6144) : EReal := (m ((c : Thread nD τ).loc main_arg1) : FVec Ideal S2x1024x6144 .f32) (ix3 i k n)
def aB (c : Dev nD) (i : Fin 2) (n : Fin 6144) : EReal := (m ((c : Thread nD τ).loc main_arg2) : FVec Ideal S2x6144 .f32) (ix2 i n)

/-- The conditioning vectors and the weights are finite. -/
structure Finite (c : Dev nD) : Prop where
  cond : ∀ s k, ∃ x : ℝ, aC m c s k = (x : EReal)
  weight : ∀ i k n, ∃ x : ℝ, aW m c i k n = (x : EReal)

/-- The windows' block indices at a point. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

theorem lt12 (t : Fin cfg0.N) : t.val < 12 := lt_of_lt_of_eq t.isLt N_0

/-- A point's layer, and a column of its block. -/
def layer (t : ℕ) (h : t < 12) : Fin 2 := ⟨t / 6, by omega⟩
def col (t : ℕ) (p : Fin 1024) : Fin 6144 := ⟨t % 6 * 1024 + p.val, by omega⟩

theorem blk0 (c : Dev nD) (t : Fin cfg0.N) (s : Fin 8) (k : Fin 1024) : (iblk m c 0 t : FVec Ideal S8x1024 .f32) (ix2 s k) = aC m c s k := by
  unfold aC
  blk_point [iblk, V, idx t]

theorem blk1 (c : Dev nD) (t : Fin cfg0.N) (k n : Fin 1024) :
    (iblk m c 1 t : FVec Ideal S1x1024x1024 .f32) (ix3 0 k n) = aW m c (layer t.val (lt12 t)) k (col t.val n) := by
  have ht := lt12 t
  unfold aW layer col
  blk_point [iblk, V, idx t]

theorem blk2 (c : Dev nD) (t : Fin cfg0.N) (n : Fin 1024) :
    (iblk m c 2 t : FVec Ideal S1x1x1024 .f32) (ix3 0 0 n) = aB m c (layer t.val (lt12 t)) (col t.val n) := by
  have ht := lt12 t
  unfold aB layer col
  blk_point [iblk, V, idx t]

/-- What the body stores, at an entry: the product of the split factors, which for finite ones is the plain product. -/
theorem pay1_at (x : FVec Ideal S8x1024 .f32) (w : FVec Ideal S1x1024x1024 .f32) (b : FVec Ideal S1x1x1024 .f32) (s : Fin 8) (n : Fin 1024)
    (hx : ∀ k, ∃ r : ℝ, x (ix2 s k) = (r : EReal)) (hw : ∀ k, ∃ r : ℝ, w (ix3 0 k n) = (r : EReal)) :
    (k0_pay1 x w b : FVec Ideal S1x8x1024 .f32) (ix3 0 s n) = ∑ k, silu (x (ix2 s k)) * w (ix3 0 k n) + b (ix3 0 0 n) := by
  pointwise [k0_pay1]
  refine congrArg (· + b (ix3 0 0 n)) ?_
  simp only [zero_sub]
  exact Cert.MlProjSpec.split_dot (fun k => silu (x (ix2 s k))) (fun k => w (ix3 0 k n)) (fun k => silu_real _ (hx k)) hw

/-- The result, by its entries. -/
def result (c : Dev nD) (z : S2x8x6144.Idx) : EReal := table (aC m c) (aW m c) (aB m c) (z 0) (z 1) (z 2)

/-- The output array after the run. -/
theorem final (c : Dev nD) (hF : Finite m c) : (dats m 0 c).arrAt 3 (cfgs 0).N = result m c := by
  refine (dats m 0 c).arrAt_eq_of_covers 3 _ (by decide +kernel) fun t hf y => ?_
  have ht := lt12 t
  blk_simp
  rw [after0_3]
  frame_out
  idx_vars y
  obtain rfl : y0 = 0 := Subsingleton.elim _ _
  refine (pay1_at (iblk m c 0 t) (iblk m c 1 t) (iblk m c 2 t) y1 y2 (fun k => ?_) (fun k => ?_)).trans ?_
  · rw [blk0]
    exact hF.cond y1 k
  · rw [blk1]
    exact hF.weight _ k _
  simp only [blk0, blk1, blk2]
  show result m c (ix3 (layer t.val ht) y1 (col t.val y2)) = _
  congr 1
  blk_ext [idx t]
  all_goals rfl

/-- A run of the kernel leaves the result in its output array. -/
theorem run (hF : ∀ c, Finite m c) : θ_run defs (onTc (τ := τ) (main (F := Ideal))) ⟨m, fun _ => 0, ρ⟩ fun r => ∀ c : Dev nD,
    r.2.mem ((c.tc : Thread nD τ).loc main_v1) = result m c :=
  (θ_run defs _ _).mono (fun r h c => ((h c).1 3).trans (final m c (hF c))) (run_main m ρ)

end Cert.ModIdeal.Value

end
-- ==== Proof.ModAlg.lean ====
module

public import proofs.«01_k».proof.Defs
public import proofs.«01_k».proof.Proof.Gen.Pre_finite_mod
public import proofs.«01_k».proof.Proof.Gen.ModRefIdeal
public import proofs.«01_k».proof.Proof.Gen.ModRefIdeal.Run
public import proofs.«01_k».proof.Proof.Gen.ModRefIdeal.Read
public import proofs.«01_k».proof.Proof.AttnPre
public import proofs.«01_k».proof.Proof.ModVal
public import Idealize.ShloMosaic.Adequacy

@[expose] public section

set_option maxRecDepth 16384

noncomputable section

/-! The claims of the modulation table: what the reference computes, its frame, and kernel and reference leave the same table. -/

namespace Cert.ModPre

open Idealize.ShloMosaic Cert.Pre_finite_mod

variable [Facts]

/-- Under the precondition the conditioning vectors and the weights are reals. -/
theorem reals (x0 : FVec Ideal S8x1024 .f32) (x1 : FVec Ideal S2x1024x6144 .f32) (x2 : FVec Ideal S2x6144 .f32)
    (h : fn (F := Ideal) x0 x1 x2 = fun _ => 1#1) :
    (∀ z, ∃ r : ℝ, x0 z = (r : EReal)) ∧ ∀ z, ∃ r : ℝ, x1 z = (r : EReal) := by
  have h := congrFun h (fun a => a.elim0)
  dsimp only [fn, andi] at h
  simp only [Cert.AttnPre.andi_one] at h
  exact ⟨Cert.AttnPre.reals_of x0 _ _ _ _ h.1, Cert.AttnPre.reals_of x1 _ _ _ _ h.2⟩

end Cert.ModPre

namespace Cert.ModRefIdeal.Value

open Cert.ModRefIdeal Cert.ModRefIdeal.Gen Cert.ModRefIdeal.Read Idealize.ShloMosaic
open Cert.ModSpec

variable (x0 : FVec Ideal S8x1024 .f32) (x1 : FVec Ideal S2x1024x6144 .f32) (x2 : FVec Ideal S2x6144 .f32)

/-- The reference's table. -/
theorem v20_at (i : Fin 2) (s : Fin 8) (n : Fin 6144) : (val_main_v20 (F := Ideal) x0 x1 x2 : FVec Ideal S2x8x6144 .f32) (ix3 i s n)
    = table (fun s k => x0 (ix2 s k)) (fun i k n => x1 (ix3 i k n)) (fun i n => x2 (ix2 i n)) i s n := by
  fin_cases i
  all_goals
    pointwise [val_main_v20, val_main_v19, val_main_v18, val_main_v17, val_main_v16, val_main_v15, val_main_v14, val_main_v13, val_main_v12, val_main_v11, val_main_v10, val_main_v9, val_main_call1_v5, val_main_call1_v4, val_main_call1_cst_0, val_main_call1_v3, val_main_call1_v2, val_main_call1_cst, val_main_call1_v1, val_main_call1_v0, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
    rfl

end Cert.ModRefIdeal.Value

namespace Cert.Proof

open Idealize.ShloMosaic Idealize.ShloMosaic.StableHlo Idealize.SL.Sem

/-- The table's reference leaves its arguments as they were and every counter at zero. -/
theorem frame_modRef : Cert.quiescent_ModRefIdeal (hModRefIdeal := Cert.ModRefIdeal.Gen.facts) := fun m ρ _ =>
  (θ_run _ _ _).mono (fun _ h => ⟨fun c => (h c).2, sem_eq_zero_of_no_sems (by decide) _⟩) (Cert.ModRefIdeal.Value.run m ρ)

/-- The conditioning vectors and the weights are finite under the precondition. -/
theorem finite_mod_of (m : (ℓ : Loc Cert.ModIdeal.nD Cert.ModIdeal.τ Cert.ModIdeal.sig) → Buf (Elt Ideal) ℓ)
    (h : Cert.Pre_ModIdeal_finite_mod (hPre_finite_mod := Cert.Pre_finite_mod.Gen.facts) m) (c : Dev Cert.ModIdeal.nD) :
    Cert.ModIdeal.Value.Finite m c := by
  obtain ⟨h0, h1⟩ := Cert.ModPre.reals _ _ _ (h c)
  exact ⟨fun s k => h0 (ix2 s k), fun i k n => h1 (ix3 i k n)⟩

/-- From equal arguments, the vectors and weights finite, the table's kernel and its reference end with equal results. -/
theorem algebraic_mod : Cert.algebraic_ModIdeal_ModRefIdeal_pre_finite_mod (hModIdeal := Cert.ModIdeal.Gen.facts)
    (hModRefIdeal := Cert.ModRefIdeal.Gen.facts) (hPre_finite_mod := Cert.Pre_finite_mod.Gen.facts) :=
  fun m ρ m' ρ' hp hag => ⟨fun c => Cert.ModIdeal.Value.result m c,
    (θ_run _ _ _).mono (fun _ h c => ⟨h.1 c, h.2 c⟩) (θ_run_and (Cert.ModIdeal.Value.run m ρ (finite_mod_of m hp)) (Cert.ModIdeal.Gen.unchanged m ρ)),
    (θ_run _ _ _).mono (fun _ h c => ⟨(h c).1.trans ((Cert.ModRefIdeal.Read.val_main_v20_eq _ _ _).trans (by
        obtain ⟨e0, e1, e2⟩ := hag c
        rw [e0, e1, e2]
        funext z
        idx_vars z
        exact Cert.ModRefIdeal.Value.v20_at _ _ _ z0 z1 z2)), (h c).2⟩) (Cert.ModRefIdeal.Value.run m' ρ')⟩

end Cert.Proof

end
-- ==== Proof.lean ====
/- The certificate: the frames and the idealizations of the calls, and what they compute. The values are in
   Proof/Ffn*.lean (the feed-forward), Proof/PFfn*.lean (the same of the context tokens), Proof/Attn*.lean (the
   attention), Proof/Qkv*.lean (its projection), Proof/Out*.lean (its output projection), Proof/MlOut*.lean (the matrix
   memory's output), Proof/MlProj*.lean (its projection) and Proof/Mod*.lean (the modulation table); this module assembles
   them. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnRefIdeal.Run
public import proofs.«01_k».proof.Proof.FfnAlg
public import proofs.«01_k».proof.Proof.AttnAlg
public import proofs.«01_k».proof.Proof.QkvAlg
public import proofs.«01_k».proof.Proof.OutAlg
public import proofs.«01_k».proof.Proof.MlOutAlg
public import proofs.«01_k».proof.Proof.MlProjAlg
public import proofs.«01_k».proof.Proof.PFfnAlg
public import proofs.«01_k».proof.Proof.ModAlg
public import proofs.«01_k».proof.Proof.Gen.QkvIdeal.Value
public import proofs.«01_k».proof.Proof.Gen.OutIdeal.Value
public import proofs.«01_k».proof.Proof.Gen.QkvRefIdeal.Run
public import proofs.«01_k».proof.Proof.Gen.QkvRefIdeal.Read
public import proofs.«01_k».proof.Proof.Gen.OutRefIdeal.Run
public import proofs.«01_k».proof.Proof.Gen.OutRefIdeal.Read
public import proofs.«01_k».proof.Proof.Gen.MlOutRefIdeal.Run
public import proofs.«01_k».proof.Proof.Gen.MlOutRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.MlOut
public import proofs.«01_k».proof.Proof.Gen.MlOut.Skeleton
public import proofs.«01_k».proof.Proof.Gen.MlOut.Launch
public import proofs.«01_k».proof.Proof.Gen.MlOut.Points
public import proofs.«01_k».proof.Proof.Gen.MlOut.Frame
public import proofs.«01_k».proof.Proof.Gen.MlOutIdeal
public import proofs.«01_k».proof.Proof.Gen.MlOutIdeal.Skeleton
public import proofs.«01_k».proof.Proof.Gen.MlOutIdeal.Launch
public import proofs.«01_k».proof.Proof.Gen.MlOutIdeal.Points
public import proofs.«01_k».proof.Proof.Gen.MlOutIdeal.Frame
public import proofs.«01_k».proof.Proof.Gen.MlOutRefIdeal
public import proofs.«01_k».proof.Proof.Gen.MlProj
public import proofs.«01_k».proof.Proof.Gen.MlProj.Skeleton
public import proofs.«01_k».proof.Proof.Gen.MlProj.Launch
public import proofs.«01_k».proof.Proof.Gen.MlProj.Points
public import proofs.«01_k».proof.Proof.Gen.MlProj.Frame
public import proofs.«01_k».proof.Proof.Gen.MlProjIdeal
public import proofs.«01_k».proof.Proof.Gen.MlProjIdeal.Skeleton
public import proofs.«01_k».proof.Proof.Gen.MlProjIdeal.Launch
public import proofs.«01_k».proof.Proof.Gen.MlProjIdeal.Points
public import proofs.«01_k».proof.Proof.Gen.MlProjIdeal.Frame
public import proofs.«01_k».proof.Proof.Gen.MlProjRefIdeal
public import proofs.«01_k».proof.Proof.Gen.MlProjRefIdeal.Run
public import proofs.«01_k».proof.Proof.Gen.MlProjRefIdeal.Read
public import proofs.«01_k».proof.Proof.Gen.Pre_finite_proj
public import proofs.«01_k».proof.Proof.Gen.PFfn
public import proofs.«01_k».proof.Proof.Gen.PFfn.Skeleton
public import proofs.«01_k».proof.Proof.Gen.PFfn.Launch
public import proofs.«01_k».proof.Proof.Gen.PFfn.Points
public import proofs.«01_k».proof.Proof.Gen.PFfn.Frame
public import proofs.«01_k».proof.Proof.Gen.PFfnIdeal
public import proofs.«01_k».proof.Proof.Gen.PFfnIdeal.Skeleton
public import proofs.«01_k».proof.Proof.Gen.PFfnIdeal.Launch
public import proofs.«01_k».proof.Proof.Gen.PFfnIdeal.Points
public import proofs.«01_k».proof.Proof.Gen.PFfnIdeal.Frame
public import proofs.«01_k».proof.Proof.Gen.PFfnRefIdeal
public import proofs.«01_k».proof.Proof.Gen.PFfnRefIdeal.Run
public import proofs.«01_k».proof.Proof.Gen.PFfnRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.Pre_finite_mod
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts,
  Cert.Qkv.Gen.facts, Cert.QkvIdeal.Gen.facts, Cert.QkvRefIdeal.Gen.facts, Cert.Out.Gen.facts, Cert.OutIdeal.Gen.facts, Cert.OutRefIdeal.Gen.facts,
  Cert.MlOut.Gen.facts, Cert.MlOutIdeal.Gen.facts, Cert.MlOutRefIdeal.Gen.facts, Cert.MlProj.Gen.facts, Cert.MlProjIdeal.Gen.facts, Cert.MlProjRefIdeal.Gen.facts,
  Cert.PFfn.Gen.facts, Cert.PFfnIdeal.Gen.facts, Cert.PFfnRefIdeal.Gen.facts, Cert.Mod.Gen.facts, Cert.ModIdeal.Gen.facts, Cert.ModRefIdeal.Gen.facts,
  Cert.Pre_finite.Gen.facts, Cert.Pre_finite_proj.Gen.facts, Cert.Pre_finite_mod.Gen.facts,
  fun m ρ _ => Cert.Kernel.Gen.frame m ρ, fun m ρ _ => Cert.KernelIdeal.Gen.frame m ρ, fun m ρ _ => Cert.KernelIdeal.Gen.frame m ρ, frame_ref, fun m ρ _ => frame_ref m ρ trivial,
  fun m ρ _ => Cert.Ffn.Gen.frame m ρ, fun m ρ _ => Cert.FfnIdeal.Gen.frame m ρ, frame_ffnRef,
  fun m ρ _ => Cert.Qkv.Gen.frame m ρ, fun m ρ _ => Cert.QkvIdeal.Gen.frame m ρ, frame_qkvRef,
  fun m ρ _ => Cert.Out.Gen.frame m ρ, fun m ρ _ => Cert.OutIdeal.Gen.frame m ρ, frame_outRef,
  fun m ρ _ => Cert.MlOut.Gen.frame m ρ, fun m ρ _ => Cert.MlOutIdeal.Gen.frame m ρ, frame_mloutRef,
  fun m ρ _ => Cert.MlProj.Gen.frame m ρ, fun m ρ _ => Cert.MlProjIdeal.Gen.frame m ρ, fun m ρ _ => Cert.MlProjIdeal.Gen.frame m ρ, frame_mlprojRef,
  fun m ρ _ => frame_mlprojRef m ρ trivial,
  fun m ρ _ => Cert.PFfn.Gen.frame m ρ, fun m ρ _ => Cert.PFfnIdeal.Gen.frame m ρ, frame_pffnRef,
  fun m ρ _ => Cert.Mod.Gen.frame m ρ, fun m ρ _ => Cert.ModIdeal.Gen.frame m ρ, fun m ρ _ => Cert.ModIdeal.Gen.frame m ρ, frame_modRef,
  fun m ρ _ => frame_modRef m ρ trivial,
  IdealRules.named_const.statement Cert.KernelIdeal.κ "neg_inf" .f32 0xF149F2CA#32 ⊥ rfl, algebraic_attn, trivial, algebraic_ffn,
  trivial, algebraic_qkv, trivial, algebraic_out, trivial, algebraic_mlout, trivial, algebraic_mlproj,
  trivial, algebraic_pffn, trivial, algebraic_mod⟩

end Cert.Proof

end
